-- ==== Defs.lean ====
def Pre_Kernel [hPre_fits : Cert.Pre_fits.Facts] (m : (ℓ : Loc Cert.Kernel.nD Cert.Kernel.τ Cert.Kernel.sig) → Buf (Elt Bits) ℓ) : Prop :=
  ∀ c : Dev Cert.Kernel.nD,
    (Cert.Pre_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_Kernel_none (m : (ℓ : Loc Cert.Kernel.nD Cert.Kernel.τ Cert.Kernel.sig) → Buf (Elt Bits) ℓ) : Prop :=
  True

def Pre_KernelIdeal [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_fits [hPre_fits : Cert.Pre_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_fits : Cert.Pre_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_none [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel_none m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits [hReferenceIdeal : Cert.ReferenceIdeal.Facts] [hPre_fits : Cert.Pre_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v18_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_values) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits : Cert.Pre_fits.Facts),
    quiescent_Kernel (hKernel := hKernel) (hPre_fits := hPre_fits)
    ∧ quiescent_Kernel_pre_none (hKernel := hKernel)
    ∧ quiescent_KernelIdeal (hKernelIdeal := hKernelIdeal) (hPre_fits := hPre_fits)
    ∧ quiescent_KernelIdeal_pre_none (hKernelIdeal := hKernelIdeal)
    ∧ quiescent_ReferenceIdeal (hReferenceIdeal := hReferenceIdeal)
    ∧ quiescent_ReferenceIdeal_pre_fits (hReferenceIdeal := hReferenceIdeal) (hPre_fits := hPre_fits)
    ∧ preserves_Kernel_KernelIdeal
    ∧ algebraic_KernelIdeal_ReferenceIdeal (hKernelIdeal := hKernelIdeal) (hReferenceIdeal := hReferenceIdeal) (hPre_fits := hPre_fits)
-- ==== Pre_fits.lean ====
abbrev S16x20000x91 : Shape := ⟨3, ![16, 20000, 91]⟩
abbrev S16x20000x4 : Shape := ⟨3, ![16, 20000, 4]⟩
abbrev S16x2 : Shape := ⟨2, ![16, 2]⟩
abbrev S16x128 : Shape := ⟨2, ![16, 128]⟩
abbrev S16x1 : Shape := ⟨2, ![16, 1]⟩
abbrev S16 : Shape := ⟨1, ![16]⟩
abbrev S16x1x1 : Shape := ⟨3, ![16, 1, 1]⟩
abbrev S32x910000 : Shape := ⟨2, ![32, 910000]⟩
abbrev S910000x32 : Shape := ⟨2, ![910000, 32]⟩
abbrev S_ : Shape := ⟨0, ![]⟩
abbrev S32 : Shape := ⟨1, ![32]⟩
abbrev S16x16 : Shape := ⟨2, ![16, 16]⟩

class Facts : Prop where
  slices_S16x128_S16x1_0_0 : S16x128.Slices ![0, 0] S16x1
  shapeCasts_S16x1_S16 : S16x1.ShapeCasts S16
  bcast_S16_S16x1x1_0 : S16.BroadcastsInDim S16x1x1 (![0] : Fin 1 → Fin S16x1x1.rank)
  bcast_S16x1x1_S16x20000x91_0_1_2 : S16x1x1.BroadcastsInDim S16x20000x91 (![0, 1, 2] : Fin 3 → Fin S16x20000x91.rank)
  shapeCasts_S16x20000x91_S32x910000 : S16x20000x91.ShapeCasts S32x910000
  transposes_S32x910000_S910000x32_1_0 : S32x910000.Transposes [1, 0] S910000x32
  natLt_1_32 : 1 < 32
  reducesTo_S910000x32_S32_d0 : S910000x32.ReducesTo [0] S32
  h_S_ : 0 < S_.numel
  shapeCasts_S32_S16x2 : S32.ShapeCasts S16x2
  slices_S16x2_S16x1_0_0 : S16x2.Slices ![0, 0] S16x1
  bcast_S_S16 : S_.BroadcastsInDim S16 (![] : Fin 0 → Fin S16.rank)
  slices_S16x2_S16x1_0_1 : S16x2.Slices ![0, 1] S16x1
  slices_S16x128_S16x16_0_0 : S16x128.Slices ![0, 0] S16x16
  bcast_S16x1_S16x16_0_1 : S16x1.BroadcastsInDim S16x16 (![0, 1] : Fin 2 → Fin S16x16.rank)
  bcast_S16_S16x1_0 : S16.BroadcastsInDim S16x1 (![0] : Fin 1 → Fin S16x1.rank)

variable [Facts]

def fn_part1 {F : FTy → Type} [FloatOps F] (main_arg3 : FVec F S16x128 .f32) (main_v9 : IVec S16x2 32) (main_v18 : IVec S16 1) (main_v20 : IVec S16 32) : IVec S16x16 1 :=
  let main_v21 : IVec S16x1 32 := (extractStridedSlice S16x1 ![0, 1] · slices_S16x2_S16x1_0_1) main_v9
  let main_v22 : IVec S16 32 := shapeCast S16 main_v21 shapeCasts_S16x1_S16
  let main_v23 : IVec S16 32 := addi main_v20 main_v22
  let main_c_2 : IVec S_ 32 := constantI S_ 32 300#32
  let main_v24 : IVec S16 32 := broadcastInDim S16 ![] bcast_S_S16 main_c_2
  let main_v25 : IVec S16 1 := cmpi .sge main_v23 main_v24
  let main_v26 : IVec S16 1 := andi main_v18 main_v25
  let main_v27 : FVec F S16x16 .f32 := (extractStridedSlice S16x16 ![0, 0] · slices_S16x128_S16x16_0_0) main_arg3
  let main_v28 : FVec F S16x1 .f32 := (extractStridedSlice S16x1 ![0, 0] · slices_S16x128_S16x1_0_0) main_arg3
  let main_v29 : FVec F S16x16 .f32 := broadcastInDim S16x16 ![0, 1] bcast_S16x1_S16x16_0_1 main_v28
  let main_v30 : IVec S16x16 1 := cmpf .oeq main_v27 main_v29
  let main_v31 : IVec S16x1 1 := broadcastInDim S16x1 ![0] bcast_S16_S16x1_0 main_v26
  let main_v32 : IVec S16x16 1 := broadcastInDim S16x16 ![0, 1] bcast_S16x1_S16x16_0_1 main_v31
  let main_v33 : IVec S16x16 1 := andi main_v30 main_v32
  main_v33

def fn {F : FTy → Type} [FloatOps F] (main_arg0 : FVec F S16x20000x91 .f32) (main_arg1 : FVec F S16x20000x4 .f32) (main_arg2 : IVec S16x2 32) (main_arg3 : FVec F S16x128 .f32) : IVec S16x16 1 :=
  let main_v0 : FVec F S16x1 .f32 := (extractStridedSlice S16x1 ![0, 0] · slices_S16x128_S16x1_0_0) main_arg3
  let main_v1 : FVec F S16 .f32 := shapeCast S16 main_v0 shapeCasts_S16x1_S16
  let main_v2 : FVec F S16x1x1 .f32 := broadcastInDim S16x1x1 ![0] bcast_S16_S16x1x1_0 main_v1
  let main_v3 : FVec F S16x20000x91 .f32 := broadcastInDim S16x20000x91 ![0, 1, 2] bcast_S16x1x1_S16x20000x91_0_1_2 main_v2
  let main_v4 : IVec S16x20000x91 1 := cmpf .oge main_arg0 main_v3
  let main_v5 : IVec S32x910000 1 := shapeCast S32x910000 main_v4 shapeCasts_S16x20000x91_S32x910000
  let main_v6 : IVec S910000x32 1 := (transpose S910000x32 [1, 0] · transposes_S32x910000_S910000x32_1_0) main_v5
  let main_v7 : IVec S910000x32 32 := (extui 32 · natLt_1_32) main_v6
  let main_c : IVec S_ 32 := constantI S_ 32 0#32
  let main_v8 : IVec S32 32 := (fun x v => Host.reduce IntOp.addi x v reducesTo_S910000x32_S32_d0 h_S_) main_v7 main_c
  let main_v9 : IVec S16x2 32 := shapeCast S16x2 main_v8 shapeCasts_S32_S16x2
  let main_v10 : IVec S16x1 32 := (extractStridedSlice S16x1 ![0, 0] · slices_S16x2_S16x1_0_0) main_v9
  let main_v11 : IVec S16 32 := shapeCast S16 main_v10 shapeCasts_S16x1_S16
  let main_c_0 : IVec S_ 32 := constantI S_ 32 256#32
  let main_v12 : IVec S16 32 := broadcastInDim S16 ![] bcast_S_S16 main_c_0
  let main_v13 : IVec S16 1 := cmpi .sle main_v11 main_v12
  let main_v14 : IVec S16x1 32 := (extractStridedSlice S16x1 ![0, 1] · slices_S16x2_S16x1_0_1) main_v9
  let main_v15 : IVec S16 32 := shapeCast S16 main_v14 shapeCasts_S16x1_S16
  let main_c_1 : IVec S_ 32 := constantI S_ 32 256#32
  let main_v16 : IVec S16 32 := broadcastInDim S16 ![] bcast_S_S16 main_c_1
  let main_v17 : IVec S16 1 := cmpi .sle main_v15 main_v16
  let main_v18 : IVec S16 1 := andi main_v13 main_v17
  let main_v19 : IVec S16x1 32 := (extractStridedSlice S16x1 ![0, 0] · slices_S16x2_S16x1_0_0) main_v9
  let main_v20 : IVec S16 32 := shapeCast S16 main_v19 shapeCasts_S16x1_S16
  fn_part1 (F := F) main_arg3 main_v9 main_v18 main_v20
-- ==== Kernel.lean ====
abbrev S16x20000x91 : Shape := ⟨3, ![16, 20000, 91]⟩
abbrev S16x20000x4 : Shape := ⟨3, ![16, 20000, 4]⟩
abbrev S16x2 : Shape := ⟨2, ![16, 2]⟩
abbrev S16x128 : Shape := ⟨2, ![16, 128]⟩
abbrev S160x1x2000 : Shape := ⟨3, ![160, 1, 2000]⟩
abbrev S160x2000x128 : Shape := ⟨3, ![160, 2000, 128]⟩
abbrev S1x2000x91 : Shape := ⟨3, ![1, 2000, 91]⟩
abbrev S1x1x2000 : Shape := ⟨3, ![1, 1, 2000]⟩
abbrev S1x2000x128 : Shape := ⟨3, ![1, 2000, 128]⟩
abbrev S1x2000 : Shape := ⟨2, ![1, 2000]⟩
abbrev S1x2000x37 : Shape := ⟨3, ![1, 2000, 37]⟩
abbrev S320000x128 : Shape := ⟨2, ![320000, 128]⟩
abbrev S1280000 : Shape := ⟨1, ![1280000]⟩
abbrev S320000 : Shape := ⟨1, ![320000]⟩
abbrev S2048 : Shape := ⟨1, ![2048]⟩
abbrev S8192 : Shape := ⟨1, ![8192]⟩
abbrev S32768 : Shape := ⟨1, ![32768]⟩
abbrev S16 : Shape := ⟨1, ![16]⟩
abbrev S10000 : Shape := ⟨1, ![10000]⟩
abbrev S272 : Shape := ⟨1, ![272]⟩
abbrev S256 : Shape := ⟨1, ![256]⟩
abbrev S256x128 : Shape := ⟨2, ![256, 128]⟩
abbrev S_ : Shape := ⟨0, ![]⟩
abbrev S1x16 : Shape := ⟨2, ![1, 16]⟩
abbrev S4x16x512 : Shape := ⟨3, ![4, 16, 512]⟩
abbrev S16x512 : Shape := ⟨2, ![16, 512]⟩
abbrev S1x16x512 : Shape := ⟨3, ![1, 16, 512]⟩
abbrev S16x300 : Shape := ⟨2, ![16, 300]⟩
abbrev S16x128x1 : Shape := ⟨3, ![16, 128, 1]⟩
abbrev S16x1x512 : Shape := ⟨3, ![16, 1, 512]⟩
abbrev S16x128x512 : Shape := ⟨3, ![16, 128, 512]⟩
abbrev S16x1 : Shape := ⟨2, ![16, 1]⟩
abbrev S16x100x512 : Shape := ⟨3, ![16, 100, 512]⟩
abbrev S16x100 : Shape := ⟨2, ![16, 100]⟩
abbrev S16x300x1 : Shape := ⟨3, ![16, 300, 1]⟩
abbrev S16x300x4 : Shape := ⟨3, ![16, 300, 4]⟩

abbrev nBuf : Table → Nat
  | .hbm => 36
  | .local .tc .vmem => 19
  | .local .scVector .vmem => 10
  | _ => 0

abbrev bufTy : (tb : Table) → Fin (nBuf tb) → BufTy
  | .hbm, ⟨0, _⟩ => ⟨S16x20000x91, .f32⟩
  | .hbm, ⟨1, _⟩ => ⟨S16x20000x4, .f32⟩
  | .hbm, ⟨2, _⟩ => ⟨S16x2, .i32⟩
  | .hbm, ⟨3, _⟩ => ⟨S16x128, .f32⟩
  | .hbm, ⟨4, _⟩ => ⟨S160x1x2000, .f32⟩
  | .hbm, ⟨5, _⟩ => ⟨S160x2000x128, .f32⟩
  | .hbm, ⟨6, _⟩ => ⟨S320000x128, .f32⟩
  | .hbm, ⟨7, _⟩ => ⟨S1280000, .f32⟩
  | .hbm, ⟨8, _⟩ => ⟨S320000, .f32⟩
  | .hbm, ⟨9, _⟩ => ⟨S2048, .f32⟩
  | .hbm, ⟨10, _⟩ => ⟨S8192, .f32⟩
  | .hbm, ⟨11, _⟩ => ⟨S8192, .i32⟩
  | .hbm, ⟨12, _⟩ => ⟨S32768, .f32⟩
  | .hbm, ⟨13, _⟩ => ⟨S16x2, .f32⟩
  | .hbm, ⟨14, _⟩ => ⟨S4x16x512, .f32⟩
  | .hbm, ⟨15, _⟩ => ⟨S16x512, .f32⟩
  | .hbm, ⟨16, _⟩ => ⟨S16x512, .i32⟩
  | .hbm, ⟨17, _⟩ => ⟨S1x16x512, .f32⟩
  | .hbm, ⟨18, _⟩ => ⟨S16x512, .f32⟩
  | .hbm, ⟨19, _⟩ => ⟨S1x16x512, .f32⟩
  | .hbm, ⟨20, _⟩ => ⟨S16x512, .f32⟩
  | .hbm, ⟨21, _⟩ => ⟨S1x16x512, .f32⟩
  | .hbm, ⟨22, _⟩ => ⟨S16x512, .f32⟩
  | .hbm, ⟨23, _⟩ => ⟨S1x16x512, .f32⟩
  | .hbm, ⟨24, _⟩ => ⟨S16x512, .f32⟩
  | .hbm, ⟨25, _⟩ => ⟨S16x300, .i32⟩
  | .hbm, ⟨26, _⟩ => ⟨S16x300, .f32⟩
  | .hbm, ⟨27, _⟩ => ⟨S16x300, .f32⟩
  | .hbm, ⟨28, _⟩ => ⟨S16x300, .f32⟩
  | .hbm, ⟨29, _⟩ => ⟨S16x300, .f32⟩
  | .hbm, ⟨30, _⟩ => ⟨S16x300, .f32⟩
  | .hbm, ⟨31, _⟩ => ⟨S16x300x1, .f32⟩
  | .hbm, ⟨32, _⟩ => ⟨S16x300x1, .f32⟩
  | .hbm, ⟨33, _⟩ => ⟨S16x300x1, .f32⟩
  | .hbm, ⟨34, _⟩ => ⟨S16x300x1, .f32⟩
  | .hbm, ⟨35, _⟩ => ⟨S16x300x4, .f32⟩
  | .local .tc .vmem, ⟨0, _⟩ => ⟨S1x2000x91, .f32⟩
  | .local .tc .vmem, ⟨1, _⟩ => ⟨S1x2000x91, .f32⟩
  | .local .tc .vmem, ⟨2, _⟩ => ⟨S1x1x2000, .f32⟩
  | .local .tc .vmem, ⟨3, _⟩ => ⟨S1x1x2000, .f32⟩
  | .local .tc .vmem, ⟨4, _⟩ => ⟨S1x2000x128, .f32⟩
  | .local .tc .vmem, ⟨5, _⟩ => ⟨S1x2000x128, .f32⟩
  | .local .tc .vmem, ⟨6, _⟩ => ⟨S16x512, .f32⟩
  | .local .tc .vmem, ⟨7, _⟩ => ⟨S16x512, .i32⟩
  | .local .tc .vmem, ⟨8, _⟩ => ⟨S16x512, .f32⟩
  | .local .tc .vmem, ⟨9, _⟩ => ⟨S16x512, .f32⟩
  | .local .tc .vmem, ⟨10, _⟩ => ⟨S16x512, .f32⟩
  | .local .tc .vmem, ⟨11, _⟩ => ⟨S16x512, .f32⟩
  | .local .tc .vmem, ⟨12, _⟩ => ⟨S16x2, .f32⟩
  | .local .tc .vmem, ⟨13, _⟩ => ⟨S16x300, .i32⟩
  | .local .tc .vmem, ⟨14, _⟩ => ⟨S16x300, .f32⟩
  | .local .tc .vmem, ⟨15, _⟩ => ⟨S16x300, .f32⟩
  | .local .tc .vmem, ⟨16, _⟩ => ⟨S16x300, .f32⟩
  | .local .tc .vmem, ⟨17, _⟩ => ⟨S16x300, .f32⟩
  | .local .tc .vmem, ⟨18, _⟩ => ⟨S16x300, .f32⟩
  | .local .scVector .vmem, ⟨0, _⟩ => ⟨S16, .f32⟩
  | .local .scVector .vmem, ⟨1, _⟩ => ⟨S10000, .f32⟩
  | .local .scVector .vmem, ⟨2, _⟩ => ⟨S272, .i32⟩
  | .local .scVector .vmem, ⟨3, _⟩ => ⟨S256, .i32⟩
  | .local .scVector .vmem, ⟨4, _⟩ => ⟨S256x128, .f32⟩
  | .local .scVector .vmem, ⟨5, _⟩ => ⟨S272, .f32⟩
  | .local .scVector .vmem, ⟨6, _⟩ => ⟨S272, .i32⟩
  | .local .scVector .vmem, ⟨7, _⟩ => ⟨S256, .i32⟩
  | .local .scVector .vmem, ⟨8, _⟩ => ⟨S256, .i32⟩
  | .local .scVector .vmem, ⟨9, _⟩ => ⟨S256, .f32⟩
  | _, _ => ⟨S16x20000x91, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTables nBuf rfl bufTy 4 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v1_scv : Ref sig .scVector := ⟨.hbm, 6, rfl⟩
abbrev main_v2_scv : Ref sig .scVector := ⟨.hbm, 7, rfl⟩
abbrev main_v3_scv : Ref sig .scVector := ⟨.hbm, 8, rfl⟩
abbrev main_v4_scv : Ref sig .scVector := ⟨.hbm, 9, rfl⟩
abbrev main_v5_0_scv : Ref sig .scVector := ⟨.hbm, 10, rfl⟩
abbrev main_v5_1_scv : Ref sig .scVector := ⟨.hbm, 11, rfl⟩
abbrev main_v5_2_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg6_0 : Ref sig .tc := ⟨.vmem, 12, rfl⟩
abbrev cc2_stg7_0 : Ref sig .tc := ⟨.vmem, 13, rfl⟩
abbrev cc2_stg8_0 : Ref sig .tc := ⟨.vmem, 14, rfl⟩
abbrev cc2_stg9_0 : Ref sig .tc := ⟨.vmem, 15, rfl⟩
abbrev cc2_stg10_0 : Ref sig .tc := ⟨.vmem, 16, rfl⟩
abbrev cc2_stg11_0 : Ref sig .tc := ⟨.vmem, 17, rfl⟩
abbrev cc2_stg12_0 : Ref sig .tc := ⟨.vmem, 18, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27
abbrev cc2_sem12_0 : DmaSem sig := 28
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![16, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x2000x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c128_i32 : BitVec 32 := 128#32
  let v33 : BitVec 32 := Scalar.muli v18 c128_i32
  ![v33.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c20000_i32 : BitVec 32 := 20000#32
  let v35 : BitVec 32 := Scalar.muli v18 c20000_i32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c10000_i32 : BitVec 32 := 10000#32
  let v36 : BitVec 32 := Scalar.muli v28 c10000_i32
  let v37 : BitVec 32 := Scalar.addi v35 v36
  ![v37.toNat]
@[reducible] def k1_t1_loop : Scf.Loop 32 :=
  let c0_i32_13 : BitVec 32 := 0#32
  let c17_i32 : BitVec 32 := 17#32
  let v38 : BitVec 32 := Scalar.addi c0_i32_13 c17_i32
  let c1_i32_14 : BitVec 32 := 1#32
  ⟨c0_i32_13, v38, c1_i32_14⟩
def k1_off3 (k1_t1 : Fin k1_t1_loop.trips) : Fin 1 → Nat :=
  let c0_i32_13 : BitVec 32 := 0#32
  let c1_i32_14 : BitVec 32 := 1#32
  let arg21 : BitVec 32 := Scf.iv c0_i32_13 c1_i32_14 k1_t1
  let c16_i32_74 : BitVec 32 := 16#32
  let v91 : BitVec 32 := Scalar.muli arg21 c16_i32_74
  let v92 : Index := Scalar.indexCast v91
  ![v92.toNat]
@[reducible] def k1_t2_loop : Scf.Loop 32 :=
  let c0_i32_17 : BitVec 32 := 0#32
  let c625_i32 : BitVec 32 := 625#32
  let v40 : BitVec 32 := Scalar.addi c0_i32_17 c625_i32
  let c1_i32_18 : BitVec 32 := 1#32
  ⟨c0_i32_17, v40, c1_i32_18⟩
def k1_off4 (k1_t2 : Fin k1_t2_loop.trips) : Fin 1 → Nat :=
  let c0_i32_17 : BitVec 32 := 0#32
  let c1_i32_18 : BitVec 32 := 1#32
  let arg21 : BitVec 32 := Scf.iv c0_i32_17 c1_i32_18 k1_t2
  let c16_i32_67 : BitVec 32 := 16#32
  let v70 : BitVec 32 := Scalar.muli arg21 c16_i32_67
  let v71 : Index := Scalar.indexCast v70
  ![v71.toNat]

def k1_chk1 (v87 : IVec S16 32) : Prop :=
  (∀ a x, ((![v87] : Fin 1 → IVec S16 32) a x).toNat < S272.size a)
theorem k1_idx1_inb : ∀ (v87 : IVec S16 32) (k1_hw1 : k1_chk1 v87), ∀ a x, ((![v87] : Fin 1 → IVec S16 32) a x).toNat < S272.size a := fun v87 k1_hw1 => k1_hw1
@[reducible] def k1_t3_loop : Scf.Loop 32 :=
  let c0_i32_21 : BitVec 32 := 0#32
  let c16_i32 : BitVec 32 := 16#32
  let v42 : BitVec 32 := Scalar.addi c0_i32_21 c16_i32
  let c1_i32_22 : BitVec 32 := 1#32
  ⟨c0_i32_21, v42, c1_i32_22⟩
def k1_off5 (k1_t3 : Fin k1_t3_loop.trips) : Fin 1 → Nat :=
  let c0_i32_21 : BitVec 32 := 0#32
  let c1_i32_22 : BitVec 32 := 1#32
  let arg21 : BitVec 32 := Scf.iv c0_i32_21 c1_i32_22 k1_t3
  let c16_i32_67 : BitVec 32 := 16#32
  let v70 : BitVec 32 := Scalar.muli arg21 c16_i32_67
  let v71 : Index := Scalar.indexCast v70
  ![v71.toNat]
def k1_off6 (k1_t3 : Fin k1_t3_loop.trips) : Fin 1 → Nat :=
  let c0_i32_21 : BitVec 32 := 0#32
  let c1_i32_22 : BitVec 32 := 1#32
  let arg21 : BitVec 32 := Scf.iv c0_i32_21 c1_i32_22 k1_t3
  let c16_i32_69 : BitVec 32 := 16#32
  let v76 : BitVec 32 := Scalar.muli arg21 c16_i32_69
  let v77 : Index := Scalar.indexCast v76
  ![v77.toNat]
@[reducible] def k1_t4_loop : Scf.Loop 32 :=
  let c0_i32_29 : BitVec 32 := 0#32
  let c256_i32_30 : BitVec 32 := 256#32
  let v46 : BitVec 32 := Scalar.addi c0_i32_29 c256_i32_30
  let c1_i32_31 : BitVec 32 := 1#32
  ⟨c0_i32_29, v46, c1_i32_31⟩

def k1_chk2 (v70 : IVec S16 32) : Prop :=
  (∀ a x, ((![v70] : Fin 1 → IVec S16 32) a x).toNat < S272.size a)
theorem k1_idx2_inb : ∀ (v70 : IVec S16 32) (k1_hw2 : k1_chk2 v70), ∀ a x, ((![v70] : Fin 1 → IVec S16 32) a x).toNat < S272.size a := fun v70 k1_hw2 => k1_hw2
def k1_off7 (k1_t4 : Fin k1_t4_loop.trips) : Fin 2 → Nat :=
  let c0_i32_29 : BitVec 32 := 0#32
  let c1_i32_31 : BitVec 32 := 1#32
  let arg21 : BitVec 32 := Scf.iv c0_i32_29 c1_i32_31 k1_t4
  let v74 : Index := Scalar.indexCast arg21
  let c0_67 : Index := 0#32
  ![v74.toNat, 0]

def k1_chk3 (v86 : IVec S16 32) : Prop :=
  (∀ a x, ((![v86] : Fin 1 → IVec S16 32) a x).toNat < S272.size a) ∧
  (∀ a x, ((![v86] : Fin 1 → IVec S16 32) a x).toNat < S272.size a)
theorem k1_idx3_inb : ∀ (v86 : IVec S16 32) (k1_hw3 : k1_chk3 v86), ∀ a x, ((![v86] : Fin 1 → IVec S16 32) a x).toNat < S272.size a := fun v86 k1_hw3 => k1_hw3.1
theorem k1_idx4_inb : ∀ (v86 : IVec S16 32) (k1_hw3 : k1_chk3 v86), ∀ a x, ((![v86] : Fin 1 → IVec S16 32) a x).toNat < S272.size a := fun v86 k1_hw3 => k1_hw3.2
def k1_off8 (k1_t4 : Fin k1_t4_loop.trips) : Fin 2 → Nat :=
  let c0_i32_29 : BitVec 32 := 0#32
  let c1_i32_31 : BitVec 32 := 1#32
  let arg21 : BitVec 32 := Scf.iv c0_i32_29 c1_i32_31 k1_t4
  let v100 : Index := Scalar.indexCast arg21
  let c16 : Index := 16#32
  ![v100.toNat, 16]

def k1_chk4 (v112 : IVec S16 32) : Prop :=
  (∀ a x, ((![v112] : Fin 1 → IVec S16 32) a x).toNat < S272.size a) ∧
  (∀ a x, ((![v112] : Fin 1 → IVec S16 32) a x).toNat < S272.size a)
theorem k1_idx5_inb : ∀ (v112 : IVec S16 32) (k1_hw4 : k1_chk4 v112), ∀ a x, ((![v112] : Fin 1 → IVec S16 32) a x).toNat < S272.size a := fun v112 k1_hw4 => k1_hw4.1
theorem k1_idx6_inb : ∀ (v112 : IVec S16 32) (k1_hw4 : k1_chk4 v112), ∀ a x, ((![v112] : Fin 1 → IVec S16 32) a x).toNat < S272.size a := fun v112 k1_hw4 => k1_hw4.2
def k1_off9 (k1_t4 : Fin k1_t4_loop.trips) : Fin 2 → Nat :=
  let c0_i32_29 : BitVec 32 := 0#32
  let c1_i32_31 : BitVec 32 := 1#32
  let arg21 : BitVec 32 := Scf.iv c0_i32_29 c1_i32_31 k1_t4
  let v126 : Index := Scalar.indexCast arg21
  let c32 : Index := 32#32
  ![v126.toNat, 32]

def k1_chk5 (v138 : IVec S16 32) : Prop :=
  (∀ a x, ((![v138] : Fin 1 → IVec S16 32) a x).toNat < S272.size a) ∧
  (∀ a x, ((![v138] : Fin 1 → IVec S16 32) a x).toNat < S272.size a)
theorem k1_idx7_inb : ∀ (v138 : IVec S16 32) (k1_hw5 : k1_chk5 v138), ∀ a x, ((![v138] : Fin 1 → IVec S16 32) a x).toNat < S272.size a := fun v138 k1_hw5 => k1_hw5.1
theorem k1_idx8_inb : ∀ (v138 : IVec S16 32) (k1_hw5 : k1_chk5 v138), ∀ a x, ((![v138] : Fin 1 → IVec S16 32) a x).toNat < S272.size a := fun v138 k1_hw5 => k1_hw5.2
def k1_off10 (k1_t4 : Fin k1_t4_loop.trips) : Fin 2 → Nat :=
  let c0_i32_29 : BitVec 32 := 0#32
  let c1_i32_31 : BitVec 32 := 1#32
  let arg21 : BitVec 32 := Scf.iv c0_i32_29 c1_i32_31 k1_t4
  let v152 : Index := Scalar.indexCast arg21
  let c48 : Index := 48#32
  ![v152.toNat, 48]

def k1_chk6 (v164 : IVec S16 32) : Prop :=
  (∀ a x, ((![v164] : Fin 1 → IVec S16 32) a x).toNat < S272.size a) ∧
  (∀ a x, ((![v164] : Fin 1 → IVec S16 32) a x).toNat < S272.size a)
theorem k1_idx9_inb : ∀ (v164 : IVec S16 32) (k1_hw6 : k1_chk6 v164), ∀ a x, ((![v164] : Fin 1 → IVec S16 32) a x).toNat < S272.size a := fun v164 k1_hw6 => k1_hw6.1
theorem k1_idx10_inb : ∀ (v164 : IVec S16 32) (k1_hw6 : k1_chk6 v164), ∀ a x, ((![v164] : Fin 1 → IVec S16 32) a x).toNat < S272.size a := fun v164 k1_hw6 => k1_hw6.2
def k1_off11 (k1_t4 : Fin k1_t4_loop.trips) : Fin 2 → Nat :=
  let c0_i32_29 : BitVec 32 := 0#32
  let c1_i32_31 : BitVec 32 := 1#32
  let arg21 : BitVec 32 := Scf.iv c0_i32_29 c1_i32_31 k1_t4
  let v178 : Index := Scalar.indexCast arg21
  let c64 : Index := 64#32
  ![v178.toNat, 64]

def k1_chk7 (v190 : IVec S16 32) : Prop :=
  (∀ a x, ((![v190] : Fin 1 → IVec S16 32) a x).toNat < S272.size a) ∧
  (∀ a x, ((![v190] : Fin 1 → IVec S16 32) a x).toNat < S272.size a)
theorem k1_idx11_inb : ∀ (v190 : IVec S16 32) (k1_hw7 : k1_chk7 v190), ∀ a x, ((![v190] : Fin 1 → IVec S16 32) a x).toNat < S272.size a := fun v190 k1_hw7 => k1_hw7.1
theorem k1_idx12_inb : ∀ (v190 : IVec S16 32) (k1_hw7 : k1_chk7 v190), ∀ a x, ((![v190] : Fin 1 → IVec S16 32) a x).toNat < S272.size a := fun v190 k1_hw7 => k1_hw7.2
def k1_off12 (k1_t4 : Fin k1_t4_loop.trips) : Fin 2 → Nat :=
  let c0_i32_29 : BitVec 32 := 0#32
  let c1_i32_31 : BitVec 32 := 1#32
  let arg21 : BitVec 32 := Scf.iv c0_i32_29 c1_i32_31 k1_t4
  let v204 : Index := Scalar.indexCast arg21
  let c80 : Index := 80#32
  ![v204.toNat, 80]

def k1_chk8 (v216 : IVec S16 32) : Prop :=
  (∀ a x, ((![v216] : Fin 1 → IVec S16 32) a x).toNat < S272.size a) ∧
  (∀ a x, ((![v216] : Fin 1 → IVec S16 32) a x).toNat < S272.size a)
theorem k1_idx13_inb : ∀ (v216 : IVec S16 32) (k1_hw8 : k1_chk8 v216), ∀ a x, ((![v216] : Fin 1 → IVec S16 32) a x).toNat < S272.size a := fun v216 k1_hw8 => k1_hw8.1
theorem k1_idx14_inb : ∀ (v216 : IVec S16 32) (k1_hw8 : k1_chk8 v216), ∀ a x, ((![v216] : Fin 1 → IVec S16 32) a x).toNat < S272.size a := fun v216 k1_hw8 => k1_hw8.2
def k1_off13 (k1_t4 : Fin k1_t4_loop.trips) : Fin 2 → Nat :=
  let c0_i32_29 : BitVec 32 := 0#32
  let c1_i32_31 : BitVec 32 := 1#32
  let arg21 : BitVec 32 := Scf.iv c0_i32_29 c1_i32_31 k1_t4
  let v230 : Index := Scalar.indexCast arg21
  let c96 : Index := 96#32
  ![v230.toNat, 96]

def k1_chk9 (v242 : IVec S16 32) : Prop :=
  (∀ a x, ((![v242] : Fin 1 → IVec S16 32) a x).toNat < S272.size a) ∧
  (∀ a x, ((![v242] : Fin 1 → IVec S16 32) a x).toNat < S272.size a)
theorem k1_idx15_inb : ∀ (v242 : IVec S16 32) (k1_hw9 : k1_chk9 v242), ∀ a x, ((![v242] : Fin 1 → IVec S16 32) a x).toNat < S272.size a := fun v242 k1_hw9 => k1_hw9.1
theorem k1_idx16_inb : ∀ (v242 : IVec S16 32) (k1_hw9 : k1_chk9 v242), ∀ a x, ((![v242] : Fin 1 → IVec S16 32) a x).toNat < S272.size a := fun v242 k1_hw9 => k1_hw9.2
def k1_off14 (k1_t4 : Fin k1_t4_loop.trips) : Fin 2 → Nat :=
  let c0_i32_29 : BitVec 32 := 0#32
  let c1_i32_31 : BitVec 32 := 1#32
  let arg21 : BitVec 32 := Scf.iv c0_i32_29 c1_i32_31 k1_t4
  let v256 : Index := Scalar.indexCast arg21
  let c112 : Index := 112#32
  ![v256.toNat, 112]

def k1_chk10 (v268 : IVec S16 32) : Prop :=
  (∀ a x, ((![v268] : Fin 1 → IVec S16 32) a x).toNat < S272.size a) ∧
  (∀ a x, ((![v268] : Fin 1 → IVec S16 32) a x).toNat < S272.size a)
theorem k1_idx17_inb : ∀ (v268 : IVec S16 32) (k1_hw10 : k1_chk10 v268), ∀ a x, ((![v268] : Fin 1 → IVec S16 32) a x).toNat < S272.size a := fun v268 k1_hw10 => k1_hw10.1
theorem k1_idx18_inb : ∀ (v268 : IVec S16 32) (k1_hw10 : k1_chk10 v268), ∀ a x, ((![v268] : Fin 1 → IVec S16 32) a x).toNat < S272.size a := fun v268 k1_hw10 => k1_hw10.2
@[reducible] def k1_t5_loop : Scf.Loop 32 :=
  let c0_i32_34 : BitVec 32 := 0#32
  let c16_i32_35 : BitVec 32 := 16#32
  let v48 : BitVec 32 := Scalar.addi c0_i32_34 c16_i32_35
  let c1_i32_36 : BitVec 32 := 1#32
  ⟨c0_i32_34, v48, c1_i32_36⟩
def k1_off15 (k1_t5 : Fin k1_t5_loop.trips) : Fin 1 → Nat :=
  let c0_i32_34 : BitVec 32 := 0#32
  let c1_i32_36 : BitVec 32 := 1#32
  let arg21 : BitVec 32 := Scf.iv c0_i32_34 c1_i32_36 k1_t5
  let c16_i32_67 : BitVec 32 := 16#32
  let v70 : BitVec 32 := Scalar.muli arg21 c16_i32_67
  let v71 : Index := Scalar.indexCast v70
  ![v71.toNat]
def k1_off16 (k1_t5 : Fin k1_t5_loop.trips) : Fin 1 → Nat :=
  let c0_i32_34 : BitVec 32 := 0#32
  let c1_i32_36 : BitVec 32 := 1#32
  let arg21 : BitVec 32 := Scf.iv c0_i32_34 c1_i32_36 k1_t5
  let c16_i32_75 : BitVec 32 := 16#32
  let v104 : BitVec 32 := Scalar.muli arg21 c16_i32_75
  let v105 : Index := Scalar.indexCast v104
  ![v105.toNat]
@[reducible] def k1_t6_loop : Scf.Loop 32 :=
  let c0_i32_39 : BitVec 32 := 0#32
  let c16_i32_40 : BitVec 32 := 16#32
  let v50 : BitVec 32 := Scalar.addi c0_i32_39 c16_i32_40
  let c1_i32_41 : BitVec 32 := 1#32
  ⟨c0_i32_39, v50, c1_i32_41⟩
def k1_off17 (k1_t6 : Fin k1_t6_loop.trips) : Fin 1 → Nat :=
  let c0_i32_39 : BitVec 32 := 0#32
  let c1_i32_41 : BitVec 32 := 1#32
  let arg21 : BitVec 32 := Scf.iv c0_i32_39 c1_i32_41 k1_t6
  let c16_i32_67 : BitVec 32 := 16#32
  let v70 : BitVec 32 := Scalar.muli arg21 c16_i32_67
  let v71 : Index := Scalar.indexCast v70
  ![v71.toNat]
def k1_off18 (i : grid1.Coords) (c0_i32_45 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_11 : BitVec 32 := 2#32
  let v29 : BitVec 32 := Scalar.muli v18 c2_i32_11
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let v30 : BitVec 32 := Scalar.addi v29 v28
  let c256_i32 : BitVec 32 := 256#32
  let v31 : BitVec 32 := Scalar.muli v30 c256_i32
  let v54 : BitVec 32 := Scalar.addi c0_i32_45 v31
  ![v54.toNat]
@[reducible] def k1_t7_loop : Scf.Loop 32 :=
  let c0_i32_47 : BitVec 32 := 0#32
  let c16_i32_48 : BitVec 32 := 16#32
  let v55 : BitVec 32 := Scalar.addi c0_i32_47 c16_i32_48
  let c1_i32_49 : BitVec 32 := 1#32
  ⟨c0_i32_47, v55, c1_i32_49⟩
def k1_off19 (k1_t7 : Fin k1_t7_loop.trips) : Fin 1 → Nat :=
  let c0_i32_47 : BitVec 32 := 0#32
  let c1_i32_49 : BitVec 32 := 1#32
  let arg21 : BitVec 32 := Scf.iv c0_i32_47 c1_i32_49 k1_t7
  let c16_i32_67 : BitVec 32 := 16#32
  let v70 : BitVec 32 := Scalar.muli arg21 c16_i32_67
  let v71 : Index := Scalar.indexCast v70
  ![v71.toNat]
@[reducible] def k1_t8_loop : Scf.Loop 32 :=
  let c0_i32_54 : BitVec 32 := 0#32
  let c16_i32_55 : BitVec 32 := 16#32
  let v60 : BitVec 32 := Scalar.addi c0_i32_54 c16_i32_55
  let c1_i32_56 : BitVec 32 := 1#32
  ⟨c0_i32_54, v60, c1_i32_56⟩
def k1_off20 (k1_t8 : Fin k1_t8_loop.trips) : Fin 1 → Nat :=
  let c0_i32_54 : BitVec 32 := 0#32
  let c1_i32_56 : BitVec 32 := 1#32
  let arg21 : BitVec 32 := Scf.iv c0_i32_54 c1_i32_56 k1_t8
  let c16_i32_67 : BitVec 32 := 16#32
  let v70 : BitVec 32 := Scalar.muli arg21 c16_i32_67
  let v71 : Index := Scalar.indexCast v70
  ![v71.toNat]
@[reducible] def k1_t9_loop : Scf.Loop 32 :=
  let c0_i32_61 : BitVec 32 := 0#32
  let c16_i32_62 : BitVec 32 := 16#32
  let v65 : BitVec 32 := Scalar.addi c0_i32_61 c16_i32_62
  let c1_i32_63 : BitVec 32 := 1#32
  ⟨c0_i32_61, v65, c1_i32_63⟩
def k1_off21 (k1_t9 : Fin k1_t9_loop.trips) : Fin 1 → Nat :=
  let c0_i32_61 : BitVec 32 := 0#32
  let c1_i32_63 : BitVec 32 := 1#32
  let arg21 : BitVec 32 := Scf.iv c0_i32_61 c1_i32_63 k1_t9
  let c16_i32_67 : BitVec 32 := 16#32
  let v70 : BitVec 32 := Scalar.muli arg21 c16_i32_67
  let v71 : Index := Scalar.indexCast v70
  ![v71.toNat]
def k1_off22 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_11 : BitVec 32 := 2#32
  let v29 : BitVec 32 := Scalar.muli v18 c2_i32_11
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let v30 : BitVec 32 := Scalar.addi v29 v28
  let c256_i32 : BitVec 32 := 256#32
  let v31 : BitVec 32 := Scalar.muli v30 c256_i32
  ![v31.toNat]
abbrev grid2 : Pipeline.Grid := .none

abbrev stage2_0 : Fin 1 → Memref sig .tc .vmem S16x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x512 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S16x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S16x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S16x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S16x300 .i32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S16x300 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S16x300 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S16x300 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S16x300 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S16x300 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x20000x91 : Shape := ⟨3, ![16, 20000, 91]⟩
abbrev S16x20000x4 : Shape := ⟨3, ![16, 20000, 4]⟩
abbrev S16x2 : Shape := ⟨2, ![16, 2]⟩
abbrev S16x128 : Shape := ⟨2, ![16, 128]⟩
abbrev S_ : Shape := ⟨0, ![]⟩
abbrev S16x1820000 : Shape := ⟨2, ![16, 1820000]⟩
abbrev S16x300 : Shape := ⟨2, ![16, 300]⟩
abbrev S16 : Shape := ⟨1, ![16]⟩
abbrev S16x1 : Shape := ⟨2, ![16, 1]⟩
abbrev S16x20000x1 : Shape := ⟨3, ![16, 20000, 1]⟩
abbrev S16x20000 : Shape := ⟨2, ![16, 20000]⟩
abbrev S320000 : Shape := ⟨1, ![320000]⟩
abbrev S320000x1 : Shape := ⟨2, ![320000, 1]⟩
abbrev S320000x4 : Shape := ⟨2, ![320000, 4]⟩
abbrev S16x4 : Shape := ⟨2, ![16, 4]⟩
abbrev S4800 : Shape := ⟨1, ![4800]⟩
abbrev S4800x1 : Shape := ⟨2, ![4800, 1]⟩
abbrev S4800x4 : Shape := ⟨2, ![4800, 4]⟩
abbrev S16x300x4 : Shape := ⟨3, ![16, 300, 4]⟩
abbrev S16x1x4 : Shape := ⟨3, ![16, 1, 4]⟩

abbrev nBuf : Space → Nat
  | .hbm => 82
  | .vmem => 0
  | .smem => 0
  | _ => 0

abbrev bufTy : (tb : Table) → Fin (tcTables nBuf tb) → BufTy
  | .hbm, ⟨0, _⟩ => ⟨S16x20000x91, .f32⟩
  | .hbm, ⟨1, _⟩ => ⟨S16x20000x4, .f32⟩
  | .hbm, ⟨2, _⟩ => ⟨S16x2, .i32⟩
  | .hbm, ⟨3, _⟩ => ⟨S16x128, .f32⟩
  | .hbm, ⟨4, _⟩ => ⟨S16x20000x91, .f32⟩
  | .hbm, ⟨5, _⟩ => ⟨S16x20000x91, .f32⟩
  | .hbm, ⟨6, _⟩ => ⟨S_, .f32⟩
  | .hbm, ⟨7, _⟩ => ⟨S16x20000x91, .f32⟩
  | .hbm, ⟨8, _⟩ => ⟨S16x20000x91, .f32⟩
  | .hbm, ⟨9, _⟩ => ⟨S_, .f32⟩
  | .hbm, ⟨10, _⟩ => ⟨S16x20000x91, .f32⟩
  | .hbm, ⟨11, _⟩ => ⟨S16x20000x91, .f32⟩
  | .hbm, ⟨12, _⟩ => ⟨S16x1820000, .f32⟩
  | .hbm, ⟨13, _⟩ => ⟨S16x300, .f32⟩
  | .hbm, ⟨14, _⟩ => ⟨S16x300, .i32⟩
  | .hbm, ⟨15, _⟩ => ⟨S_, .i32⟩
  | .hbm, ⟨16, _⟩ => ⟨S16x300, .i32⟩
  | .hbm, ⟨17, _⟩ => ⟨S16x300, .i32⟩
  | .hbm, ⟨18, _⟩ => ⟨S_, .i32⟩
  | .hbm, ⟨19, _⟩ => ⟨S16x300, .i32⟩
  | .hbm, ⟨20, _⟩ => ⟨S16x300, .i32⟩
  | .hbm, ⟨21, _⟩ => ⟨S16, .i32⟩
  | .hbm, ⟨22, _⟩ => ⟨S16x1, .i32⟩
  | .hbm, ⟨23, _⟩ => ⟨S_, .i32⟩
  | .hbm, ⟨24, _⟩ => ⟨S16x1, .i32⟩
  | .hbm, ⟨25, _⟩ => ⟨S16x1, .i32⟩
  | .hbm, ⟨26, _⟩ => ⟨S16x300, .i32⟩
  | .hbm, ⟨27, _⟩ => ⟨S16x300, .i32⟩
  | .hbm, ⟨28, _⟩ => ⟨S16x20000x1, .f32⟩
  | .hbm, ⟨29, _⟩ => ⟨S16x20000, .f32⟩
  | .hbm, ⟨30, _⟩ => ⟨S320000, .f32⟩
  | .hbm, ⟨31, _⟩ => ⟨S16x20000x1, .f32⟩
  | .hbm, ⟨32, _⟩ => ⟨S16x20000, .f32⟩
  | .hbm, ⟨33, _⟩ => ⟨S320000, .f32⟩
  | .hbm, ⟨34, _⟩ => ⟨S16x20000x1, .f32⟩
  | .hbm, ⟨35, _⟩ => ⟨S16x20000, .f32⟩
  | .hbm, ⟨36, _⟩ => ⟨S320000, .f32⟩
  | .hbm, ⟨37, _⟩ => ⟨S16x20000x1, .f32⟩
  | .hbm, ⟨38, _⟩ => ⟨S16x20000, .f32⟩
  | .hbm, ⟨39, _⟩ => ⟨S320000, .f32⟩
  | .hbm, ⟨40, _⟩ => ⟨S_, .f32⟩
  | .hbm, ⟨41, _⟩ => ⟨S320000, .f32⟩
  | .hbm, ⟨42, _⟩ => ⟨S320000, .f32⟩
  | .hbm, ⟨43, _⟩ => ⟨S320000, .f32⟩
  | .hbm, ⟨44, _⟩ => ⟨S_, .f32⟩
  | .hbm, ⟨45, _⟩ => ⟨S320000, .f32⟩
  | .hbm, ⟨46, _⟩ => ⟨S320000, .f32⟩
  | .hbm, ⟨47, _⟩ => ⟨S320000, .f32⟩
  | .hbm, ⟨48, _⟩ => ⟨S_, .f32⟩
  | .hbm, ⟨49, _⟩ => ⟨S320000, .f32⟩
  | .hbm, ⟨50, _⟩ => ⟨S320000, .f32⟩
  | .hbm, ⟨51, _⟩ => ⟨S320000, .f32⟩
  | .hbm, ⟨52, _⟩ => ⟨S_, .f32⟩
  | .hbm, ⟨53, _⟩ => ⟨S320000, .f32⟩
  | .hbm, ⟨54, _⟩ => ⟨S320000, .f32⟩
  | .hbm, ⟨55, _⟩ => ⟨S320000, .f32⟩
  | .hbm, ⟨56, _⟩ => ⟨S320000x1, .f32⟩
  | .hbm, ⟨57, _⟩ => ⟨S320000x1, .f32⟩
  | .hbm, ⟨58, _⟩ => ⟨S320000x1, .f32⟩
  | .hbm, ⟨59, _⟩ => ⟨S320000x1, .f32⟩
  | .hbm, ⟨60, _⟩ => ⟨S320000x4, .f32⟩
  | .hbm, ⟨61, _⟩ => ⟨S16x2, .f32⟩
  | .hbm, ⟨62, _⟩ => ⟨S16x1, .f32⟩
  | .hbm, ⟨63, _⟩ => ⟨S16, .f32⟩
  | .hbm, ⟨64, _⟩ => ⟨S16x1, .f32⟩
  | .hbm, ⟨65, _⟩ => ⟨S16, .f32⟩
  | .hbm, ⟨66, _⟩ => ⟨S16x1, .f32⟩
  | .hbm, ⟨67, _⟩ => ⟨S16, .f32⟩
  | .hbm, ⟨68, _⟩ => ⟨S16x1, .f32⟩
  | .hbm, ⟨69, _⟩ => ⟨S16, .f32⟩
  | .hbm, ⟨70, _⟩ => ⟨S16x1, .f32⟩
  | .hbm, ⟨71, _⟩ => ⟨S16x1, .f32⟩
  | .hbm, ⟨72, _⟩ => ⟨S16x1, .f32⟩
  | .hbm, ⟨73, _⟩ => ⟨S16x1, .f32⟩
  | .hbm, ⟨74, _⟩ => ⟨S16x4, .f32⟩
  | .hbm, ⟨75, _⟩ => ⟨S4800, .i32⟩
  | .hbm, ⟨76, _⟩ => ⟨S4800x1, .i32⟩
  | .hbm, ⟨77, _⟩ => ⟨S4800x4, .f32⟩
  | .hbm, ⟨78, _⟩ => ⟨S16x300x4, .f32⟩
  | .hbm, ⟨79, _⟩ => ⟨S16x1x4, .f32⟩
  | .hbm, ⟨80, _⟩ => ⟨S16x300x4, .f32⟩
  | .hbm, ⟨81, _⟩ => ⟨S16x300x4, .f32⟩
  | _, _ => ⟨S16x20000x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_call0_v0 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Proof.Setup.lean ====
/-
  The launch of the one SparseCore call: the program as the launch theorem sees it, the ghost state, the buffers and
  semaphores of a subcore by name, and the closed forms of the slices a subcore makes of the arrays in HBM.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Select

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
/-- The handshakes' rounds, the staging cells' rounds, the counters of the transfers. -/
abbrev UU : Type := UH × (UP × Counters)

/-- The machine's resource algebra for this program. -/
abbrev MM (F : FTy → Type) := MT nD τ sig (HIx 1) (Elt F) ℕ UU ℕ

def EH : Emb UH (MM F) := embL

instance EH_landsIn : (EH : Emb UH (MM F)).LandsIn (upEmb : UEmb _ (MM F)) := by unfold EH; infer_instance

def EP : Emb UP (MM F) := (Emb.inl : Emb UP (UP × Counters)).trans (embR : Emb (UP × Counters) (MM F))

instance EP_landsIn : (EP : Emb UP (MM F)).LandsIn (upEmb : UEmb _ (MM F)) := by unfold EP embR; infer_instance

/-! ## A subcore: its thread, its buffers, its semaphores -/

variable (d : Dev nD) (L : grid1.Coords)

abbrev cV (L : grid1.Coords) : Fin τ.nSC := (L 0).castLE hcore1
abbrev jV (L : grid1.Coords) : Fin τ.nSub := (L 1).castLE hsub1
/-- The subcore at coordinates `L`, as a thread. -/
abbrev thr (d : Dev nD) (L : grid1.Coords) : Thread nD τ := V d (cV L) (jV L)

abbrev aX : Memref sig .scVector .hbm S320000x128 .f32 := Memref.whole main_v1_scv
abbrev aB : Memref sig .scVector .hbm S1280000 .f32 := Memref.whole main_v2_scv
abbrev aQ : Memref sig .scVector .hbm S320000 .f32 := Memref.whole main_v3_scv
abbrev aT : Memref sig .scVector .hbm S2048 .f32 := Memref.whole main_v4_scv
abbrev oV : Memref sig .scVector .hbm S8192 .f32 := Memref.whole main_v5_0_scv
abbrev oF : Memref sig .scVector .hbm S8192 .i32 := Memref.whole main_v5_1_scv
abbrev oB : Memref sig .scVector .hbm S32768 .f32 := Memref.whole main_v5_2_scv
abbrev sT : Memref sig .scVector .vmem S16 .f32 := Memref.whole cc1_scratch0
abbrev sQ : Memref sig .scVector .vmem S10000 .f32 := Memref.whole cc1_scratch1
abbrev sSel : Memref sig .scVector .vmem S272 .i32 := Memref.whole cc1_scratch2
abbrev sGid : Memref sig .scVector .vmem S256 .i32 := Memref.whole cc1_scratch3
abbrev sRow : Memref sig .scVector .vmem S256x128 .f32 := Memref.whole cc1_scratch4
abbrev sVal : Memref sig .scVector .vmem S272 .f32 := Memref.whole cc1_scratch5
abbrev sFlat : Memref sig .scVector .vmem S272 .i32 := Memref.whole cc1_scratch6
abbrev sBq : Memref sig .scVector .vmem S256 .i32 := Memref.whole cc1_scratch7
abbrev sEid : Memref sig .scVector .vmem S256 .i32 := Memref.whole cc1_scratch8
abbrev sBox : Memref sig .scVector .vmem S256 .f32 := Memref.whole cc1_scratch9

/-- The kernel's function at its arrays and this subcore's scratch. -/
abbrev body [FloatOps F] (L : grid1.Coords) :=
  cc1__select_body (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7

/-- One DMA semaphore of the subcore. -/
abbrev cell (s : DmaSems sig S_) : GSem nD τ sig := (thr d L, .dma s.sem)

/-- The subcore's ten DMA semaphores, and the cells of its own they leave. -/
def semRest : Finset (GSem nD τ sig) :=
  ((((((((((ownCells (thr d L)).erase (cell d L cc1_scratch10)).erase (cell d L cc1_scratch11)).erase (cell d L cc1_scoped0)).erase
    (cell d L cc1_scoped1)).erase (cell d L cc1_scoped2)).erase (cell d L cc1_scoped3)).erase (cell d L cc1_scoped4)).erase
    (cell d L cc1_scoped5)).erase (cell d L cc1_scoped6)).erase (cell d L cc1_scoped7)

theorem ownSems0_V :
    (ownSems0 (thr d L) : sProp (MM F))
      = iprop(semVal (cell d L cc1_scratch10) 0 ∗ semVal (cell d L cc1_scratch11) 0 ∗ semVal (cell d L cc1_scoped0) 0
          ∗ semVal (cell d L cc1_scoped1) 0 ∗ semVal (cell d L cc1_scoped2) 0 ∗ semVal (cell d L cc1_scoped3) 0
          ∗ semVal (cell d L cc1_scoped4) 0 ∗ semVal (cell d L cc1_scoped5) 0 ∗ semVal (cell d L cc1_scoped6) 0
          ∗ semVal (cell d L cc1_scoped7) 0 ∗ bigSep (semRest d L) fun g => semVal g 0) := by
  have own : ∀ s : DmaSems sig S_, (SemLoc.dma s.sem : SemLoc sig).isScoped .scVector = true → cell d L s ∈ ownCells (thr d L) :=
    fun s h => (mem_ownCells (g := cell d L s)).mpr ⟨rfl, h⟩
  have ne : ∀ s t : DmaSems sig S_, s.sem ≠ t.sem → cell d L s ≠ cell d L t :=
    fun s t h e => h (SemLoc.dma.inj (Prod.mk.inj e).2)
  unfold SparseCore.Cfg.ownSems0 semRest
  rw [SparseCore.bigSep_erase' (own cc1_scratch10 (by decide)),
    SparseCore.bigSep_erase' (i := cell d L cc1_scratch11) (by
      simp only [Finset.mem_erase]
      exact ⟨ne _ _ (by decide), own _ (by decide)⟩),
    SparseCore.bigSep_erase' (i := cell d L cc1_scoped0) (by
      simp only [Finset.mem_erase]
      exact ⟨ne _ _ (by decide), ne _ _ (by decide), own _ (by decide)⟩),
    SparseCore.bigSep_erase' (i := cell d L cc1_scoped1) (by
      simp only [Finset.mem_erase]
      exact ⟨ne _ _ (by decide), ne _ _ (by decide), ne _ _ (by decide), own _ (by decide)⟩),
    SparseCore.bigSep_erase' (i := cell d L cc1_scoped2) (by
      simp only [Finset.mem_erase]
      exact ⟨ne _ _ (by decide), ne _ _ (by decide), ne _ _ (by decide), ne _ _ (by decide), own _ (by decide)⟩),
    SparseCore.bigSep_erase' (i := cell d L cc1_scoped3) (by
      simp only [Finset.mem_erase]
      exact ⟨ne _ _ (by decide), ne _ _ (by decide), ne _ _ (by decide), ne _ _ (by decide), ne _ _ (by decide), own _ (by decide)⟩),
    SparseCore.bigSep_erase' (i := cell d L cc1_scoped4) (by
      simp only [Finset.mem_erase]
      exact ⟨ne _ _ (by decide), ne _ _ (by decide), ne _ _ (by decide), ne _ _ (by decide), ne _ _ (by decide), ne _ _ (by decide),
        own _ (by decide)⟩),
    SparseCore.bigSep_erase' (i := cell d L cc1_scoped5) (by
      simp only [Finset.mem_erase]
      exact ⟨ne _ _ (by decide), ne _ _ (by decide), ne _ _ (by decide), ne _ _ (by decide), ne _ _ (by decide), ne _ _ (by decide),
        ne _ _ (by decide), own _ (by decide)⟩),
    SparseCore.bigSep_erase' (i := cell d L cc1_scoped6) (by
      simp only [Finset.mem_erase]
      exact ⟨ne _ _ (by decide), ne _ _ (by decide), ne _ _ (by decide), ne _ _ (by decide), ne _ _ (by decide), ne _ _ (by decide),
        ne _ _ (by decide), ne _ _ (by decide), own _ (by decide)⟩),
    SparseCore.bigSep_erase' (i := cell d L cc1_scoped7) (by
      simp only [Finset.mem_erase]
      exact ⟨ne _ _ (by decide), ne _ _ (by decide), ne _ _ (by decide), ne _ _ (by decide), ne _ _ (by decide), ne _ _ (by decide),
        ne _ _ (by decide), ne _ _ (by decide), ne _ _ (by decide), own _ (by decide)⟩)]

/-- A buffer of the subcore, as the device names it. -/
abbrev dref (L : grid1.Coords) (b : Ref sig .scVector) : DevRef τ sig := (Proc.scVector (cV L) (jV L)).devRef b

def bufRest : Finset (DevRef τ sig) :=
  ((((((((((ownRefs (τ := τ) (.scVector (cV L) (jV L))).erase (dref L cc1_scratch0)).erase (dref L cc1_scratch1)).erase (dref L cc1_scratch2)).erase
    (dref L cc1_scratch3)).erase (dref L cc1_scratch4)).erase (dref L cc1_scratch5)).erase (dref L cc1_scratch6)).erase
    (dref L cc1_scratch7)).erase (dref L cc1_scratch8)).erase (dref L cc1_scratch9)

theorem ownBufs_V :
    (ownBufs (thr d L) : sProp (MM F))
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ (∃ f, (thr d L).loc cc1_scratch4 ↦{fullShare} f) ∗ (∃ f, (thr d L).loc cc1_scratch5 ↦{fullShare} f)
          ∗ (∃ f, (thr d L).loc cc1_scratch6 ↦{fullShare} f) ∗ (∃ f, (thr d L).loc cc1_scratch7 ↦{fullShare} f)
          ∗ (∃ f, (thr d L).loc cc1_scratch8 ↦{fullShare} f) ∗ (∃ f, (thr d L).loc cc1_scratch9 ↦{fullShare} f)
          ∗ bigSep (bufRest L) fun b => iprop(∃ f, ((d, b) : Loc nD τ sig) ↦{fullShare} f)) := by
  have own : ∀ b : Ref sig .scVector, (dref L b).owner = (dref L cc1_scratch0).owner → dref L b ∈ ownRefs (τ := τ) (.scVector (cV L) (jV L)) :=
    fun b h => SparseCore.Cfg.mem_ownRefs_of_owner (p := Proc.scVector (cV L) (jV L)) (b := dref L b) (h.trans rfl)
  have ne : ∀ b c : Ref sig .scVector, b ≠ c → dref L b ≠ dref L c := fun b c h e => h (Proc.devRef_injective _ e)
  unfold SparseCore.Cfg.ownBufs bufRest
  refine (SparseCore.bigSep_erase' (own cc1_scratch0 rfl)).trans ?_
  rw [SparseCore.bigSep_erase' (i := dref L cc1_scratch1) (by
      simp only [Finset.mem_erase]
      exact ⟨ne _ _ (by decide), own _ rfl⟩),
    SparseCore.bigSep_erase' (i := dref L cc1_scratch2) (by
      simp only [Finset.mem_erase]
      exact ⟨ne _ _ (by decide), ne _ _ (by decide), own _ rfl⟩),
    SparseCore.bigSep_erase' (i := dref L cc1_scratch3) (by
      simp only [Finset.mem_erase]
      exact ⟨ne _ _ (by decide), ne _ _ (by decide), ne _ _ (by decide), own _ rfl⟩),
    SparseCore.bigSep_erase' (i := dref L cc1_scratch4) (by
      simp only [Finset.mem_erase]
      exact ⟨ne _ _ (by decide), ne _ _ (by decide), ne _ _ (by decide), ne _ _ (by decide), own _ rfl⟩),
    SparseCore.bigSep_erase' (i := dref L cc1_scratch5) (by
      simp only [Finset.mem_erase]
      exact ⟨ne _ _ (by decide), ne _ _ (by decide), ne _ _ (by decide), ne _ _ (by decide), ne _ _ (by decide), own _ rfl⟩),
    SparseCore.bigSep_erase' (i := dref L cc1_scratch6) (by
      simp only [Finset.mem_erase]
      exact ⟨ne _ _ (by decide), ne _ _ (by decide), ne _ _ (by decide), ne _ _ (by decide), ne _ _ (by decide), ne _ _ (by decide), own _ rfl⟩),
    SparseCore.bigSep_erase' (i := dref L cc1_scratch7) (by
      simp only [Finset.mem_erase]
      exact ⟨ne _ _ (by decide), ne _ _ (by decide), ne _ _ (by decide), ne _ _ (by decide), ne _ _ (by decide), ne _ _ (by decide),
        ne _ _ (by decide), own _ rfl⟩),
    SparseCore.bigSep_erase' (i := dref L cc1_scratch8) (by
      simp only [Finset.mem_erase]
      exact ⟨ne _ _ (by decide), ne _ _ (by decide), ne _ _ (by decide), ne _ _ (by decide), ne _ _ (by decide), ne _ _ (by decide),
        ne _ _ (by decide), ne _ _ (by decide), own _ rfl⟩),
    SparseCore.bigSep_erase' (i := dref L cc1_scratch9) (by
      simp only [Finset.mem_erase]
      exact ⟨ne _ _ (by decide), ne _ _ (by decide), ne _ _ (by decide), ne _ _ (by decide), ne _ _ (by decide), ne _ _ (by decide),
        ne _ _ (by decide), ne _ _ (by decide), ne _ _ (by decide), own _ rfl⟩)]

/-! ## The slices a subcore makes of the arrays in HBM, and its numbers -/

theorem off1_eq : ∀ i : grid1.Coords, k1_off1 i = ![128 * (i 1).val] := by decide +kernel
theorem off2_eq : ∀ i : grid1.Coords, k1_off2 i = ![20000 * (i 1).val + 10000 * (i 0).val] := by decide +kernel
theorem off18_eq : ∀ (i : grid1.Coords) (c : Fin 4), k1_off18 i (BitVec.ofNat 32 (8192 * c.val)) = ![8192 * c.val + 512 * (i 1).val + 256 * (i 0).val] := by
  decide +kernel
theorem off22_eq : ∀ i : grid1.Coords, k1_off22 i = ![512 * (i 1).val + 256 * (i 0).val] := by decide +kernel

end Cert.Proof.Select

end
-- ==== Proof.Compact.lean ====
/-
  Compaction, sixteen lanes at a time: what a masked indexed store leaves in a buffer when each lane's index is the
  running count of the lanes kept so far. The statements speak of natural numbers: a predicate `P` says which items
  are kept, `Nat.count P n` is how many of the first `n` are, `nth P k` is the `k`-th kept one, and `packed` is
  the list of the kept items' values with a filler behind them.
-/
module

public import Idealize.ShloMosaic.PureOps
public import proofs.«01_k».proof.Proof.Gen.KernelIdeal.Skeleton
public import Mathlib.Data.Nat.Count
public import Mathlib.Tactic.IntervalCases

@[expose] public section

noncomputable section

namespace Cert.Proof.Compact

open Idealize.ShloMosaic Cert.KernelIdeal

variable {F : FTy → Type} [FloatOps F]

/-! ## An indexed store, element by element -/

/-- One element of a buffer after a masked indexed store: the lanes in order, each kept lane naming the element
    replacing what is there. -/
theorem storeIdx_apply {s : Shape} {e : EltTy} {d : Fin 1 → Nat} (f : Vec F s e) (idxs : Fin s.rank → IVec ⟨1, d⟩ 32)
    (v : Vec F ⟨1, d⟩ e) (mask : IVec ⟨1, d⟩ 1) (h : ∀ a x, (idxs a x).toNat < s.size a) (j : s.Idx) :
    storeIdx f idxs v mask false h j
      = (List.finRange (d 0)).foldl (fun y k => if mask (Shape.ofLane k) = 1 ∧ ∀ a, (j a).val = (idxs a (Shape.ofLane k)).toNat
          then v (Shape.ofLane k) else y) (f j) := by
  unfold storeIdx
  generalize List.finRange (d 0) = l
  induction l generalizing f with
  | nil => rfl
  | cons k l ih =>
    simp only [List.foldl_cons]
    rw [ih]
    congr 1
    by_cases hm : mask (Shape.ofLane k) = 1
    · simp only [hm, if_true, true_and]
      by_cases hc : ∀ a, (j a).val = (idxs a (Shape.ofLane k)).toNat
      · rw [if_pos hc]; exact if_pos hc
      · rw [if_neg hc]; exact if_neg hc
    · simp only [hm, if_false, false_and]

private theorem foldl_miss {α β : Type} (c : α → Prop) [DecidablePred c] (w : α → β) (l : List α) (y : β) (h : ∀ k ∈ l, ¬ c k) :
    l.foldl (fun y k => if c k then w k else y) y = y := by
  induction l generalizing y with
  | nil => rfl
  | cons k l ih =>
    rw [List.foldl_cons, if_neg (h k List.mem_cons_self)]
    exact ih y fun k hk => h k (List.mem_cons_of_mem _ hk)

private theorem foldl_hit {α β : Type} (c : α → Prop) [DecidablePred c] (w : α → β) (l : List α) (y : β) (k₀ : α) (hk : k₀ ∈ l)
    (hc : c k₀) (h : ∀ k ∈ l, c k → k = k₀) :
    l.foldl (fun y k => if c k then w k else y) y = w k₀ := by
  induction l generalizing y with
  | nil => cases hk
  | cons k l ih =>
    rw [List.foldl_cons]
    by_cases hin : k₀ ∈ l
    · exact ih _ hin fun k hk => h k (List.mem_cons_of_mem _ hk)
    · have hkk : k₀ = k := (List.mem_cons.mp hk).resolve_right hin
      subst hkk
      rw [if_pos hc]
      exact foldl_miss c w l _ fun k' hk' hc' => hin (h k' (List.mem_cons_of_mem _ hk') hc' ▸ hk')

/-- An element no kept lane names keeps its value. -/
theorem storeIdx_miss {s : Shape} {e : EltTy} {d : Fin 1 → Nat} (f : Vec F s e) (idxs : Fin s.rank → IVec ⟨1, d⟩ 32)
    (v : Vec F ⟨1, d⟩ e) (mask : IVec ⟨1, d⟩ 1) (h : ∀ a x, (idxs a x).toNat < s.size a) (j : s.Idx)
    (hj : ∀ k : Fin (d 0), mask (Shape.ofLane k) = 1 → ¬ ∀ a, (j a).val = (idxs a (Shape.ofLane k)).toNat) :
    storeIdx f idxs v mask false h j = f j := by
  rw [storeIdx_apply]
  exact foldl_miss _ _ _ _ fun k _ hc => hj k hc.1 hc.2

/-- An element exactly one kept lane names takes that lane's value. -/
theorem storeIdx_hit {s : Shape} {e : EltTy} {d : Fin 1 → Nat} (f : Vec F s e) (idxs : Fin s.rank → IVec ⟨1, d⟩ 32)
    (v : Vec F ⟨1, d⟩ e) (mask : IVec ⟨1, d⟩ 1) (h : ∀ a x, (idxs a x).toNat < s.size a) (j : s.Idx) (k₀ : Fin (d 0))
    (hm : mask (Shape.ofLane k₀) = 1) (hj : ∀ a, (j a).val = (idxs a (Shape.ofLane k₀)).toNat)
    (hu : ∀ k : Fin (d 0), mask (Shape.ofLane k) = 1 → (∀ a, (j a).val = (idxs a (Shape.ofLane k)).toNat) → k = k₀) :
    storeIdx f idxs v mask false h j = v (Shape.ofLane k₀) := by
  rw [storeIdx_apply]
  exact foldl_hit _ _ _ _ k₀ (List.mem_finRange _) ⟨hm, hj⟩ fun k _ hc => hu k hc.1 hc.2

/-! ## The running count of sixteen lanes -/

/-- Lane `k` of a vector of sixteen. -/
abbrev lane (k : Fin 16) : S16.Idx := Shape.ofLane (d := ![16]) k

theorem lane_surj (x : S16.Idx) : x = lane ⟨(x 0).val, (x 0).isLt⟩ := by
  funext a; obtain rfl : a = 0 := Subsingleton.elim _ _; rfl

theorem scan_zero (kind : ScanKind) (v : IVec S16 32) : scan kind v (lane 0) = v (lane 0) := rfl

theorem scan_succ (kind : ScanKind) (v : IVec S16 32) (j : ℕ) (hj : j + 1 < 16) :
    scan kind v (lane ⟨j + 1, hj⟩) = kind.step (scan kind v (lane ⟨j, by omega⟩)) (v (lane ⟨j + 1, hj⟩)) := by
  have hj' : j < 15 := by omega
  interval_cases j <;> rfl

/-- Which items a chunk of sixteen lanes keeps: lane `i` holds item `n + i`. -/
def Keeps (P : ℕ → Prop) (n : ℕ) (mask : IVec S16 1) : Prop := ∀ i : Fin 16, mask (lane i) = 1#1 ↔ P (n + i.val)

/-- The kept lanes among lanes `0 … i`, as the chunk's running sum computes them. -/
abbrev cum (mask : IVec S16 1) : IVec S16 32 := scan .sum (extui 32 mask Gen.natLt_1_32)

section
variable {P : ℕ → Prop} [DecidablePred P] {n : ℕ} {mask : IVec S16 1}

theorem cum_toNat (h : Keeps P n mask) : ∀ (j : ℕ) (hj : j < 16),
    (cum mask (lane ⟨j, hj⟩)).toNat = Nat.count (fun k => P (n + k)) (j + 1) := by
  have hb : ∀ i : Fin 16, (extui 32 mask Gen.natLt_1_32 (lane i)).toNat = if P (n + i.val) then 1 else 0 := by
    intro i
    show ((mask (lane i)).setWidth 32).toNat = _
    by_cases hp : P (n + i.val)
    · rw [if_pos hp, (h i).mpr hp]; rfl
    · rw [if_neg hp]
      have : mask (lane i) = 0#1 := by
        rcases (BitVec.eq_zero_or_eq_one (mask (lane i))) with h0 | h1
        · exact h0
        · exact absurd ((h i).mp h1) hp
      rw [this]; rfl
  intro j
  induction j with
  | zero =>
    intro hj
    rw [Nat.count_succ, Nat.count_zero]
    refine (congrArg BitVec.toNat (scan_zero .sum (extui 32 mask Gen.natLt_1_32))).trans ((hb 0).trans ?_)
    simp
  | succ j ih =>
    intro hj
    unfold cum
    rw [scan_succ _ _ j hj, Nat.count_succ, ← ih (by omega)]
    show (_ + _ : BitVec 32).toNat = _
    rw [BitVec.toNat_add, hb ⟨j + 1, hj⟩]
    have : (cum mask (lane ⟨j, by omega⟩)).toNat ≤ j + 1 := by rw [ih (by omega)]; exact Nat.count_le _
    rw [Nat.mod_eq_of_lt]
    have e : (scan .sum (extui 32 mask Gen.natLt_1_32) (lane ⟨j, by omega⟩)).toNat ≤ j + 1 := this
    show _ + _ < _
    split <;> omega

/-- The number of lanes the whole chunk keeps, as its running maximum's last lane computes it: the running sum only
    grows, and the flip of the sign bit on either side of the maximum keeps the order of small words. -/
theorem total_toNat (h : Keeps P n mask) (hp) :
    (extractAt ![15] (xori (scan .max (xori (cum mask) (broadcast S16 2147483648#32))) (broadcast S16 2147483648#32)) hp : BitVec 32).toNat
      = Nat.count (fun k => P (n + k)) 16 := by
  have hx : ∀ (w : BitVec 32), w.toNat ≤ 16 → (w ^^^ 2147483648#32).toNat = w.toNat + 2147483648 := by
    intro w hw
    have : w = BitVec.ofNat 32 w.toNat := by simp
    generalize w.toNat = c at *
    subst this
    interval_cases c <;> rfl
  have hle : ∀ j (hj : j < 16), (cum mask (lane ⟨j, hj⟩)).toNat ≤ 16 := fun j hj => by
    rw [cum_toNat h]; exact (Nat.count_le _).trans (by omega)
  have hmax : ∀ j (hj : j < 16), scan .max (xori (cum mask) (broadcast S16 2147483648#32)) (lane ⟨j, hj⟩)
      = cum mask (lane ⟨j, hj⟩) ^^^ 2147483648#32 := by
    intro j
    induction j with
    | zero => intro hj; exact scan_zero _ _
    | succ j ih =>
      intro hj
      rw [scan_succ _ _ j hj, ih (by omega)]
      show (if BitVec.ult (cum mask (lane ⟨j + 1, hj⟩) ^^^ 2147483648#32) (cum mask (lane ⟨j, by omega⟩) ^^^ 2147483648#32) = true
        then _ else cum mask (lane ⟨j + 1, hj⟩) ^^^ 2147483648#32) = _
      rw [if_neg]
      rw [BitVec.ult, decide_eq_true_eq, hx _ (hle _ _), hx _ (hle _ _), cum_toNat h, cum_toNat h, not_lt]
      exact Nat.add_le_add_right (Nat.count_monotone _ (by omega)) _
  show (scan .max (xori (cum mask) (broadcast S16 2147483648#32)) (fun a => ⟨(![15] : Fin 1 → ℕ) a, hp a⟩) ^^^ 2147483648#32).toNat = _
  have hl : (fun a => ⟨(![15] : Fin 1 → ℕ) a, hp a⟩ : S16.Idx) = lane ⟨15, by omega⟩ := by
    funext a; obtain rfl : a = 0 := Subsingleton.elim _ _; rfl
  rw [hl, hmax 15 (by omega), BitVec.xor_assoc, BitVec.xor_self, BitVec.xor_zero, cum_toNat h]

end

/-! ## One chunk of a compaction -/

open Classical in
/-- The `k`-th kept item (from zero): the first item by which more than `k` are kept. -/
def nth (P : ℕ → Prop) [DecidablePred P] (k : ℕ) : ℕ := if h : ∃ e, k < Nat.count P (e + 1) then Nat.find h else 0

section
variable {P : ℕ → Prop} [DecidablePred P] {n k : ℕ}

theorem nth_lt (hk : k < Nat.count P n) : nth P k < n := by
  obtain ⟨m, rfl⟩ : ∃ m, n = m + 1 := ⟨n - 1, by rcases n with _ | n <;> simp at hk ⊢⟩
  have h : ∃ e, k < Nat.count P (e + 1) := ⟨m, hk⟩
  unfold nth; rw [dif_pos h]
  exact Nat.lt_succ_of_le (Nat.find_min' h hk)

theorem lt_count_nth (hk : k < Nat.count P n) : k < Nat.count P (nth P k + 1) := by
  obtain ⟨m, rfl⟩ : ∃ m, n = m + 1 := ⟨n - 1, by rcases n with _ | n <;> simp at hk ⊢⟩
  have h : ∃ e, k < Nat.count P (e + 1) := ⟨m, hk⟩
  unfold nth; rw [dif_pos h]
  exact Nat.find_spec h

theorem count_le_of_lt_nth {e : ℕ} (he : e < nth P k) : Nat.count P (e + 1) ≤ k := by
  unfold nth at he
  split at he
  · rename_i h; exact not_lt.mp (Nat.find_min h he)
  · omega

theorem count_nth (hk : k < Nat.count P n) : Nat.count P (nth P k) = k ∧ P (nth P k) := by
  have h1 := lt_count_nth hk
  have h2 : Nat.count P (nth P k) ≤ k := by
    rcases he : nth P k with _ | e
    · simp
    · exact count_le_of_lt_nth (by omega)
  rw [Nat.count_succ] at h1
  by_cases hP : P (nth P k)
  · rw [if_pos hP] at h1; exact ⟨by omega, hP⟩
  · rw [if_neg hP] at h1; omega

/-- The number of items by which at most `k` are kept is the `k`-th kept item's position, or all of them when there is none. -/
theorem card_count_le (N k : ℕ) :
    ((Finset.range N).filter fun e => Nat.count P (e + 1) ≤ k).card = if k < Nat.count P N then nth P k else N := by
  split
  · rename_i hk
    have : ((Finset.range N).filter fun e => Nat.count P (e + 1) ≤ k) = Finset.range (nth P k) := by
      ext e
      rw [Finset.mem_filter, Finset.mem_range, Finset.mem_range]
      constructor
      · rintro ⟨_, h⟩
        by_contra hc
        have := lt_count_nth hk
        have := Nat.count_monotone P (show nth P k + 1 ≤ e + 1 by omega)
        omega
      · intro h; exact ⟨h.trans (nth_lt hk), count_le_of_lt_nth h⟩
    rw [this, Finset.card_range]
  · rename_i hk
    rw [Finset.filter_true_of_mem, Finset.card_range]
    intro e he
    exact (Nat.count_monotone P (Finset.mem_range.mp he)).trans (not_lt.mp hk)

end

/-- The kept items' values in order, the filler behind them, after `n` items. -/
def packed {α : Type} (P : ℕ → Prop) [DecidablePred P] (val fill : ℕ → α) (n k : ℕ) : α :=
  if k < Nat.count P n then val (nth P k) else fill k

theorem packed_zero {α : Type} (P : ℕ → Prop) [DecidablePred P] (val fill : ℕ → α) (k : ℕ) : packed P val fill 0 k = fill k := by
  simp [packed]

/-- The first 256 entries of a buffer of 272 are `w`. -/
def Holds {α : Type} (f : S272.Idx → α) (w : ℕ → α) : Prop := ∀ x : S272.Idx, (x 0).val < 256 → f x = w (x 0).val

/-- How far the compaction has come after `n` items: the count, held at 256. -/
def Offset (P : ℕ → Prop) [DecidablePred P] (n : ℕ) (off : BitVec 32) : Prop := off.toNat = min (Nat.count P n) 256

/-- The slot each lane of a chunk goes to, from the compaction's offset. -/
def slots (off : BitVec 32) (mask : IVec S16 1) : IVec S16 32 :=
  maxsi (subi (addi (broadcast S16 off) (cum mask)) (broadcast S16 1#32)) (broadcast S16 0#32)

/-- The offset after a chunk. -/
def bump (off : BitVec 32) (mask : IVec S16 1) : BitVec 32 :=
  Scalar.minsi (Scalar.addi off (extractAt ![15] (xori (scan .max (xori (cum mask) (broadcast S16 2147483648#32))) (broadcast S16 2147483648#32))
    Gen.inpos_S16_p15)) 256#32

private theorem maxsi_sub_one (a : BitVec 32) (ha : a.toNat ≤ 272) : (IntOp.maxsi (a - 1#32) 0#32).toNat = a.toNat - 1 := by
  have : a = BitVec.ofNat 32 a.toNat := by simp
  generalize a.toNat = c at *
  subst this
  rcases Nat.eq_zero_or_pos c with rfl | hc
  · rfl
  · have he : BitVec.ofNat 32 c - 1#32 = BitVec.ofNat 32 (c - 1) := by
      apply BitVec.eq_of_toNat_eq
      rw [BitVec.toNat_sub, BitVec.toNat_ofNat, BitVec.toNat_ofNat, BitVec.toNat_ofNat]
      omega
    rw [he]
    unfold IntOp.maxsi
    split
    · simp; omega
    · rename_i hn
      simp only [BitVec.slt, decide_eq_true_eq, not_lt] at hn
      have := BitVec.toInt_eq_toNat_of_lt (x := BitVec.ofNat 32 (c - 1)) (by simp; omega)
      rw [this] at hn
      simp at hn ⊢
      omega

section
variable {P : ℕ → Prop} [DecidablePred P] {n : ℕ} {off : BitVec 32} {mask : IVec S16 1}

theorem slots_toNat (ho : Offset P n off) (h : Keeps P n mask) (i : Fin 16) :
    (slots off mask (lane i)).toNat = min (Nat.count P n) 256 + Nat.count (fun k => P (n + k)) (i.val + 1) - 1 := by
  have hc := cum_toNat h i.val i.isLt
  have hle : Nat.count (fun k => P (n + k)) (i.val + 1) ≤ i.val + 1 := Nat.count_le _
  have hs : (off + cum mask (lane i)).toNat = min (Nat.count P n) 256 + Nat.count (fun k => P (n + k)) (i.val + 1) := by
    rw [BitVec.toNat_add, ho, hc, Nat.mod_eq_of_lt]; omega
  show (IntOp.maxsi ((off + cum mask (lane i)) - 1#32) 0#32).toNat = _
  rw [maxsi_sub_one _ (by omega), hs]

/-- Every lane's slot lies in the buffer of 272: the kept ones below the offset plus sixteen, and the others too. -/
theorem slots_lt (ho : Offset P n off) (h : Keeps P n mask) (x : S16.Idx) : (slots off mask x).toNat < 272 := by
  rw [lane_surj x, slots_toNat ho h]
  have hle : Nat.count (fun k => P (n + k)) ((x 0).val + 1) ≤ (x 0).val + 1 := Nat.count_le _
  have : (x 0).val < 16 := (x 0).isLt
  show _ + Nat.count (fun k => P (n + k)) ((x 0).val + 1) - 1 < 272
  omega

/-- The offset after the chunk is the count, held at 256. -/
theorem bump_offset (ho : Offset P n off) (h : Keeps P n mask) : Offset P (n + 16) (bump off mask) := by
  have ht := total_toNat h Gen.inpos_S16_p15
  have hle : Nat.count (fun k => P (n + k)) 16 ≤ 16 := Nat.count_le _
  unfold Offset bump
  rw [Nat.count_add]
  generalize extractAt ![15] (xori (scan .max (xori (cum mask) (broadcast S16 2147483648#32))) (broadcast S16 2147483648#32))
    Gen.inpos_S16_p15 = t at ht ⊢
  have hs : (off + t).toNat = min (Nat.count P n) 256 + Nat.count (fun k => P (n + k)) 16 := by
    rw [BitVec.toNat_add, ho, ht, Nat.mod_eq_of_lt]; omega
  show (if BitVec.slt (off + t) 256#32 = true then off + t else 256#32).toNat = _
  have hi : (off + t).toInt = ((off + t).toNat : ℤ) := BitVec.toInt_eq_toNat_of_lt (by omega)
  have h2 : (256#32).toInt = 256 := rfl
  have h3 : (256#32).toNat = 256 := rfl
  split
  · rename_i hlt
    simp only [BitVec.slt, decide_eq_true_eq, hi, h2] at hlt
    omega
  · rename_i hlt
    simp only [BitVec.slt, decide_eq_true_eq, hi, h2] at hlt
    omega

/-- What a chunk's store leaves: the compaction sixteen items further on. -/
theorem chunk {e : EltTy} {val fill : ℕ → Elt F e} (ho : Offset P n off) (h : Keeps P n mask) {f : Vec F S272 e}
    (hf : Holds f (packed P val fill n)) {v : Vec F S16 e} (hv : ∀ i : Fin 16, P (n + i.val) → v (lane i) = val (n + i.val))
    (hin : ∀ a x, ((![slots off mask] : Fin 1 → IVec S16 32) a x).toNat < S272.size a) :
    Holds (storeIdx (s := S272) (d := ![16]) f ![slots off mask] v mask false hin) (packed P val fill (n + 16)) := by
  intro x hx
  have hidx : ∀ k : Fin 16, mask (lane k) = 1#1 → (slots off mask (lane k)).toNat
      = min (Nat.count P n) 256 + Nat.count (fun j => P (n + j)) k.val := by
    intro k hk
    rw [slots_toNat ho h, Nat.count_succ, if_pos ((h k).mp hk)]; omega
  have hadd : Nat.count P (n + 16) = Nat.count P n + Nat.count (fun j => P (n + j)) 16 := Nat.count_add ..
  by_cases hlt : (x 0).val < Nat.count P n
  · -- already there
    rw [storeIdx_miss, hf x hx]
    · unfold packed; rw [if_pos hlt, if_pos (by omega)]
    · intro k hk ha
      have := (ha 0).trans (hidx k hk)
      omega
  · by_cases hnew : (x 0).val < Nat.count P (n + 16)
    · -- a lane of this chunk
      obtain ⟨hcnt, hmem⟩ := count_nth hnew
      have hge : n ≤ nth P (x 0).val := by
        by_contra hc
        have : Nat.count P (nth P (x 0).val + 1) ≤ Nat.count P n := Nat.count_monotone _ (by omega)
        rw [Nat.count_succ, if_pos hmem, hcnt] at this
        omega
      have hltn : nth P (x 0).val < n + 16 := nth_lt hnew
      obtain ⟨i, hi⟩ : ∃ i : Fin 16, n + i.val = nth P (x 0).val := ⟨⟨nth P (x 0).val - n, by omega⟩, by show n + (_ - n) = _; omega⟩
      have hPi : P (n + i.val) := hi ▸ hmem
      have hci : Nat.count P n + Nat.count (fun j => P (n + j)) i.val = (x 0).val := by
        rw [← Nat.count_add, hi, hcnt]
      rw [storeIdx_hit _ _ _ _ _ _ i ((h i).mpr hPi)]
      · refine (hv i hPi).trans ?_
        unfold packed; rw [if_pos hnew, hi]
      · intro a; obtain rfl : a = 0 := Subsingleton.elim _ _
        refine Eq.trans ?_ (hidx i ((h i).mpr hPi)).symm
        omega
      · intro k hk ha
        have h1 := (ha 0).trans (hidx k hk)
        have hPk := (h k).mp hk
        apply Fin.ext
        have h2 : Nat.count (fun j => P (n + j)) k.val = Nat.count (fun j => P (n + j)) i.val := by omega
        exact Nat.count_injective (p := fun j => P (n + j)) hPk hPi h2
    · -- still the filler
      rw [storeIdx_miss, hf x hx]
      · unfold packed; rw [if_neg hlt, if_neg hnew]
      · intro k hk ha
        have h1 := (ha 0).trans (hidx k hk)
        have hk16 : k.val < 16 := k.isLt
        have h2 : Nat.count (fun j => P (n + j)) (k.val + 1) ≤ Nat.count (fun j => P (n + j)) 16 := Nat.count_monotone _ (by omega)
        rw [Nat.count_succ, if_pos ((h k).mp hk)] at h2
        omega

end

end Cert.Proof.Compact
-- ==== Proof.Spec.lean ====
/-
  What one subcore computes, as functions of the four arrays it reads: which queries of its half it selects, which
  entries of their rows it keeps, and the three lists of 256 it leaves. The subcore of image `b` and half `h` owns
  list `2b + h`. The second part gives the kernel's words lane by lane.
-/
module

public import proofs.«01_k».proof.Proof.Compact

@[expose] public section

noncomputable section

namespace Cert.Proof.Spec

open Idealize.ShloMosaic Cert.KernelIdeal Cert.KernelIdeal.Gen Cert.Proof.Compact

variable {F : FTy → Type} [FloatOps F]

/-! ## Indices by number -/

/-- The element `i` of an array of `n`. -/
def ix1 (n : ℕ) [NeZero n] (i : ℕ) : (⟨1, ![n]⟩ : Shape).Idx := Shape.ofLane (d := ![n]) (Fin.ofNat n i)

theorem ix1_val (n : ℕ) [NeZero n] (i : ℕ) : (ix1 n i 0).val = i % n := rfl

theorem eq_ix1 {n : ℕ} [NeZero n] (x : (⟨1, ![n]⟩ : Shape).Idx) {i : ℕ} (h : (x 0).val = i) : x = ix1 n i := by
  subst h
  funext a
  obtain rfl : a = 0 := Subsingleton.elim _ _
  exact Fin.ext (Nat.mod_eq_of_lt (x 0).isLt).symm

/-- The element `(i, j)` of an array of `n` by `m`. -/
def ix2 (n m : ℕ) [NeZero n] [NeZero m] (i j : ℕ) : (⟨2, ![n, m]⟩ : Shape).Idx :=
  fun | 0 => Fin.ofNat n i | 1 => Fin.ofNat m j | ⟨_ + 2, h⟩ => absurd h (Nat.not_lt.2 (Nat.le_add_left _ _))

theorem eq_ix2 {n m : ℕ} [NeZero n] [NeZero m] (x : (⟨2, ![n, m]⟩ : Shape).Idx) {i j : ℕ} (hi : (x 0).val = i) (hj : (x 1).val = j) :
    x = ix2 n m i j := by
  subst hi hj
  funext a
  match a with
  | 0 => exact Fin.ext (Nat.mod_eq_of_lt (x 0).isLt).symm
  | 1 => exact Fin.ext (Nat.mod_eq_of_lt (x 1).isLt).symm

/-! ## The lists -/

section
variable (X : Vec F S320000x128 .f32) (B : Vec F S1280000 .f32) (Q : Vec F S320000 .f32) (T : Vec F S2048 .f32) (b h : ℕ)

/-- Whether `x` is at least the image's threshold of lane `l`. -/
def Pass (l : ℕ) (x : F .f32) : Prop := FloatOps.cmpf .oge x (T (ix1 2048 (128 * b + l))) = 1#1

instance (l : ℕ) (x : F .f32) : Decidable (Pass T b l x) := by unfold Pass; infer_instance

/-- Query `e` of the half is selected: its row's maximum passes. -/
def qPass (e : ℕ) : Prop := Pass T b (e % 16) (Q (ix1 320000 (20000 * b + 10000 * h + e)))

instance : DecidablePred (qPass Q T b h) := fun e => by unfold qPass; infer_instance

/-- How many rows the subcore uses. -/
def nsel : ℕ := min (Nat.count (qPass Q T b h) 10000) 256

/-- The filler: distinct queries, spread over the image. -/
def spread (k : ℕ) : ℕ := k * 797 % 20000

/-- The `k`-th query of the subcore's list, in the image. -/
def qs (k : ℕ) : ℕ := packed (qPass Q T b h) (fun e => 10000 * h + e) spread 10000 k

/-- Lane `l` of the row of the `r`-th query. -/
def rowVal (r l : ℕ) : F .f32 := X (ix2 320000 128 (20000 * b + qs Q T b h r) l)

/-- Entry `e` of the rows, row by row, is kept: its row is used and its value passes. -/
def ePass (e : ℕ) : Prop := e / 128 < nsel Q T b h ∧ Pass T b (e % 16) (rowVal X Q T b h (e / 128) (e % 128))

instance : DecidablePred (ePass X Q T b h) := fun e => by unfold ePass; infer_instance

/-- The lowest value, which fills the list of values. -/
def lowest : F .f32 := Scalar.ofBits .f32 0xFF800000#32

/-- The value in slot `k`. -/
def vals (k : ℕ) : F .f32 := packed (ePass X Q T b h) (fun e => rowVal X Q T b h (e / 128) (e % 128)) (fun _ => lowest) 32768 k

/-- The position in slot `k`: the query times 91 plus the lane. -/
def flat (k : ℕ) : ℕ := packed (ePass X Q T b h) (fun e => qs Q T b h (e / 128) * 91 + e % 128) (fun k => spread k * 91) 32768 k

/-- The query whose box slot `k` takes. -/
def boxOf (k : ℕ) : ℕ := 20000 * b + min (flat X Q T b h k / 91) 19999

/-- Coordinate `c` of the box of slot `k`. -/
def box (c k : ℕ) : F .f32 := B (ix1 1280000 (4 * boxOf X Q T b h k + c))

/-! ### The three results, of all the subcores -/

def outV : Vec F S8192 .f32 := fun x => vals X Q T ((x 0).val / 512) ((x 0).val / 256 % 2) ((x 0).val % 256)
def outF : Vec F S8192 .i32 := fun x => BitVec.ofNat 32 (flat X Q T ((x 0).val / 512) ((x 0).val / 256 % 2) ((x 0).val % 256))
def outB : Vec F S32768 .f32 := fun x =>
  box X B Q T ((x 0).val % 8192 / 512) ((x 0).val / 256 % 2) ((x 0).val / 8192) ((x 0).val % 256)

/-! ### Bounds -/

variable {b h}

theorem spread_lt (k : ℕ) : spread k < 20000 := Nat.mod_lt _ (by norm_num)

theorem qs_lt (hh : h < 2) (k : ℕ) : qs Q T b h k < 20000 := by
  unfold qs packed
  split
  · rename_i hk
    have := nth_lt hk
    show 10000 * h + _ < _
    omega
  · exact spread_lt k

theorem flat_lt (hh : h < 2) (k : ℕ) : flat X Q T b h k < 1820037 := by
  unfold flat packed
  split
  · rename_i hk
    have := qs_lt Q T (b := b) hh (nth (ePass X Q T b h) k / 128)
    show _ * 91 + _ < _
    omega
  · have := spread_lt k
    show _ * 91 < _
    omega

theorem boxOf_lt (hb : b < 16) (k : ℕ) : boxOf X Q T b h k < 320000 := by
  unfold boxOf; omega

end

/-- A function of the packed list is the packed list of the function. -/
theorem packed_map {α β : Type} (g : α → β) (P : ℕ → Prop) [DecidablePred P] (val fill : ℕ → α) (n k : ℕ) :
    g (packed P val fill n k) = packed P (fun e => g (val e)) (fun k => g (fill k)) n k := by
  unfold packed; split <;> rfl

/-! ## The kernel's words, lane by lane -/

/-- The lane's number, as the kernel has it. -/
abbrev lanes : IVec S16 32 := iota .scVector S16 32 [0] iota_S16_d0_w32_scVector

theorem lanes_apply (i : Fin 16) : lanes (lane i) = BitVec.ofNat 32 i.val := by
  show BitVec.ofNat 32 (0 * 16 + i.val) = _
  rw [Nat.zero_mul, Nat.zero_add]

theorem pay50_apply : ∀ (k : Fin k1_t1_loop.trips) (i : Fin 16), k1_pay50 lanes k (lane i) = BitVec.ofNat 32 (spread (16 * k.val + i.val)) := by
  decide +kernel

theorem pay52_apply : ∀ (k : Fin k1_t1_loop.trips) (i : Fin 16), k1_pay52 lanes k (lane i) = BitVec.ofNat 32 (spread (16 * k.val + i.val) * 91) := by
  decide +kernel

theorem pay55_apply (h : ℕ) (k : Fin k1_t2_loop.trips) (i : Fin 16) :
    k1_pay55 (BitVec.ofNat 32 h) lanes k (lane i) = BitVec.ofNat 32 (10000 * h + (16 * k.val + i.val)) := by
  show lanes (lane i) + ((0#32 + BitVec.ofNat 32 k.val * 1#32) * 16#32 + BitVec.ofNat 32 h * 10000#32) = _
  rw [lanes_apply]
  apply BitVec.eq_of_toNat_eq
  simp only [BitVec.toNat_add, BitVec.toNat_mul, BitVec.toNat_ofNat]
  omega

theorem pay58_apply (b : ℕ) (v : Vec F S16 .i32) (x : S16.Idx) {n : ℕ} (hv : v x = BitVec.ofNat 32 n) :
    k1_pay58 (F := F) (BitVec.ofNat 32 b) v x = BitVec.ofNat 32 (20000 * b + n) := by
  show v x + BitVec.ofNat 32 b * 20000#32 = _
  rw [hv]
  apply BitVec.eq_of_toNat_eq
  simp only [BitVec.toNat_add, BitVec.toNat_mul, BitVec.toNat_ofNat]
  omega

theorem pay1_apply (v : Vec F S16 .i32) (x : S16.Idx) {n : ℕ} (hv : v x = BitVec.ofNat 32 n) :
    k1_pay1 (F := F) v x = BitVec.ofNat 32 (n + 3) := by
  show v x + 3#32 = _
  rw [hv, BitVec.ofNat_add]
theorem pay62_apply (v : Vec F S16 .i32) (x : S16.Idx) {n : ℕ} (hv : v x = BitVec.ofNat 32 n) :
    k1_pay62 (F := F) v x = BitVec.ofNat 32 (n + 0) := by
  show v x + 0#32 = _
  rw [hv, BitVec.ofNat_add]
theorem pay63_apply (v : Vec F S16 .i32) (x : S16.Idx) {n : ℕ} (hv : v x = BitVec.ofNat 32 n) :
    k1_pay63 (F := F) v x = BitVec.ofNat 32 (n + 1) := by
  show v x + 1#32 = _
  rw [hv, BitVec.ofNat_add]
theorem pay64_apply (v : Vec F S16 .i32) (x : S16.Idx) {n : ℕ} (hv : v x = BitVec.ofNat 32 n) :
    k1_pay64 (F := F) v x = BitVec.ofNat 32 (n + 2) := by
  show v x + 2#32 = _
  rw [hv, BitVec.ofNat_add]

/-- Division of a small word that is not negative is division of the number. -/
theorem sdiv_91 {n : ℕ} (hn : n < 2 ^ 31) : IntOp.divsi .vector (BitVec.ofNat 32 n) 91#32 = BitVec.ofNat 32 (n / 91) := by
  have hc : ¬ IntOp.SDivCorner (BitVec.ofNat 32 n) 91#32 := by
    unfold IntOp.SDivCorner
    rintro (h | ⟨_, h⟩)
    · exact absurd h (by decide)
    · exact absurd h (by decide)
  unfold IntOp.divsi
  rw [if_neg hc]
  have h1 : (BitVec.ofNat 32 n).msb = false := by
    rw [BitVec.msb_eq_false_iff_two_mul_lt, BitVec.toNat_ofNat]; omega
  have h2 : (91#32).msb = false := by decide
  rw [BitVec.sdiv_eq, h1, h2]
  apply BitVec.eq_of_toNat_eq
  show ((BitVec.ofNat 32 n).udiv 91#32).toNat = _
  rw [BitVec.udiv_eq, BitVec.toNat_udiv, BitVec.toNat_ofNat, BitVec.toNat_ofNat, BitVec.toNat_ofNat,
    Nat.mod_eq_of_lt (by omega), Nat.mod_eq_of_lt (by omega)]
  omega

/-- The minimum of two small words that are not negative is the minimum of the numbers. -/
theorem minsi_ofNat {m n : ℕ} (hm : m < 2 ^ 31) (hn : n < 2 ^ 31) :
    IntOp.minsi (BitVec.ofNat 32 m) (BitVec.ofNat 32 n) = BitVec.ofNat 32 (min m n) := by
  have h1 : (BitVec.ofNat 32 m).toInt = (m : ℤ) := by
    rw [BitVec.toInt_eq_toNat_of_lt (by rw [BitVec.toNat_ofNat]; omega), BitVec.toNat_ofNat, Nat.mod_eq_of_lt (by omega)]
  have h2 : (BitVec.ofNat 32 n).toInt = (n : ℤ) := by
    rw [BitVec.toInt_eq_toNat_of_lt (by rw [BitVec.toNat_ofNat]; omega), BitVec.toNat_ofNat, Nat.mod_eq_of_lt (by omega)]
  unfold IntOp.minsi
  simp only [BitVec.slt, h1, h2, decide_eq_true_eq]
  split
  · congr 1; omega
  · congr 1; omega

/-- The floor division by 91 as the kernel spells it, at a word that is not negative: the signs agree or the word is zero. -/
theorem floordiv_91 {n : ℕ} (hn : n < 2 ^ 31) :
    (if (IntOp.cmpi .ne ((IntOp.cmpi .sgt (BitVec.ofNat 32 n) 0#32).setWidth 32 - (IntOp.cmpi .slt (BitVec.ofNat 32 n) 0#32).setWidth 32) 1#32
        &&& IntOp.cmpi .ne (IntOp.remsi .vector (BitVec.ofNat 32 n) 91#32) 0#32) = 1#1
      then IntOp.divsi .vector (BitVec.ofNat 32 n) 91#32 - 1#32 else IntOp.divsi .vector (BitVec.ofNat 32 n) 91#32) = BitVec.ofNat 32 (n / 91) := by
  rw [if_neg, sdiv_91 hn]
  have h1 : (BitVec.ofNat 32 n).toInt = (n : ℤ) := by
    rw [BitVec.toInt_eq_toNat_of_lt (by rw [BitVec.toNat_ofNat]; omega), BitVec.toNat_ofNat, Nat.mod_eq_of_lt (by omega)]
  rcases Nat.eq_zero_or_pos n with rfl | hp
  · decide
  · have hs : IntOp.cmpi .sgt (BitVec.ofNat 32 n) 0#32 = 1#1 := by
      show BitVec.ofBool (BitVec.slt 0#32 (BitVec.ofNat 32 n)) = _
      have : BitVec.slt 0#32 (BitVec.ofNat 32 n) = true := by
        simp only [BitVec.slt, h1, decide_eq_true_eq]; simpa using hp
      rw [this]; rfl
    have hl : IntOp.cmpi .slt (BitVec.ofNat 32 n) 0#32 = 0#1 := by
      show BitVec.ofBool (BitVec.slt (BitVec.ofNat 32 n) 0#32) = _
      have : BitVec.slt (BitVec.ofNat 32 n) 0#32 = false := by
        simp only [BitVec.slt, h1, decide_eq_false_iff_not]; simp
      rw [this]; rfl
    rw [hs, hl]
    have : IntOp.cmpi .ne ((1#1 : BitVec 1).setWidth 32 - (0#1 : BitVec 1).setWidth 32) 1#32 = 0#1 := by decide
    rw [this, BitVec.zero_and]
    decide

theorem pay61_apply (b : ℕ) (v : Vec F S16 .i32) (x : S16.Idx) {n : ℕ} (hn : n < 2 ^ 31) (hv : v x = BitVec.ofNat 32 n) :
    k1_pay61 (F := F) (BitVec.ofNat 32 b) v x = BitVec.ofNat 32 (4 * (20000 * b + min (n / 91) 19999)) := by
  have e : k1_pay61 (F := F) (BitVec.ofNat 32 b) v x
      = (IntOp.minsi (if (IntOp.cmpi .ne ((IntOp.cmpi .sgt (v x) 0#32).setWidth 32 - (IntOp.cmpi .slt (v x) 0#32).setWidth 32) 1#32
            &&& IntOp.cmpi .ne (IntOp.remsi .vector (v x) 91#32) 0#32) = 1#1
          then IntOp.divsi .vector (v x) 91#32 - 1#32 else IntOp.divsi .vector (v x) 91#32) 19999#32 + BitVec.ofNat 32 b * 20000#32) * 4#32 := rfl
  rw [e, hv, floordiv_91 hn, minsi_ofNat (by omega) (by norm_num)]
  apply BitVec.eq_of_toNat_eq
  simp only [BitVec.toNat_add, BitVec.toNat_mul, BitVec.toNat_ofNat]
  omega

end Cert.Proof.Spec

end
-- ==== Proof.Loops.lean ====
/-
  The loops of one subcore, each by an invariant on the contents of the subcore's scratch: the fillers, the compaction of
  the queries, the list of rows, the boxes' offsets. (The compaction of the entries is in `Entries`.)
-/
module

public import proofs.«01_k».proof.Proof.Setup
public import proofs.«01_k».proof.Proof.Spec

@[expose] public section

noncomputable section

namespace Cert.Proof.Select

open Cert.KernelIdeal Cert.KernelIdeal.Gen Cert.Proof.Compact Cert.Proof.Spec

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type}

/-! ## Runs of sixteen in a buffer of one axis -/

section
variable {κ : Kind} {sp : Space} {e : EltTy} {n : ℕ} {Val : EltTy → Type}

/-- The first `k` elements are those of `w`. -/
def Filled {α : Type} (f : (⟨1, ![n]⟩ : Shape).Idx → α) (w : ℕ → α) (k : ℕ) : Prop := ∀ x, (x 0).val < k → f x = w (x 0).val

/-- A store of the next sixteen. -/
theorem filled_write (v : View sig κ sp ⟨1, ![n]⟩ e) (f : v.ty.Contents Val) (w : ℕ → Val e) {o : ℕ} {off : Fin 1 → ℕ} {inb}
    (ho : off = ![o]) (hf : Filled (v.read Val f) w o) {g : S16.Idx → Val e} (hg : ∀ i : Fin 16, g (lane i) = w (o + i.val)) :
    Filled (v.read Val (v.writes Val f [⟨Rect.unit (s := ⟨1, ![n]⟩) off S16.size inb, g⟩])) w (o + 16) := by
  subst ho
  intro x hx
  by_cases h : (x 0).val < o
  · rw [View.read_writes_cons_miss_of_axis v f _ [] x 0 o 16 rfl rfl rfl (.inl h), View.writes_nil]
    exact hf x h
  · have hi : (x 0).val - o < 16 := by omega
    rw [View.read_writes_cons_hit_of_coords v f (Rect.unit (s := ⟨1, ![n]⟩) ![o] S16.size inb) g [] (lane ⟨(x 0).val - o, hi⟩) x, hg]
    · congr 1
      show o + ((x 0).val - o) = (x 0).val
      omega
    · intro a
      obtain rfl : a = 0 := Subsingleton.elim _ _
      show (x 0).val = o + 1 * ((x 0).val - o)
      omega

/-- A load of sixteen of them. -/
theorem filled_read (v : View sig κ sp ⟨1, ![n]⟩ e) (f : v.ty.Contents Val) (w : ℕ → Val e) {o k : ℕ} {off : Fin 1 → ℕ} {inb}
    (ho : off = ![o]) (hf : Filled (v.read Val f) w k) (hk : o + 16 ≤ k) (i : Fin 16) :
    v.readAt Val (Rect.unit (s := ⟨1, ![n]⟩) off S16.size inb).toLoadRect f (lane i) = w (o + i.val) := by
  subst ho
  rw [View.readAt_apply]
  have e : (((Rect.unit (s := ⟨1, ![n]⟩) ![o] S16.size inb).toLoadRect.idx (lane i)) 0).val = o + i.val := by
    show o + 1 * i.val = _
    omega
  rw [hf _ (by rw [e]; have := i.isLt; omega), e]

end

section
variable [FloatOps F] (d : Dev nD) (L : grid1.Coords)

/-! ## The loops' regions at the subcore's arrays -/

abbrev T1 [FloatOps F] (L : grid1.Coords) := k1_t1_body (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev T2 [FloatOps F] (L : grid1.Coords) := k1_t2_body (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev T3 [FloatOps F] (L : grid1.Coords) := k1_t3_body (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev T5 [FloatOps F] (L : grid1.Coords) := k1_t5_body (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev T6 [FloatOps F] (L : grid1.Coords) := k1_t6_body (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev T7 [FloatOps F] (L : grid1.Coords) := k1_t7_body (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev T8 [FloatOps F] (L : grid1.Coords) := k1_t8_body (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev T9 [FloatOps F] (L : grid1.Coords) := k1_t9_body (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7

/-- What a program of the subcore does. -/
abbrev runs {α : Type} (p : Prog (TpuEff nD τ sig (Elt F) Λ₀ (.scVector (cV L) (jV L))) α) (Q : α → sProp (MM F)) : sProp (MM F) :=
  wp frame (wpE (defs₀ (F := F)) 𝒱₀ (thr d L) none) Set.univ p Q

/-- A scratch buffer at given contents. -/
abbrev at_ {s : Shape} {e : EltTy} (m : Memref sig .scVector .vmem s e) (f : Buf (Elt F) (m.view.loc (thr d L))) : sProp (MM F) :=
  m.view.loc (thr d L) ↦{fullShare} f

/-! ### The fillers -/

def I1 (k : ℕ) (_ : BitVec 32) : sProp (MM F) :=
  iprop((∃ f : Vec F S272 .i32, ⌜Filled f (fun k => BitVec.ofNat 32 (spread k)) (16 * k)⌝ ∗ at_ d L sSel f)
    ∗ (∃ f : Vec F S272 .f32, ⌜Filled f (fun _ => lowest) (16 * k)⌝ ∗ at_ d L sVal f)
    ∗ (∃ f : Vec F S272 .i32, ⌜Filled f (fun k => BitVec.ofNat 32 (spread k * 91)) (16 * k)⌝ ∗ at_ d L sFlat f))

theorem t1_step (v18 v28 : BitVec 32) (k : Fin k1_t1_loop.trips) (acc : BitVec 32) :
    I1 d L k.val acc ⊢ runs d L (T1 (F := F) L v18 v28 lanes k acc) (I1 d L (k.val + 1)) := by
  unfold runs T1 k1_t1_body I1
  iintro ⟨⟨%fS, %hS, HS⟩, ⟨%fV, %hV, HV⟩, ⟨%fF, %hF, HF⟩⟩
  sl_exec
  sl_step
  isplitl [HS]
  · iexists _; isplitr
    swap; · iexact HS
    ipureintro
    exact filled_write sSel.view fS _ (k1_off3_eq k) hS (pay50_apply k)
  isplitl [HV]
  · iexists _; isplitr
    swap; · iexact HV
    ipureintro
    exact filled_write sVal.view fV (fun _ => lowest) (k1_off3_eq k) hV (fun _ => rfl)
  · iexists _; isplitr
    swap; · iexact HF
    ipureintro
    exact filled_write sFlat.view fF _ (k1_off3_eq k) hF (pay52_apply k)

/-- A scatter into this buffer, at the head of a program. -/
theorem scatter_sel {α : Type} {Q : α → sProp (MM F)} {w : IVec S16 32} {v : Vec F S16 .i32} {mask : IVec S16 1}
    {h : ∀ a x, ((![w] : Fin 1 → IVec S16 32) a x).toNat < S272.size a} {hs : ((sSel).access (.whole S272)).Stores Finset.univ}
    {k : PUnit → Prog (TpuEff nD τ sig (Elt F) Λ₀ (.scVector (cV L) (jV L))) α} {f : Vec F S272 .i32} :
    at_ d L sSel f ⊢ iprop((at_ d L sSel (storeIdx (s := S272) (d := ![16]) f ![w] v mask false h) -∗ wp frame (wpE (defs₀ (F := F)) 𝒱₀ (thr d L) none) Set.univ (k ⟨⟩) Q)
      -∗ wp frame (wpE (defs₀ (F := F)) 𝒱₀ (thr d L) none) Set.univ (SparseCore.vectorStoreIdx sSel ![w] v mask false h hs >>= k) Q) := by
  have H := SparseCore.wp_vectorStoreIdx (defs := defs₀ (F := F)) 𝒱₀ (thr d L) none Set.univ (Q := Q) (base := sSel) (d := ![16]) (idxs := ![w]) (v := v)
    (mask := mask) (add := false) (h := h) (hs := hs) (k := k) (f := f)
  rw [show ((sSel).access (.whole S272)).set = Finset.univ from Memref.set_access_whole _,
    show ((sSel).access (.whole S272)).read (Elt F) f = f from Memref.read_access_whole (Elt F) cc1_scratch2 f,
    show ∀ w', ((sSel).access (.whole S272)).write (Elt F) f w' Finset.univ = w' from fun w' => Memref.write_access_whole_univ (Elt F) cc1_scratch2 f w'] at H
  exact H

/-- A scatter into this buffer, at the head of a program. -/
theorem scatter_val {α : Type} {Q : α → sProp (MM F)} {w : IVec S16 32} {v : Vec F S16 .f32} {mask : IVec S16 1}
    {h : ∀ a x, ((![w] : Fin 1 → IVec S16 32) a x).toNat < S272.size a} {hs : ((sVal).access (.whole S272)).Stores Finset.univ}
    {k : PUnit → Prog (TpuEff nD τ sig (Elt F) Λ₀ (.scVector (cV L) (jV L))) α} {f : Vec F S272 .f32} :
    at_ d L sVal f ⊢ iprop((at_ d L sVal (storeIdx (s := S272) (d := ![16]) f ![w] v mask false h) -∗ wp frame (wpE (defs₀ (F := F)) 𝒱₀ (thr d L) none) Set.univ (k ⟨⟩) Q)
      -∗ wp frame (wpE (defs₀ (F := F)) 𝒱₀ (thr d L) none) Set.univ (SparseCore.vectorStoreIdx sVal ![w] v mask false h hs >>= k) Q) := by
  have H := SparseCore.wp_vectorStoreIdx (defs := defs₀ (F := F)) 𝒱₀ (thr d L) none Set.univ (Q := Q) (base := sVal) (d := ![16]) (idxs := ![w]) (v := v)
    (mask := mask) (add := false) (h := h) (hs := hs) (k := k) (f := f)
  rw [show ((sVal).access (.whole S272)).set = Finset.univ from Memref.set_access_whole _,
    show ((sVal).access (.whole S272)).read (Elt F) f = f from Memref.read_access_whole (Elt F) cc1_scratch5 f,
    show ∀ w', ((sVal).access (.whole S272)).write (Elt F) f w' Finset.univ = w' from fun w' => Memref.write_access_whole_univ (Elt F) cc1_scratch5 f w'] at H
  exact H

/-- A scatter into this buffer, at the head of a program. -/
theorem scatter_flat {α : Type} {Q : α → sProp (MM F)} {w : IVec S16 32} {v : Vec F S16 .i32} {mask : IVec S16 1}
    {h : ∀ a x, ((![w] : Fin 1 → IVec S16 32) a x).toNat < S272.size a} {hs : ((sFlat).access (.whole S272)).Stores Finset.univ}
    {k : PUnit → Prog (TpuEff nD τ sig (Elt F) Λ₀ (.scVector (cV L) (jV L))) α} {f : Vec F S272 .i32} :
    at_ d L sFlat f ⊢ iprop((at_ d L sFlat (storeIdx (s := S272) (d := ![16]) f ![w] v mask false h) -∗ wp frame (wpE (defs₀ (F := F)) 𝒱₀ (thr d L) none) Set.univ (k ⟨⟩) Q)
      -∗ wp frame (wpE (defs₀ (F := F)) 𝒱₀ (thr d L) none) Set.univ (SparseCore.vectorStoreIdx sFlat ![w] v mask false h hs >>= k) Q) := by
  have H := SparseCore.wp_vectorStoreIdx (defs := defs₀ (F := F)) 𝒱₀ (thr d L) none Set.univ (Q := Q) (base := sFlat) (d := ![16]) (idxs := ![w]) (v := v)
    (mask := mask) (add := false) (h := h) (hs := hs) (k := k) (f := f)
  rw [show ((sFlat).access (.whole S272)).set = Finset.univ from Memref.set_access_whole _,
    show ((sFlat).access (.whole S272)).read (Elt F) f = f from Memref.read_access_whole (Elt F) cc1_scratch6 f,
    show ∀ w', ((sFlat).access (.whole S272)).write (Elt F) f w' Finset.univ = w' from fun w' => Memref.write_access_whole_univ (Elt F) cc1_scratch6 f w'] at H
  exact H

/-! ### The queries -/

section
variable (Q : Vec F S320000 .f32) (Tk : Vec F S2048 .f32) (b h : ℕ)

/-- What the subcore fetched of the rows' maxima and of the thresholds. -/
def QIn (fQ : Vec F S10000 .f32) : Prop := Filled fQ (fun e => Q (ix1 320000 (20000 * b + 10000 * h + e))) 10000
def TIn (v34 : Vec F S16 .f32) : Prop := ∀ i : Fin 16, v34 (lane i) = Tk (ix1 2048 (128 * b + i.val))

theorem keeps_q {fQ : Vec F S10000 .f32} {v34 : Vec F S16 .f32} (hQ : QIn Q b h fQ) (hT : TIn Tk b v34) (k : Fin k1_t2_loop.trips) :
    Keeps (qPass Q Tk b h) (16 * k.val)
      (k1_pay53 v34 ((sQ).view.readAt (Elt F) (Rect.unit (s := S10000) (k1_off4 k) S16.size (k1_off4_inb k)).toLoadRect fQ)) := by
  intro i
  have hk : k.val < 625 := k.isLt
  show FloatOps.cmpf .oge (View.readAt (Elt F) (sQ).view (Rect.unit (s := S10000) (k1_off4 k) S16.size (k1_off4_inb k)).toLoadRect fQ (lane i)) (v34 (lane i)) = 1#1 ↔ _
  rw [filled_read (sQ).view fQ _ (k1_off4_eq k) hQ (by omega) i, hT]
  unfold qPass Pass
  rw [show (16 * k.val + i.val) % 16 = i.val from by omega]

def I2 (fQ : Vec F S10000 .f32) (k : ℕ) (acc : BitVec 32) : sProp (MM F) :=
  iprop(⌜Offset (qPass Q Tk b h) (16 * k) acc⌝ ∗ at_ d L sQ fQ
    ∗ ∃ f : Vec F S272 .i32, ⌜Holds f (packed (qPass Q Tk b h) (fun e => BitVec.ofNat 32 (10000 * h + e)) (fun k => BitVec.ofNat 32 (spread k)) (16 * k))⌝
        ∗ at_ d L sSel f)

theorem t2_step {fQ : Vec F S10000 .f32} {v34 : Vec F S16 .f32} (hQ : QIn Q b h fQ) (hT : TIn Tk b v34) (v18 : BitVec 32)
    (k : Fin k1_t2_loop.trips) (acc : BitVec 32) :
    I2 d L Q Tk b h fQ k.val acc ⊢ runs d L (T2 (F := F) L v18 (BitVec.ofNat 32 h) lanes v34 k acc) (I2 d L Q Tk b h fQ (k.val + 1)) := by
  unfold runs T2 k1_t2_body I2
  iintro ⟨%ho, HQ, ⟨%f, %hf, HS⟩⟩
  have hk := keeps_q Q Tk b h hQ hT k
  have hchk : k1_chk1 (k1_pay56 v34 acc ((sQ).view.readAt (Elt F) (Rect.unit (s := S10000) (k1_off4 k) S16.size (k1_off4_inb k)).toLoadRect fQ)) := by
    intro a x
    obtain rfl : a = 0 := Subsingleton.elim _ _
    exact slots_lt ho hk x
  sl_exec
  iapply (scatter_sel d L) $$ HS
  iintro HS
  sl_exec
  sl_step
  isplitr
  · ipureintro; exact bump_offset ho hk
  isplitl [HQ]; · iexact HQ
  iexists _; isplitr
  swap; · iexact HS
  ipureintro
  exact chunk (e := .i32) ho hk hf (fun i _ => pay55_apply h k i) hchk

end

/-! ### The list of rows -/

def I3 (b : ℕ) (w : ℕ → ℕ) (k : ℕ) (_ : BitVec 32) : sProp (MM F) :=
  iprop((∃ f : Vec F S272 .i32, ⌜Filled f (fun k => BitVec.ofNat 32 (w k)) 256⌝ ∗ at_ d L sSel f)
    ∗ (∃ f : Vec F S256 .i32, ⌜Filled f (fun k => BitVec.ofNat 32 (20000 * b + w k)) (16 * k)⌝ ∗ at_ d L sGid f))

theorem t3_step (b : ℕ) (w : ℕ → ℕ) (v28 : BitVec 32) (k : Fin k1_t3_loop.trips) (acc : BitVec 32) :
    I3 d L b w k.val acc ⊢ runs d L (T3 (F := F) L (BitVec.ofNat 32 b) v28 lanes k acc) (I3 d L b w (k.val + 1)) := by
  unfold runs T3 k1_t3_body I3
  iintro ⟨⟨%fS, %hS, HS⟩, ⟨%fG, %hG, HG⟩⟩
  have hk : k.val < 16 := k.isLt
  sl_exec
  sl_step
  isplitl [HS]
  · iexists _; isplitr
    swap; · iexact HS
    ipureintro; exact hS
  · iexists _; isplitr
    swap; · iexact HG
    ipureintro
    exact filled_write (sGid).view fG _ (k1_off6_eq k) hG
      fun i => pay58_apply b _ _ (filled_read (sSel).view fS _ (k1_off5_eq k) hS (by omega) i)

/-! ### The boxes' offsets -/

def I5 (b : ℕ) (w : ℕ → ℕ) (k : ℕ) (_ : BitVec 32) : sProp (MM F) :=
  iprop((∃ f : Vec F S272 .i32, ⌜Filled f (fun k => BitVec.ofNat 32 (w k)) 256⌝ ∗ at_ d L sFlat f)
    ∗ (∃ f : Vec F S256 .i32, ⌜Filled f (fun k => BitVec.ofNat 32 (4 * (20000 * b + min (w k / 91) 19999))) (16 * k)⌝ ∗ at_ d L sBq f))

theorem t5_step (b : ℕ) (w : ℕ → ℕ) (hw : ∀ k, w k < 2 ^ 31) (v28 : BitVec 32) (k : Fin k1_t5_loop.trips) (acc : BitVec 32) :
    I5 d L b w k.val acc ⊢ runs d L (T5 (F := F) L (BitVec.ofNat 32 b) v28 lanes k acc) (I5 d L b w (k.val + 1)) := by
  unfold runs T5 k1_t5_body I5
  iintro ⟨⟨%fS, %hS, HS⟩, ⟨%fG, %hG, HG⟩⟩
  have hk : k.val < 16 := k.isLt
  sl_exec
  sl_step
  isplitl [HS]
  · iexists _; isplitr
    swap; · iexact HS
    ipureintro; exact hS
  · iexists _; isplitr
    swap; · iexact HG
    ipureintro
    exact filled_write (sBq).view fG _ (k1_off16_eq k) hG
      fun i => pay61_apply b _ _ (hw _) (filled_read (sFlat).view fS _ (k1_off15_eq k) hS (by omega) i)

/-- The list of offsets of one coordinate of the boxes. -/
def I6 (w : ℕ → ℕ) (c k : ℕ) (_ : BitVec 32) : sProp (MM F) :=
  iprop((∃ f : Vec F S256 .i32, ⌜Filled f (fun k => BitVec.ofNat 32 (w k)) 256⌝ ∗ at_ d L sBq f)
    ∗ (∃ f : Vec F S256 .i32, ⌜Filled f (fun k => BitVec.ofNat 32 (w k + c)) (16 * k)⌝ ∗ at_ d L sEid f))

theorem t6_step (w : ℕ → ℕ) (v31 c38 c39 c41 : BitVec 32) (k : Fin k1_t6_loop.trips) (acc : BitVec 32) :
    I6 d L w 0 k.val acc ⊢ runs d L (T6 (F := F) L v31 c38 c39 c41 k acc) (I6 d L w 0 (k.val + 1)) := by
  unfold runs T6 k1_t6_body I6
  iintro ⟨⟨%fS, %hS, HS⟩, ⟨%fG, %hG, HG⟩⟩
  have hk : k.val < 16 := k.isLt
  sl_exec
  sl_step
  isplitl [HS]
  · iexists _; isplitr
    swap; · iexact HS
    ipureintro; exact hS
  · iexists _; isplitr
    swap; · iexact HG
    ipureintro
    exact filled_write (sEid).view fG _ (k1_off17_eq k) hG
      fun i => pay62_apply _ _ (filled_read (sBq).view fS _ (k1_off17_eq k) hS (by omega) i)

theorem t7_step (w : ℕ → ℕ) (v31 c38 c39 c41 : BitVec 32) (k : Fin k1_t7_loop.trips) (acc : BitVec 32) :
    I6 d L w 1 k.val acc ⊢ runs d L (T7 (F := F) L v31 c38 c39 c41 k acc) (I6 d L w 1 (k.val + 1)) := by
  unfold runs T7 k1_t7_body I6
  iintro ⟨⟨%fS, %hS, HS⟩, ⟨%fG, %hG, HG⟩⟩
  have hk : k.val < 16 := k.isLt
  sl_exec
  sl_step
  isplitl [HS]
  · iexists _; isplitr
    swap; · iexact HS
    ipureintro; exact hS
  · iexists _; isplitr
    swap; · iexact HG
    ipureintro
    exact filled_write (sEid).view fG _ (k1_off19_eq k) hG
      fun i => pay63_apply _ _ (filled_read (sBq).view fS _ (k1_off19_eq k) hS (by omega) i)

theorem t8_step (w : ℕ → ℕ) (v31 c38 c39 c41 : BitVec 32) (k : Fin k1_t8_loop.trips) (acc : BitVec 32) :
    I6 d L w 2 k.val acc ⊢ runs d L (T8 (F := F) L v31 c38 c39 c41 k acc) (I6 d L w 2 (k.val + 1)) := by
  unfold runs T8 k1_t8_body I6
  iintro ⟨⟨%fS, %hS, HS⟩, ⟨%fG, %hG, HG⟩⟩
  have hk : k.val < 16 := k.isLt
  sl_exec
  sl_step
  isplitl [HS]
  · iexists _; isplitr
    swap; · iexact HS
    ipureintro; exact hS
  · iexists _; isplitr
    swap; · iexact HG
    ipureintro
    exact filled_write (sEid).view fG _ (k1_off20_eq k) hG
      fun i => pay64_apply _ _ (filled_read (sBq).view fS _ (k1_off20_eq k) hS (by omega) i)

theorem t9_step (w : ℕ → ℕ) (k : Fin k1_t9_loop.trips) (acc : BitVec 32) :
    I6 d L w 3 k.val acc ⊢ runs d L (T9 (F := F) L  k acc) (I6 d L w 3 (k.val + 1)) := by
  unfold runs T9 k1_t9_body I6
  iintro ⟨⟨%fS, %hS, HS⟩, ⟨%fG, %hG, HG⟩⟩
  have hk : k.val < 16 := k.isLt
  sl_exec
  sl_step
  isplitl [HS]
  · iexists _; isplitr
    swap; · iexact HS
    ipureintro; exact hS
  · iexists _; isplitr
    swap; · iexact HG
    ipureintro
    exact filled_write (sEid).view fG _ (k1_off21_eq k) hG
      fun i => pay1_apply _ _ (filled_read (sBq).view fS _ (k1_off21_eq k) hS (by omega) i)

end

end Cert.Proof.Select

end
-- ==== Proof.Entries.lean ====
/-
  The compaction of the entries: one trip takes one row of the gathered rows, in eight chunks of sixteen, and puts the
  entries that pass into the lists of values and of positions.
-/
module

public import proofs.«01_k».proof.Proof.Loops
public import Idealize.ShloMosaic.Lib.ValueLayout

@[expose] public section

noncomputable section

namespace Cert.Proof.Select

open Cert.KernelIdeal Cert.KernelIdeal.Gen Cert.Proof.Compact Cert.Proof.Spec

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] (d : Dev nD) (L : grid1.Coords)

abbrev P1 [FloatOps F] (L : grid1.Coords) := k1_part1 (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev P2 [FloatOps F] (L : grid1.Coords) := k1_part2 (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev P3 [FloatOps F] (L : grid1.Coords) := k1_part3 (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev P4 [FloatOps F] (L : grid1.Coords) := k1_part4 (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev P5 [FloatOps F] (L : grid1.Coords) := k1_part5 (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev T4 [FloatOps F] (L : grid1.Coords) := k1_t4_body (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7

/-! ## The two lists while they fill -/

def StV (P : ℕ → Prop) [DecidablePred P] (val fill : ℕ → F .f32) (n : ℕ) : sProp (MM F) :=
  iprop(∃ f : Vec F S272 .f32, ⌜Holds f (packed P val fill n)⌝ ∗ at_ d L sVal f)
def StF (P : ℕ → Prop) [DecidablePred P] (val fill : ℕ → BitVec 32) (n : ℕ) : sProp (MM F) :=
  iprop(∃ f : Vec F S272 .i32, ⌜Holds f (packed P val fill n)⌝ ∗ at_ d L sFlat f)

section
variable {P : ℕ → Prop} [DecidablePred P] {n n' : ℕ} {off : BitVec 32} {mask : IVec S16 1} {w : IVec S16 32}
variable {h : ∀ a x, ((![w] : Fin 1 → IVec S16 32) a x).toNat < S272.size a}
variable {α : Type} {Q : α → sProp (MM F)} {k : PUnit → Prog (TpuEff nD τ sig (Elt F) Λ₀ (.scVector (cV L) (jV L))) α}

omit [DecidablePred P] in
/-- A load of the query list by indices, at the head of a program. -/
theorem gather_sel {hl : (sSel).view.Loads} {k : Vec F S16 .i32 → Prog (TpuEff nD τ sig (Elt F) Λ₀ (.scVector (cV L) (jV L))) α} {f : Vec F S272 .i32} :
    at_ d L sSel f ⊢ iprop((at_ d L sSel f -∗ wp frame (wpE (defs₀ (F := F)) 𝒱₀ (thr d L) none) Set.univ (k (loadIdx (s := S272) (t := S16) f ![w] h)) Q)
      -∗ wp frame (wpE (defs₀ (F := F)) 𝒱₀ (thr d L) none) Set.univ (SparseCore.vectorLoadIdx sSel ![w] h hl >>= k) Q) := by
  have H := SparseCore.wp_vectorLoadIdx (defs := defs₀ (F := F)) 𝒱₀ (thr d L) none Set.univ (Q := Q) (base := sSel) (idxs := ![w]) (h := h) (hl := hl)
    (k := k) (S := Finset.univ) (q := fullShare) (f := f) (Finset.subset_univ _)
  rw [show ((sSel).access (.whole S272)).read (Elt F) f = f from Memref.read_access_whole (Elt F) cc1_scratch2 f] at H
  exact H

theorem chunk_val {val fill : ℕ → F .f32} {v : Vec F S16 .f32} {hs : ((sVal).access (.whole S272)).Stores Finset.univ}
    (ho : Offset P n off) (hk : Keeps P n mask) (hw : w = slots off mask) (hv : ∀ i : Fin 16, P (n + i.val) → v (lane i) = val (n + i.val))
    (hn : n' = n + 16) :
    StV d L P val fill n ⊢ iprop((StV d L P val fill n' -∗ wp frame (wpE (defs₀ (F := F)) 𝒱₀ (thr d L) none) Set.univ (k ⟨⟩) Q)
      -∗ wp frame (wpE (defs₀ (F := F)) 𝒱₀ (thr d L) none) Set.univ (SparseCore.vectorStoreIdx sVal ![w] v mask false h hs >>= k) Q) := by
  subst hw hn
  unfold StV
  iintro ⟨%f, %hf, H⟩ Hk
  iapply (scatter_val d L) $$ H
  iintro H
  iapply Hk
  iexists _; isplitr
  swap; · iexact H
  ipureintro
  exact chunk (e := .f32) ho hk hf hv h

theorem chunk_flat {val fill : ℕ → BitVec 32} {v : Vec F S16 .i32} {hs : ((sFlat).access (.whole S272)).Stores Finset.univ}
    (ho : Offset P n off) (hk : Keeps P n mask) (hw : w = slots off mask) (hv : ∀ i : Fin 16, v (lane i) = val (n + i.val))
    (hn : n' = n + 16) :
    StF d L P val fill n ⊢ iprop((StF d L P val fill n' -∗ wp frame (wpE (defs₀ (F := F)) 𝒱₀ (thr d L) none) Set.univ (k ⟨⟩) Q)
      -∗ wp frame (wpE (defs₀ (F := F)) 𝒱₀ (thr d L) none) Set.univ (SparseCore.vectorStoreIdx sFlat ![w] v mask false h hs >>= k) Q) := by
  subst hw hn
  unfold StF
  iintro ⟨%f, %hf, H⟩ Hk
  iapply (scatter_flat d L) $$ H
  iintro H
  iapply Hk
  iexists _; isplitr
  swap; · iexact H
  ipureintro
  exact chunk (e := .i32) ho hk hf (fun i _ => hv i) h

/-- The indices of a chunk are in range. -/
theorem slots_chk (ho : Offset P n off) (hk : Keeps P n mask) :
    ∀ a x, ((![slots off mask] : Fin 1 → IVec S16 32) a x).toNat < S272.size a := fun a x => by
  obtain rfl : a = 0 := Subsingleton.elim _ _
  exact slots_lt ho hk x

end

/-! ## A row's entries -/

section
variable (X : Vec F S320000x128 .f32) (Q : Vec F S320000 .f32) (Tk : Vec F S2048 .f32) (b h : ℕ)

/-- What the subcore gathered of the rows. -/
def RIn (fR : Vec F S256x128 .f32) : Prop := ∀ x : S256x128.Idx, fR x = rowVal X Q Tk b h (x 0).val (x 1).val

/-- What one row's trip knows: the query's number in every lane, and whether the row is used. -/
def RowIn (k : ℕ) (v71 : Vec F S16 .i32) (v73 : IVec S16 1) : Prop :=
  (∀ i : Fin 16, v71 (lane i) = BitVec.ofNat 32 (qs Q Tk b h k)) ∧ ∀ i : Fin 16, v73 (lane i) = 1#1 ↔ k < nsel Q Tk b h

/-- The values and the positions of the entries, and the fillers. -/
abbrev eVal (e : ℕ) : F .f32 := rowVal X Q Tk b h (e / 128) (e % 128)
abbrev ePos (e : ℕ) : BitVec 32 := BitVec.ofNat 32 (qs Q Tk b h (e / 128) * 91 + e % 128)
abbrev fVal (_ : ℕ) : F .f32 := lowest
abbrev fPos (k : ℕ) : BitVec 32 := BitVec.ofNat 32 (spread k * 91)

variable {X Q Tk b h}

theorem row_read {fR : Vec F S256x128 .f32} (hR : RIn X Q Tk b h fR) {k c : ℕ} {off : Fin 2 → ℕ} {inb} (ho : off = ![k, c]) (hs) (i : Fin 16) :
    shapeCast S16 ((sRow).view.readAt (Elt F) (Rect.unit (s := S256x128) off S1x16.size inb).toLoadRect fR) hs (lane i)
      = rowVal X Q Tk b h k (c + i.val) := by
  subst ho
  let y : S1x16.Idx := fun | 0 => (0 : Fin 1) | 1 => i
  have e := shapeCast_apply ((sRow).view.readAt (Elt F) (Rect.unit (s := S256x128) ![k, c] S1x16.size inb).toLoadRect fR) hs (lane i) y (by
    show ((⟨2, ![1, 16]⟩ : Shape).rowMajor y).val = ((⟨1, ![16]⟩ : Shape).rowMajor (lane i)).val
    rw [Shape.rowMajor_val_two, Shape.rowMajor_val_one]
    show 0 * 16 + i.val = i.val
    omega)
  refine e.trans ?_
  have hr := hR ((Rect.unit (s := S256x128) ![k, c] S1x16.size inb).toLoadRect.idx y)
  refine hr.trans ?_
  show rowVal X Q Tk b h (k + 1 * 0) (c + 1 * i.val) = _
  rw [Nat.mul_zero, Nat.add_zero, Nat.one_mul]

theorem ofBool_one (x : Bool) : BitVec.ofBool x = 1#1 ↔ x = true := by cases x <;> decide

theorem and_one : ∀ a b : BitVec 1, a &&& b = 1#1 ↔ a = 1#1 ∧ b = 1#1 := by decide

theorem keeps_e {fR : Vec F S256x128 .f32} (hR : RIn X Q Tk b h fR) {v34 : Vec F S16 .f32} (hT : TIn Tk b v34) {k c n : ℕ} {v71 : Vec F S16 .i32}
    {v73 : IVec S16 1} (hc : RowIn Q Tk b h k v71 v73) {off : Fin 2 → ℕ} {inb} (ho : off = ![k, c]) (hc' : c ≤ 112) (hm : c % 16 = 0) (hs)
    (hn : n = 128 * k + c) :
    Keeps (ePass X Q Tk b h) n
      (andi (cmpf .oge (shapeCast S16 ((sRow).view.readAt (Elt F) (Rect.unit (s := S256x128) off S1x16.size inb).toLoadRect fR) hs) v34) v73) := by
  subst hn
  intro i
  have hi := i.isLt
  refine (and_one _ _).trans ?_
  rw [hc.2 i]
  show FloatOps.cmpf .oge (shapeCast S16 _ hs (lane i)) (v34 (lane i)) = 1#1 ∧ _ ↔ _
  rw [row_read hR ho hs i, hT]
  unfold ePass Pass
  rw [show (128 * k + c + i.val) / 128 = k from by omega, show (128 * k + c + i.val) % 128 = c + i.val from by omega,
    show (128 * k + c + i.val) % 16 = i.val from by omega]
  exact And.comm

theorem eVal_row {fR : Vec F S256x128 .f32} (hR : RIn X Q Tk b h fR) {k c n : ℕ} {off : Fin 2 → ℕ} {inb} (ho : off = ![k, c]) (hc' : c ≤ 112) (hs)
    (hn : n = 128 * k + c) (i : Fin 16) :
    shapeCast S16 ((sRow).view.readAt (Elt F) (Rect.unit (s := S256x128) off S1x16.size inb).toLoadRect fR) hs (lane i)
      = eVal X Q Tk b h (n + i.val) := by
  subst hn
  have hi := i.isLt
  rw [row_read hR ho hs i]
  unfold eVal
  rw [show (128 * k + c + i.val) / 128 = k from by omega, show (128 * k + c + i.val) % 128 = c + i.val from by omega]

theorem ePos_row {k c n : ℕ} {v71 : Vec F S16 .i32} {v73 : IVec S16 1} (hc : RowIn Q Tk b h k v71 v73) (hc' : c ≤ 112)
    (hn : n = 128 * k + c) (i : Fin 16) :
    addi (muli v71 (broadcast S16 91#32)) (addi lanes (broadcast S16 (BitVec.ofNat 32 c))) (lane i) = ePos Q Tk b h (n + i.val) := by
  subst hn
  have hi := i.isLt
  show v71 (lane i) * 91#32 + (lanes (lane i) + BitVec.ofNat 32 c) = _
  rw [hc.1 i, lanes_apply]
  unfold ePos
  rw [show (128 * k + c + i.val) / 128 = k from by omega, show (128 * k + c + i.val) % 128 = c + i.val from by omega]
  apply BitVec.eq_of_toNat_eq
  simp only [BitVec.toNat_add, BitVec.toNat_mul, BitVec.toNat_ofNat]
  omega

/-! ## The parts of a trip -/

variable (X Q Tk b h) in
/-- The lists after `n` entries, with the query list and the rows. -/
def Lists (fS : Vec F S272 .i32) (fR : Vec F S256x128 .f32) (n : ℕ) : sProp (MM F) :=
  iprop(at_ d L sSel fS ∗ at_ d L sRow fR ∗ StV d L (ePass X Q Tk b h) (eVal X Q Tk b h) fVal n ∗ StF d L (ePass X Q Tk b h) (ePos Q Tk b h) fPos n)

variable {fS : Vec F S272 .i32} {fR : Vec F S256x128 .f32} {v34 : Vec F S16 .f32}

variable (X Q Tk b h) in
/-- A chunk read and masked, its store still to come. -/
def Pending (n : ℕ) (off : BitVec 32) (v : Vec F S16 .f32) (mask : IVec S16 1) (c w : IVec S16 32) : Prop :=
  Offset (ePass X Q Tk b h) n off ∧ (∀ i : Fin 16, v (lane i) = eVal X Q Tk b h (n + i.val)) ∧ Keeps (ePass X Q Tk b h) n mask
    ∧ c = cum mask ∧ w = slots off mask

theorem part1 (hS : Filled fS (fun k => BitVec.ofNat 32 (qs Q Tk b h k)) 256) (hR : RIn X Q Tk b h fR) (hT : TIn Tk b v34) {v41 : BitVec 32}
    (h41 : Offset (qPass Q Tk b h) 10000 v41) (k : Fin k1_t4_loop.trips) {acc : BitVec 32} (ho : Offset (ePass X Q Tk b h) (128 * k.val) acc) :
    Lists d L X Q Tk b h fS fR (128 * k.val)
      ⊢ wp frame (wpE (defs₀ (F := F)) 𝒱₀ (thr d L) none) Set.univ (P1 (F := F) L lanes v34 v41 0#32 1#32 k acc) fun r =>
        iprop(⌜RowIn Q Tk b h k.val r.2.1 r.2.2.1
            ∧ Pending X Q Tk b h (128 * k.val + 16) r.2.2.2.1 r.2.2.2.2.1 r.2.2.2.2.2.1 r.2.2.2.2.2.2.1 (k1_pay13 r.2.2.2.2.2.2.2)⌝
          ∗ Lists d L X Q Tk b h fS fR (128 * k.val + 16)) := by
  have hk : k.val < 256 := k.isLt
  have hiv : Scf.iv 0#32 1#32 k = BitVec.ofNat 32 k.val := by
    show 0#32 + BitVec.ofNat 32 k.val * 1#32 = _
    rw [BitVec.zero_add, BitVec.mul_one]
  have hkn : (Scf.iv 0#32 1#32 k : BitVec 32).toNat = k.val := by
    rw [hiv, BitVec.toNat_ofNat]; exact Nat.mod_eq_of_lt (by omega)
  have hc2 : k1_chk2 (broadcast S16 (Scf.iv 0#32 1#32 k)) := by
    intro a x
    obtain rfl : a = 0 := Subsingleton.elim _ _
    show (Scf.iv 0#32 1#32 k : BitVec 32).toNat < 272
    omega
  have hrow : RowIn Q Tk b h k.val (loadIdx (s := S272) (t := S16) fS ![broadcast S16 (Scf.iv 0#32 1#32 k)] hc2) (k1_pay2 v41 (broadcast S16 (Scf.iv 0#32 1#32 k))) := by
    refine ⟨fun i => ?_, fun i => ?_⟩
    · have e := hS (idxAt (s := S272) (t := S16) ![broadcast S16 (Scf.iv 0#32 1#32 k)] hc2 (lane i))
      have e0 : ((idxAt (s := S272) (t := S16) ![broadcast S16 (Scf.iv 0#32 1#32 k)] hc2 (lane i)) 0).val = k.val := hkn
      rw [e0] at e
      exact e hk
    · show BitVec.ofBool (BitVec.slt (Scf.iv 0#32 1#32 k) v41) = 1#1 ↔ _
      have hv : v41.toNat = nsel Q Tk b h := h41
      have hlt : nsel Q Tk b h ≤ 256 := Nat.min_le_right _ _
      have h1 : (Scf.iv 0#32 1#32 k : BitVec 32).toInt = (k.val : ℤ) := by
        rw [BitVec.toInt_eq_toNat_of_lt (by omega), hkn]
      have h2 : v41.toInt = (nsel Q Tk b h : ℤ) := by
        rw [BitVec.toInt_eq_toNat_of_lt (by omega), hv]
      rw [ofBool_one, BitVec.slt, h1, h2, decide_eq_true_eq]
      omega
  have hk0 := keeps_e hR hT hrow (k1_off7_eq k) (by omega) rfl shapeCasts_S1x16_S16 (inb := k1_off7_inb k) rfl
  have hk1 := keeps_e hR hT hrow (k1_off8_eq k) (by omega) rfl shapeCasts_S1x16_S16 (inb := k1_off8_inb k) rfl
  have hc3 : k1_chk3 (k1_pay6 v34 v41 acc (broadcast S16 (Scf.iv 0#32 1#32 k))
      ((sRow).view.readAt (Elt F) (Rect.unit (s := S256x128) (k1_off7 k) S1x16.size (k1_off7_inb k)).toLoadRect fR)) :=
    ⟨slots_chk ho hk0, slots_chk ho hk0⟩
  unfold P1
  rw [k1_part1_eq_skeleton]
  unfold k1_part1_skel Lists
  iintro ⟨HS, HR, HV, HF⟩
  sl_exec
  iapply (gather_sel d L) $$ HS
  iintro HS
  sl_exec
  iapply (chunk_val d L ho hk0 rfl (fun i _ => eVal_row hR (k1_off7_eq k) (by omega) shapeCasts_S1x16_S16 rfl i) rfl) $$ HV
  iintro HV
  iapply (chunk_flat d L ho hk0 rfl (fun i => ePos_row (c := 0) hrow (by omega) rfl i) rfl) $$ HF
  iintro HF
  sl_exec
  sl_step
  isplitr
  · ipureintro
    exact ⟨hrow, bump_offset ho hk0, eVal_row hR (k1_off8_eq k) (by omega) shapeCasts_S1x16_S16 rfl, hk1, rfl, rfl⟩
  isplitl [HS]; · iexact HS
  isplitl [HR]; · iexact HR
  isplitl [HV]; · iexact HV
  iexact HF

theorem part2 (hR : RIn X Q Tk b h fR) (hT : TIn Tk b v34) (k : Fin k1_t4_loop.trips) {v71 : Vec F S16 .i32} {v73 : IVec S16 1}
    (hrow : RowIn Q Tk b h k.val v71 v73) (a : BitVec 32) {v99 : BitVec 32} {v101 : Vec F S16 .f32} {v103 : IVec S16 1} {v106 v110 : IVec S16 32}
    (hp : Pending X Q Tk b h (128 * k.val + 16) v99 v101 v103 v106 (k1_pay13 v110)) :
    Lists d L X Q Tk b h fS fR (128 * k.val + 16)
      ⊢ wp frame (wpE (defs₀ (F := F)) 𝒱₀ (thr d L) none) Set.univ (P2 (F := F) L lanes v34 k a v71 v73 v99 v101 v103 v106 v110) fun r =>
        iprop(⌜Offset (ePass X Q Tk b h) (128 * k.val + 48) (Scalar.minsi (Scalar.addi r.1 r.2) 256#32)⌝ ∗ Lists d L X Q Tk b h fS fR (128 * k.val + 48)) := by
  have hk : k.val < 256 := k.isLt
  obtain ⟨ho, hv, hm, rfl, hw⟩ := hp
  have hk2 := keeps_e hR hT hrow (k1_off9_eq k) (by omega) rfl shapeCasts_S1x16_S16 (inb := k1_off9_inb k) rfl
  have hc4 : k1_chk4 (k1_pay13 v110) := by
    rw [hw]; exact ⟨slots_chk ho hm, slots_chk ho hm⟩
  have ho2 := bump_offset ho hm
  have hc5 : k1_chk5 (k1_pay19 v34 v73 v99 (cum v103) ((sRow).view.readAt (Elt F) (Rect.unit (s := S256x128) (k1_off9 k) S1x16.size (k1_off9_inb k)).toLoadRect fR)) :=
    ⟨slots_chk ho2 hk2, slots_chk ho2 hk2⟩
  unfold P2
  rw [k1_part2_eq_skeleton]
  unfold k1_part2_skel Lists
  iintro ⟨HS, HR, HV, HF⟩
  sl_exec
  iapply (chunk_val d L ho hm hw (fun i _ => hv i) rfl) $$ HV
  iintro HV
  iapply (chunk_flat d L ho hm hw (fun i => ePos_row (c := 16) hrow (by omega) rfl i) rfl) $$ HF
  iintro HF
  sl_exec
  iapply (chunk_val d L ho2 hk2 rfl (fun i _ => eVal_row hR (k1_off9_eq k) (by omega) shapeCasts_S1x16_S16 rfl i) rfl) $$ HV
  iintro HV
  iapply (chunk_flat d L ho2 hk2 rfl (fun i => ePos_row (c := 32) hrow (by omega) rfl i) rfl) $$ HF
  iintro HF
  sl_exec
  sl_step
  isplitr
  · ipureintro
    exact bump_offset ho2 hk2
  isplitl [HS]; · iexact HS
  isplitl [HR]; · iexact HR
  isplitl [HV]; · iexact HV
  iexact HF

theorem part3 (hR : RIn X Q Tk b h fR) (hT : TIn Tk b v34) (k : Fin k1_t4_loop.trips) {v71 : Vec F S16 .i32} {v73 : IVec S16 1}
    (hrow : RowIn Q Tk b h k.val v71 v73) (a : BitVec 32) {v125 v149 : BitVec 32}
    (ho : Offset (ePass X Q Tk b h) (128 * k.val + 48) (Scalar.minsi (Scalar.addi v125 v149) 256#32)) :
    Lists d L X Q Tk b h fS fR (128 * k.val + 48)
      ⊢ wp frame (wpE (defs₀ (F := F)) 𝒱₀ (thr d L) none) Set.univ (P3 (F := F) L lanes v34 k a v71 v73 v125 v149) fun r =>
        iprop(⌜Pending X Q Tk b h (128 * k.val + 64) r.1 r.2.1 r.2.2.1 r.2.2.2.1 r.2.2.2.2⌝ ∗ Lists d L X Q Tk b h fS fR (128 * k.val + 64)) := by
  have hk : k.val < 256 := k.isLt
  have hk0 := keeps_e hR hT hrow (k1_off10_eq k) (by omega) rfl shapeCasts_S1x16_S16 (inb := k1_off10_inb k) rfl
  have hk1 := keeps_e hR hT hrow (k1_off11_eq k) (by omega) rfl shapeCasts_S1x16_S16 (inb := k1_off11_inb k) rfl
  have hc6 : k1_chk6 (k1_pay25 v34 v73 v125 v149 ((sRow).view.readAt (Elt F) (Rect.unit (s := S256x128) (k1_off10 k) S1x16.size (k1_off10_inb k)).toLoadRect fR)) :=
    ⟨slots_chk ho hk0, slots_chk ho hk0⟩
  unfold P3
  rw [k1_part3_eq_skeleton]
  unfold k1_part3_skel Lists
  iintro ⟨HS, HR, HV, HF⟩
  sl_exec
  iapply (chunk_val d L ho hk0 rfl (fun i _ => eVal_row hR (k1_off10_eq k) (by omega) shapeCasts_S1x16_S16 rfl i) rfl) $$ HV
  iintro HV
  iapply (chunk_flat d L ho hk0 rfl (fun i => ePos_row (c := 48) hrow (by omega) rfl i) rfl) $$ HF
  iintro HF
  sl_exec
  sl_step
  isplitr
  · ipureintro
    exact ⟨bump_offset ho hk0, eVal_row hR (k1_off11_eq k) (by omega) shapeCasts_S1x16_S16 rfl, hk1, rfl, rfl⟩
  isplitl [HS]; · iexact HS
  isplitl [HR]; · iexact HR
  isplitl [HV]; · iexact HV
  iexact HF

theorem part4 (hR : RIn X Q Tk b h fR) (hT : TIn Tk b v34) (k : Fin k1_t4_loop.trips) {v71 : Vec F S16 .i32} {v73 : IVec S16 1}
    (hrow : RowIn Q Tk b h k.val v71 v73) (a : BitVec 32) {v177 : BitVec 32} {v179 : Vec F S16 .f32} {v181 : IVec S16 1} {v184 v190 : IVec S16 32}
    (hp : Pending X Q Tk b h (128 * k.val + 64) v177 v179 v181 v184 v190) :
    Lists d L X Q Tk b h fS fR (128 * k.val + 64)
      ⊢ wp frame (wpE (defs₀ (F := F)) 𝒱₀ (thr d L) none) Set.univ (P4 (F := F) L lanes v34 k a v71 v73 v177 v179 v181 v184 v190) fun r =>
        iprop(⌜Offset (ePass X Q Tk b h) (128 * k.val + 96) r⌝ ∗ Lists d L X Q Tk b h fS fR (128 * k.val + 96)) := by
  have hk : k.val < 256 := k.isLt
  obtain ⟨ho, hv, hm, rfl, rfl⟩ := hp
  have hk2 := keeps_e hR hT hrow (k1_off12_eq k) (by omega) rfl shapeCasts_S1x16_S16 (inb := k1_off12_inb k) rfl
  have hc7 : k1_chk7 (slots v177 v181) := ⟨slots_chk ho hm, slots_chk ho hm⟩
  have ho2 := bump_offset ho hm
  have hc8 : k1_chk8 (k1_pay37 v34 v73 v177 (cum v181) ((sRow).view.readAt (Elt F) (Rect.unit (s := S256x128) (k1_off12 k) S1x16.size (k1_off12_inb k)).toLoadRect fR)) :=
    ⟨slots_chk ho2 hk2, slots_chk ho2 hk2⟩
  unfold P4
  rw [k1_part4_eq_skeleton]
  unfold k1_part4_skel Lists
  iintro ⟨HS, HR, HV, HF⟩
  sl_exec
  iapply (chunk_val d L ho hm rfl (fun i _ => hv i) rfl) $$ HV
  iintro HV
  iapply (chunk_flat d L ho hm rfl (fun i => ePos_row (c := 64) hrow (by omega) rfl i) rfl) $$ HF
  iintro HF
  sl_exec
  iapply (chunk_val d L ho2 hk2 rfl (fun i _ => eVal_row hR (k1_off12_eq k) (by omega) shapeCasts_S1x16_S16 rfl i) rfl) $$ HV
  iintro HV
  iapply (chunk_flat d L ho2 hk2 rfl (fun i => ePos_row (c := 80) hrow (by omega) rfl i) rfl) $$ HF
  iintro HF
  sl_exec
  sl_step
  isplitr
  · ipureintro
    exact bump_offset ho2 hk2
  isplitl [HS]; · iexact HS
  isplitl [HR]; · iexact HR
  isplitl [HV]; · iexact HV
  iexact HF

theorem part5 (hR : RIn X Q Tk b h fR) (hT : TIn Tk b v34) (k : Fin k1_t4_loop.trips) {v71 : Vec F S16 .i32} {v73 : IVec S16 1}
    (hrow : RowIn Q Tk b h k.val v71 v73) (a : BitVec 32) {v229 : BitVec 32} (ho : Offset (ePass X Q Tk b h) (128 * k.val + 96) v229) :
    Lists d L X Q Tk b h fS fR (128 * k.val + 96)
      ⊢ wp frame (wpE (defs₀ (F := F)) 𝒱₀ (thr d L) none) Set.univ (P5 (F := F) L lanes v34 k a v71 v73 v229) fun r =>
        iprop(⌜Offset (ePass X Q Tk b h) (128 * k.val + 112) r.1 ∧ Keeps (ePass X Q Tk b h) (128 * k.val + 112) r.2.1 ∧ r.2.2.1 = cum r.2.1
            ∧ r.2.2.2.1 = slots r.1 r.2.1 ∧ r.2.2.2.2.2 = 91#32⌝
          ∗ at_ d L sSel fS ∗ at_ d L sRow fR ∗ StV d L (ePass X Q Tk b h) (eVal X Q Tk b h) fVal (128 * k.val + 128)
          ∗ StF d L (ePass X Q Tk b h) (ePos Q Tk b h) fPos (128 * k.val + 112)) := by
  have hk : k.val < 256 := k.isLt
  have hk0 := keeps_e hR hT hrow (k1_off13_eq k) (by omega) rfl shapeCasts_S1x16_S16 (inb := k1_off13_inb k) rfl
  have hk1 := keeps_e hR hT hrow (k1_off14_eq k) (by omega) rfl shapeCasts_S1x16_S16 (inb := k1_off14_inb k) rfl
  have ho1 := bump_offset ho hk0
  have hc9 : k1_chk9 (k1_pay43 v34 v73 v229 ((sRow).view.readAt (Elt F) (Rect.unit (s := S256x128) (k1_off13 k) S1x16.size (k1_off13_inb k)).toLoadRect fR)) :=
    ⟨slots_chk ho hk0, slots_chk ho hk0⟩
  have hc10 : k1_chk10 (k1_pay49 v34 v73 v229 ((sRow).view.readAt (Elt F) (Rect.unit (s := S256x128) (k1_off13 k) S1x16.size (k1_off13_inb k)).toLoadRect fR)
      ((sRow).view.readAt (Elt F) (Rect.unit (s := S256x128) (k1_off14 k) S1x16.size (k1_off14_inb k)).toLoadRect fR)) :=
    ⟨slots_chk ho1 hk1, slots_chk ho1 hk1⟩
  unfold P5
  rw [k1_part5_eq_skeleton]
  unfold k1_part5_skel Lists
  iintro ⟨HS, HR, HV, HF⟩
  sl_exec
  iapply (chunk_val d L ho hk0 rfl (fun i _ => eVal_row hR (k1_off13_eq k) (by omega) shapeCasts_S1x16_S16 rfl i) rfl) $$ HV
  iintro HV
  iapply (chunk_flat d L ho hk0 rfl (fun i => ePos_row (c := 96) hrow (by omega) rfl i) rfl) $$ HF
  iintro HF
  sl_exec
  iapply (chunk_val d L ho1 hk1 rfl (fun i _ => eVal_row hR (k1_off14_eq k) (by omega) shapeCasts_S1x16_S16 rfl i) rfl) $$ HV
  iintro HV
  sl_exec
  sl_step
  isplitr
  · ipureintro
    exact ⟨ho1, hk1, rfl, rfl, rfl⟩
  isplitl [HS]; · iexact HS
  isplitl [HR]; · iexact HR
  isplitl [HV]; · iexact HV
  iexact HF

/-! ## One row -/

variable (X Q Tk b h) in
def I4 (fS : Vec F S272 .i32) (fR : Vec F S256x128 .f32) (k : ℕ) (acc : BitVec 32) : sProp (MM F) :=
  iprop(⌜Offset (ePass X Q Tk b h) (128 * k) acc⌝ ∗ Lists d L X Q Tk b h fS fR (128 * k))

theorem pure_left {φ : Prop} {R R' : sProp (MM F)} (hr : φ → R ⊢ R') : iprop(⌜φ⌝ ∗ R) ⊢ R' := by
  iintro ⟨%hφ, H⟩
  iapply (hr hφ) $$ H

/-- A program followed by another. -/
theorem seq {α β : Type} {R : sProp (MM F)} {p : Prog (TpuEff nD τ sig (Elt F) Λ₀ (.scVector (cV L) (jV L))) α}
    {g : α → Prog (TpuEff nD τ sig (Elt F) Λ₀ (.scVector (cV L) (jV L))) β} {Φ : α → sProp (MM F)} {Ψ : β → sProp (MM F)}
    (hp : R ⊢ wp frame (wpE (defs₀ (F := F)) 𝒱₀ (thr d L) none) Set.univ p Φ) (hg : ∀ a, Φ a ⊢ wp frame (wpE (defs₀ (F := F)) 𝒱₀ (thr d L) none) Set.univ (g a) Ψ) :
    R ⊢ wp frame (wpE (defs₀ (F := F)) 𝒱₀ (thr d L) none) Set.univ (p >>= g) Ψ := by
  rw [wp_bind]
  exact hp.trans (wp_mono frame _ _ hg)

theorem t4_step (hS : Filled fS (fun k => BitVec.ofNat 32 (qs Q Tk b h k)) 256) (hR : RIn X Q Tk b h fR) (hT : TIn Tk b v34) {v41 : BitVec 32}
    (h41 : Offset (qPass Q Tk b h) 10000 v41) (v18 v28 : BitVec 32) (k : Fin k1_t4_loop.trips) (acc : BitVec 32) :
    I4 d L X Q Tk b h fS fR k.val acc
      ⊢ wp frame (wpE (defs₀ (F := F)) 𝒱₀ (thr d L) none) Set.univ (T4 (F := F) L v18 v28 lanes v34 v41 k acc) (I4 d L X Q Tk b h fS fR (k.val + 1)) := by
  have hk : k.val < 256 := k.isLt
  unfold T4 k1_t4_body I4
  refine pure_left fun ho => ?_
  refine seq d L (part1 d L hS hR hT h41 k ho) ?_
  rintro ⟨a, v71, v73, v99, v101, v103, v106, v110⟩
  refine pure_left fun ⟨hrow, hp⟩ => ?_
  refine seq d L (part2 d L hR hT k hrow a hp) ?_
  rintro ⟨v125, v149⟩
  refine pure_left fun ho => ?_
  refine seq d L (part3 d L hR hT k hrow a ho) ?_
  rintro ⟨v177, v179, v181, v184, v190⟩
  refine pure_left fun hp => ?_
  refine seq d L (part4 d L hR hT k hrow a hp) ?_
  rintro v229
  refine pure_left fun ho => ?_
  refine seq d L (part5 d L hR hT k hrow a ho) ?_
  rintro ⟨v255, v259, v262, v268, hw10, c91⟩
  refine pure_left fun ⟨ho, hm, hc, hw, h91⟩ => ?_
  dsimp only at ho hm hc hw h91
  subst hc h91
  iintro ⟨HS, HR, HV, HF⟩
  iapply (chunk_flat d L ho hm hw (fun i => ePos_row (c := 112) hrow (by omega) rfl i) rfl) $$ HF
  iintro HF
  sl_exec
  sl_step
  isplitr
  · ipureintro
    exact bump_offset ho hm
  unfold Lists
  isplitl [HS]; · iexact HS
  isplitl [HR]; · iexact HR
  isplitl [HV]; · iexact HV
  iexact HF

end

end Cert.Proof.Select

end
-- ==== Proof.Tile.lean ====
/-
  One subcore's run: the fetches, the loops and the gathers in order, from the arrays' contents to the subcore's windows of
  the results.
-/
module

public import proofs.«01_k».proof.Proof.Entries
public import Idealize.ShloMosaic.Lib.SparseCore.FromWhole

@[expose] public section

noncomputable section

namespace Cert.Proof.Select

open Cert.KernelIdeal Cert.KernelIdeal.Gen Cert.Proof.Compact Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] (d : Dev nD) (L : grid1.Coords)

abbrev P6 [FloatOps F] (L : grid1.Coords) := k1_part6 (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev P7 [FloatOps F] (L : grid1.Coords) := k1_part7 (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7
abbrev P8 [FloatOps F] (L : grid1.Coords) := k1_part8 (F := F) L aX (Memref.isWhole_whole _) aB (Memref.isWhole_whole _) aQ (Memref.isWhole_whole _) aT (Memref.isWhole_whole _)
    oV (Memref.isWhole_whole _) oF (Memref.isWhole_whole _) oB (Memref.isWhole_whole _)
    sT (Memref.isWhole_whole _) sQ (Memref.isWhole_whole _) sSel (Memref.isWhole_whole _) sGid (Memref.isWhole_whole _)
    sRow (Memref.isWhole_whole _) sVal (Memref.isWhole_whole _) sFlat (Memref.isWhole_whole _) sBq (Memref.isWhole_whole _)
    sEid (Memref.isWhole_whole _) sBox (Memref.isWhole_whole _) cc1_scratch10 cc1_scratch11
    cc1_scoped0 cc1_scoped1 cc1_scoped2 cc1_scoped3 cc1_scoped4 cc1_scoped5 cc1_scoped6 cc1_scoped7

/-- What the subcore owes the launch, its waits grown by its own. -/
def Owed (O : CellTallies nD τ sig (HIx 1)) (W : Waits sig (HIx 1)) : sProp (MM F) :=
  iprop(∃ W', ⌜∀ p ∈ W', p ∈ W ∨ p.2 = none⌝ ∗ owes (thr d L) O W')

theorem waits_insert {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

/-- The subcore may wait on its own semaphores. -/
abbrev May (O : CellTallies nD τ sig (HIx 1)) : sProp (MM F) := Transfers.MayWaits (thr d L) (default : HIx 1) O

omit [FloatOps F] in
/-- A window of an array of one axis, read from its start. -/
theorem read_window {κ : Kind} {sp : Space} {e : EltTy} {N n : ℕ} [NeZero N] (m : Memref sig κ sp ⟨1, ![N]⟩ e) {off : Fin 1 → ℕ} {inb hst} {o : ℕ}
    (ho : off = ![o]) (f : m.view.ty.Contents (Elt F)) (x : (⟨1, ![n]⟩ : Shape).Idx) :
    (m.slice (Rect.unit (s := ⟨1, ![N]⟩) off (⟨1, ![n]⟩ : Shape).size inb) hst).view.read (Elt F) f x = m.view.read (Elt F) f (ix1 N (o + (x 0).val)) := by
  subst ho
  rw [View.read_apply, View.read_apply]
  congr 2
  show m.view.emb _ = _
  congr 1
  apply eq_ix1
  show o + 1 * (x 0).val = _
  omega

omit [FloatOps F] in
/-- The rows a list of 256 words names. -/
theorem rows_val {o z : ℕ} {f : S256.Idx → BitVec 32} {w : ℕ → ℕ} (hf : Filled f (fun k => BitVec.ofNat 32 (w k)) 256) (hw : ∀ k, w k < z)
    (hz : z ≤ 2 ^ 32) (hn : S256.numel = o) (h : ∀ x, (f x).toNat < z) (k : Fin o) :
    (SparseCore.rows (F := F) (si := S256) f hn h k).val = w k.val := by
  have e := Shape.rowMajor_val_one (d := ![256]) (S256.rowMajor.symm (k.cast hn.symm))
  rw [Equiv.apply_symm_apply] at e
  have e' : ((S256.rowMajor.symm (k.cast hn.symm)) 0).val = k.val := e.symm
  have hk : k.val < 256 := (hn ▸ k.isLt : k.val < S256.numel)
  show (f (S256.rowMajor.symm (k.cast hn.symm))).toNat = _
  rw [hf _ (by rw [e']; exact hk), e', BitVec.toNat_ofNat, Nat.mod_eq_of_lt (lt_of_lt_of_le (hw _) hz)]

omit [FloatOps F] in
theorem filled_inb {z : ℕ} {f : S256.Idx → BitVec 32} {w : ℕ → ℕ} (hf : Filled f (fun k => BitVec.ofNat 32 (w k)) 256) (hw : ∀ k, w k < z)
    (hz : z ≤ 2 ^ 32) (x : S256.Idx) : (f x).toNat < z := by
  rw [hf x (x 0).isLt, BitVec.toNat_ofNat, Nat.mod_eq_of_lt (lt_of_lt_of_le (hw _) hz)]
  exact hw _

abbrev aXs : Memref sig .scVector .hbm S320000x128 .f32 :=
  (aX).slice (Rect.unit (s := S320000x128) ![0, 0] S320000x128.size inb_S320000x128_S320000x128_0_0) (fun _ => rfl)
abbrev aBs : Memref sig .scVector .hbm S1280000 .f32 :=
  (aB).slice (Rect.unit (s := S1280000) ![0] S1280000.size inb_S1280000_S1280000_0) (fun _ => rfl)

omit [FloatOps F] in
/-- The gathered rows, element by element. -/
theorem rows_payload {X : Vec F S320000x128 .f32} {r : Fin (S256x128.size gathers_S320000x128_S256x128.axis') → Fin (S320000x128.size gathers_S320000x128_S256x128.axis)}
    {w : ℕ → ℕ} (hr : ∀ k, (r k).val = w k.val) (x : S256x128.Idx) :
    SparseCore.gatherPayload gathers_S320000x128_S256x128 ((aXs).view.read (Elt F) X) r x = X (ix2 320000 128 (w (x 0).val) (x 1).val) := by
  unfold SparseCore.gatherPayload
  rw [View.read_apply]
  refine (cast_eq _ _).trans ?_
  congr 1
  apply eq_ix2
  · show 0 + 1 * (gathers_S320000x128_S256x128.idx r x 0).val = _
    rw [show (gathers_S320000x128_S256x128.idx r x 0).val = _ from
      congrArg Fin.val (Shape.Gathers.idx_axis gathers_S320000x128_S256x128 r x), hr]
    show 0 + 1 * w (x 0).val = _
    omega
  · show 0 + 1 * (gathers_S320000x128_S256x128.idx r x 1).val = _
    rw [Shape.Gathers.idx_of_ne gathers_S320000x128_S256x128 r x 1 (by decide)]
    show 0 + 1 * (x 1).val = _
    omega

omit [FloatOps F] in
/-- The gathered coordinates of the boxes. -/
theorem boxes_payload {B : Vec F S1280000 .f32} {r : Fin (S256.size gathers_S1280000_S256.axis') → Fin (S1280000.size gathers_S1280000_S256.axis)}
    {w : ℕ → ℕ} (hr : ∀ k, (r k).val = w k.val) (x : S256.Idx) :
    SparseCore.gatherPayload gathers_S1280000_S256 ((aBs).view.read (Elt F) B) r x = B (ix1 1280000 (w (x 0).val)) := by
  unfold SparseCore.gatherPayload
  rw [View.read_apply]
  refine (cast_eq _ _).trans ?_
  congr 1
  apply eq_ix1
  show 0 + 1 * (gathers_S1280000_S256.idx r x 0).val = _
  rw [show (gathers_S1280000_S256.idx r x 0).val = _ from
    congrArg Fin.val (Shape.Gathers.idx_axis gathers_S1280000_S256 r x), hr]
  show 0 + 1 * w (x 0).val = _
  omega

section
variable (X : Vec F S320000x128 .f32) (B : Vec F S1280000 .f32) (Q : Vec F S320000 .f32) (Tk : Vec F S2048 .f32) (q : PosShare TreeShare)
  (O : CellTallies nD τ sig (HIx 1)) (W : Waits sig (HIx 1))

/-- The subcore's image and half. -/
abbrev im : ℕ := (L 1).val
abbrev hf : ℕ := (L 0).val

theorem part6_run :
    iprop(May d L O ∗ (aT.view.loc (thr d L) ↦{q} Tk) ∗ (∃ f : Vec F S16 .f32, at_ d L sT f) ∗ semVal (cell d L cc1_scoped0) 0 ∗ Owed d L O W)
      ⊢ wp frame (wpE (defs₀ (F := F)) 𝒱₀ (thr d L) none) Set.univ (P6 (F := F) L) fun r =>
        iprop(⌜r.1 = BitVec.ofNat 32 (im L) ∧ r.2.1 = BitVec.ofNat 32 (hf L) ∧ r.2.2.2 = lanes⌝ ∗ (aT.view.loc (thr d L) ↦{q} Tk)
          ∗ (∃ f : Vec F S16 .f32, ⌜TIn Tk (im L) f⌝ ∗ at_ d L sT f) ∗ semVal (cell d L cc1_scoped0) 0 ∗ Owed d L O W) := by
  unfold P6
  rw [k1_part6_eq_skeleton]; unfold k1_part6_skel Owed May
  iintro ⟨#Hmw, HT, ⟨%f, Hs⟩, Hv, %W', %hW', HO⟩
  sl_exec
  sl_step
  isplitr
  · ipureintro
    refine ⟨?_, ?_, rfl⟩
    · revert L; decide +kernel
    · revert L; decide +kernel
  isplitl [HT]; · iexact HT
  isplitl [Hs]
  · iexists _; isplitr
    swap; · iexact Hs
    ipureintro
    intro i
    rw [View.write_whole_univ]
    exact read_window aT (off1_eq L) Tk (lane i)
  isplitl [Hv]; · iexact Hv
  iexists _; isplitr
  swap; · iexact HO
  ipureintro
  exact waits_insert hW'

theorem tIn_load {f : Vec F S16 .f32} (hT : TIn Tk (im L) f) :
    TIn Tk (im L) ((sT).view.readAt (Elt F) (Rect.unit (s := S16) ![0] S16.size inb_S16_S16_0).toLoadRect f) := by
  have hf' : Filled f (fun i => Tk (ix1 2048 (128 * im L + i))) 16 := fun x _ => by
    conv_lhs => rw [lane_surj x]
    exact hT _
  intro i
  rw [filled_read (sT).view f _ rfl hf' (by omega) i, Nat.zero_add]

theorem gid_lt (k : ℕ) : 20000 * im L + qs Q Tk (im L) (hf L) k < 320000 := by
  have h1 : im L < 16 := (L 1).isLt
  have := qs_lt Q Tk (b := im L) (h := hf L) (L 0).isLt k
  omega

theorem part7_run :
    iprop(May d L O ∗ (aX.view.loc (thr d L) ↦{q} X) ∗ (aQ.view.loc (thr d L) ↦{q} Q)
        ∗ (∃ f : Vec F S16 .f32, ⌜TIn Tk (im L) f⌝ ∗ at_ d L sT f) ∗ (∃ f : Vec F S10000 .f32, at_ d L sQ f)
        ∗ (∃ f : Vec F S272 .i32, at_ d L sSel f) ∗ (∃ f : Vec F S256 .i32, at_ d L sGid f) ∗ (∃ f : Vec F S256x128 .f32, at_ d L sRow f)
        ∗ (∃ f : Vec F S272 .f32, at_ d L sVal f) ∗ (∃ f : Vec F S272 .i32, at_ d L sFlat f) ∗ (∃ f : Vec F S256 .i32, at_ d L sBq f)
        ∗ semVal (cell d L cc1_scoped1) 0 ∗ semVal (cell d L cc1_scratch10) 0 ∗ Owed d L O W)
      ⊢ wp frame (wpE (defs₀ (F := F)) 𝒱₀ (thr d L) none) Set.univ
          (P7 (F := F) L (BitVec.ofNat 32 (im L)) (BitVec.ofNat 32 (hf L)) lanes) fun _ =>
        iprop((aX.view.loc (thr d L) ↦{q} X) ∗ (aQ.view.loc (thr d L) ↦{q} Q)
          ∗ (∃ f : Vec F S16 .f32, at_ d L sT f) ∗ (∃ f : Vec F S10000 .f32, at_ d L sQ f)
          ∗ (∃ f : Vec F S272 .i32, at_ d L sSel f) ∗ (∃ f : Vec F S256 .i32, at_ d L sGid f) ∗ (∃ f : Vec F S256x128 .f32, at_ d L sRow f)
          ∗ (∃ f : Vec F S272 .f32, ⌜Filled f (vals X Q Tk (im L) (hf L)) 256⌝ ∗ at_ d L sVal f)
          ∗ (∃ f : Vec F S272 .i32, ⌜Filled f (fun k => BitVec.ofNat 32 (flat X Q Tk (im L) (hf L) k)) 256⌝ ∗ at_ d L sFlat f)
          ∗ (∃ f : Vec F S256 .i32, ⌜Filled f (fun k => BitVec.ofNat 32 (4 * boxOf X Q Tk (im L) (hf L) k)) 256⌝ ∗ at_ d L sBq f)
          ∗ semVal (cell d L cc1_scoped1) 0 ∗ semVal (cell d L cc1_scratch10) 0 ∗ Owed d L O W) := by
  unfold P7
  rw [k1_part7_eq_skeleton]; unfold k1_part7_skel Owed May
  iintro ⟨#Hmw, HX, HQ, ⟨%fT, %hT, HT⟩, ⟨%fQ0, HsQ⟩, ⟨%fS0, HS⟩, ⟨%fG0, HG⟩, ⟨%fR0, HR⟩, ⟨%fV0, HV⟩, ⟨%fF0, HF⟩, ⟨%fB0, HB⟩, Hv1, Hv10, %W', %hW', HO⟩
  have hT' := tIn_load (F := F) L Tk hT
  sl_exec
  sl_for (I1 d L) $$ [HS HV HF]
  case region => intro k acc; exact t1_step d L _ _ k acc
  · unfold I1
    isplitl [HS]
    · iexists fS0; isplitr
      · ipureintro; intro x hx; exact absurd hx (Nat.not_lt_zero _)
      · iexact HS
    isplitl [HV]
    · iexists fV0; isplitr
      · ipureintro; intro x hx; exact absurd hx (Nat.not_lt_zero _)
      · iexact HV
    · iexists fF0; isplitr
      · ipureintro; intro x hx; exact absurd hx (Nat.not_lt_zero _)
      · iexact HF
  iintro %a1 HI
  unfold I1
  icases HI with ⟨⟨%fS1, %hS1, HS⟩, ⟨%fV1, %hV1, HV⟩, ⟨%fF1, %hF1, HF⟩⟩
  sl_exec
  -- the selected queries
  have hQ : QIn Q (im L) (hf L) (View.write (Elt F) (sQ).view fQ0 (part7_run.sl.dma1 L Q) Finset.univ) := by
    rw [View.write_whole_univ]
    intro x _
    exact read_window aQ (off2_eq L) Q x
  sl_for (I2 d L Q Tk (im L) (hf L) (View.write (Elt F) (sQ).view fQ0 (part7_run.sl.dma1 L Q) Finset.univ)) $$ [HsQ HS]
  case region => intro k acc; exact t2_step d L Q Tk _ _ hQ hT' _ k acc
  · unfold I2
    isplitr
    · ipureintro; unfold Offset; simp
    isplitl [HsQ]; · iexact HsQ
    iexists fS1; isplitr
    swap; · iexact HS
    ipureintro
    intro x hx
    rw [show 16 * 0 = 0 from rfl, packed_zero]
    exact hS1 x (lt_of_lt_of_le hx (by decide))
  iintro %v41 HI
  unfold I2
  icases HI with ⟨%h41, HsQ, ⟨%fS2, %hS2, HS⟩⟩
  replace hS2 : Filled fS2 (fun k => BitVec.ofNat 32 (qs Q Tk (im L) (hf L) k)) 256 := by
    intro x hx
    rw [hS2 x hx]
    exact (packed_map (BitVec.ofNat 32) (qPass Q Tk (im L) (hf L)) (fun e => 10000 * hf L + e) spread 10000 (x 0).val).symm
  replace h41 : Offset (qPass Q Tk (im L) (hf L)) 10000 v41 := h41
  sl_exec
  -- the list of rows
  sl_for (I3 d L (im L) (qs Q Tk (im L) (hf L))) $$ [HS HG]
  case region => intro k acc; exact t3_step d L _ _ _ k acc
  · unfold I3
    isplitl [HS]
    · iexists fS2; isplitr
      · ipureintro; exact hS2
      · iexact HS
    · iexists fG0; isplitr
      · ipureintro; intro x hx; exact absurd hx (Nat.not_lt_zero _)
      · iexact HG
  iintro %a3 HI
  unfold I3
  icases HI with ⟨⟨%fS3, %hS3, HS⟩, ⟨%fG3, %hG3, HG⟩⟩
  replace hG3 : Filled fG3 (fun k => BitVec.ofNat 32 (20000 * im L + qs Q Tk (im L) (hf L) k)) 256 := hG3
  sl_exec
  -- the gather of the rows
  have hN : ∀ h : S320000x128.Gathers 0 S256x128, ∑ j, ((sRow).slice (S256x128.rowRect h.axis' j) (S256x128.stride_rowRect h.axis' j)).view.dmaCredit
      = (sRow).view.dmaCredit := by decide
  have hin : ∀ x, ((sGid).view.read (Elt F) fG3 x).toNat < S320000x128.size gathers_S320000x128_S256x128.axis :=
    fun x => filled_inb hG3 (gid_lt L Q Tk) (by norm_num) x
  iapply (SparseCore.wp_gatherFromWhole countersEmb 𝒱₀ (thr d L) none (src := aXs) (hg := gathers_S320000x128_S256x128) (default : HIx 1)
      (sRow).view.dmaCredit (hN _) (by decide) hin) $$ [HX HR HG Hv10]
  · isplitl [HX]; · iexact HX
    isplitl [HR]; · iexact HR
    isplitl [HG]; · iexact HG
    iexact Hv10
  iintro Hfl
  sl_exec
  iapply (Transfers.wp_waitLocalO countersEmb 𝒱₀ (thr d L) none (default : HIx 1) (rfl : (sRow).view.dmaCredit = _)) $$ [Hfl HO]
  · isplitl [Hfl]; · iexact Hfl
    isplitl [HO]; · iexact HO
    iapply (Transfers.MayWaits.elim (SemLoc.dma cc1_scratch10.sem)) $$ Hmw
  iintro ⟨⟨HR, HX, HG⟩, Hv10, HO⟩
  rw [View.write_whole_univ, View.write_whole_univ]
  have hR : RIn X Q Tk (im L) (hf L) (SparseCore.gatherPayload gathers_S320000x128_S256x128 ((aXs).view.read (Elt F) X)
      (SparseCore.rows ((sGid).view.read (Elt F) fG3) cc1__select_body_skel._proof_3 hin)) := fun x =>
    rows_payload (w := fun k => 20000 * im L + qs Q Tk (im L) (hf L) k)
      (fun k => rows_val (F := F) hG3 (gid_lt L Q Tk) (by norm_num) _ _ k) x
  sl_exec
  -- the entries kept
  sl_for (I4 d L X Q Tk (im L) (hf L) fS3 (SparseCore.gatherPayload gathers_S320000x128_S256x128 ((aXs).view.read (Elt F) X)
      (SparseCore.rows ((sGid).view.read (Elt F) fG3) cc1__select_body_skel._proof_3 hin))) $$ [HS HR HV HF]
  case region => intro k acc; exact t4_step d L hS3 hR hT' h41 _ _ k acc
  · unfold I4 Lists StV StF
    isplitr
    · ipureintro; unfold Offset; simp
    isplitl [HS]; · iexact HS
    isplitl [HR]; · iexact HR
    isplitl [HV]
    · iexists fV1; isplitr
      swap; · iexact HV
      ipureintro
      intro x hx
      rw [show 128 * 0 = 0 from rfl, packed_zero]
      exact hV1 x (lt_of_lt_of_le hx (by decide))
    · iexists fF1; isplitr
      swap; · iexact HF
      ipureintro
      intro x hx
      rw [show 128 * 0 = 0 from rfl, packed_zero]
      exact hF1 x (lt_of_lt_of_le hx (by decide))
  iintro %a4 HI
  unfold I4 Lists StV StF
  icases HI with ⟨-, HS, HR, ⟨%fV4, %hV4, HV⟩, ⟨%fF4, %hF4, HF⟩⟩
  replace hV4 : Filled fV4 (vals X Q Tk (im L) (hf L)) 256 := fun x hx => hV4 x hx
  replace hF4 : Filled fF4 (fun k => BitVec.ofNat 32 (flat X Q Tk (im L) (hf L) k)) 256 := by
    intro x hx
    rw [hF4 x hx]
    exact (packed_map (BitVec.ofNat 32) (ePass X Q Tk (im L) (hf L)) (fun e => qs Q Tk (im L) (hf L) (e / 128) * 91 + e % 128)
      (fun k => spread k * 91) 32768 (x 0).val).symm
  sl_exec
  -- the boxes' offsets
  sl_for (I5 d L (im L) (flat X Q Tk (im L) (hf L))) $$ [HF HB]
  case region =>
    intro k acc
    exact t5_step d L _ _ (fun k => lt_of_lt_of_le (flat_lt X Q Tk (b := im L) (h := hf L) (L 0).isLt k) (by norm_num)) _ k acc
  · unfold I5
    isplitl [HF]
    · iexists fF4; isplitr
      · ipureintro; exact hF4
      · iexact HF
    · iexists fB0; isplitr
      · ipureintro; intro x hx; exact absurd hx (Nat.not_lt_zero _)
      · iexact HB
  iintro %a5 HI
  unfold I5
  icases HI with ⟨⟨%fF5, %hF5, HF⟩, ⟨%fB5, %hB5, HB⟩⟩
  replace hB5 : Filled fB5 (fun k => BitVec.ofNat 32 (4 * boxOf X Q Tk (im L) (hf L) k)) 256 := hB5
  sl_exec
  sl_step
  isplitl [HX]; · iexact HX
  isplitl [HQ]; · iexact HQ
  isplitl [HT]; · iexists _; iexact HT
  isplitl [HsQ]; · iexists _; iexact HsQ
  isplitl [HS]; · iexists _; iexact HS
  isplitl [HG]; · iexists _; iexact HG
  isplitl [HR]; · iexists _; iexact HR
  isplitl [HV]
  · iexists fV4; isplitr
    · ipureintro; exact hV4
    · iexact HV
  isplitl [HF]
  · iexists fF5; isplitr
    · ipureintro; exact hF5
    · iexact HF
  isplitl [HB]
  · iexists fB5; isplitr
    · ipureintro; exact hB5
    · iexact HB
  isplitl [Hv1]; · iexact Hv1
  isplitl [Hv10]; · iexact Hv10
  iexists _; isplitr
  swap; · iexact HO
  ipureintro
  exact waits_insert (waits_insert hW')

/-! ### The boxes' coordinates, gathered and written out -/

/-- The subcore's windows of the results. -/
abbrev wB (w : BitVec 32) (inb : ∀ a, k1_off18 L w a + S256.size a ≤ S32768.size a) : Memref sig .scVector .hbm S256 .f32 :=
  (oB).slice (Rect.unit (s := S32768) (k1_off18 L w) S256.size inb) (fun _ => rfl)
abbrev wV : Memref sig .scVector .hbm S256 .f32 :=
  (oV).slice (Rect.unit (s := S8192) (k1_off22 L) S256.size (k1_off22_inb L)) (fun _ => rfl)
abbrev wF : Memref sig .scVector .hbm S256 .i32 :=
  (oF).slice (Rect.unit (s := S8192) (k1_off22 L) S256.size (k1_off22_inb L)) (fun _ => rfl)

/-- A window at given contents of its array. -/
abbrev win {e : EltTy} (m : Memref sig .scVector .hbm S256 e) (f : Buf (Elt F) (m.view.loc (thr d L))) : sProp (MM F) :=
  m.view.loc (thr d L) ↦[m.view.set]{fullShare} f

omit [FloatOps F] in
/-- What a copy over the whole of a view leaves there is the array whose elements it brought. -/
theorem window_eq {κ : Kind} {sp : Space} {s : Shape} {e : EltTy} (v : View sig κ sp s e) (f g : v.ty.Contents (Elt F)) {pay : s.Idx → Elt F e}
    (h : ∀ y, pay y = v.read (Elt F) g y) : ∀ i ∈ v.set, v.writes (Elt F) f [⟨Rect.whole s, pay⟩] i = g i := by
  intro i hi
  obtain ⟨y, -, rfl⟩ := Finset.mem_map.mp hi
  have e : v.read (Elt F) (v.writes (Elt F) f [⟨Rect.whole s, pay⟩]) y = v.read (Elt F) g y := by
    rw [View.read_writes_cons_hit_of_coords v f (Rect.whole s) pay [] y y, h y]
    intro a
    show (y a).val = 0 + 1 * (y a).val
    omega
  rw [View.read_apply, View.read_apply] at e
  exact (cast_inj _).mp e

/-- The gathered coordinate `c` is the window's stretch of the results. -/
theorem box_window {fB : Vec F S256 .f32} (c : Fin 4) (hB : ∀ x, fB x = box X B Q Tk (im L) (hf L) c.val (x 0).val)
    {off : Fin 1 → ℕ} (ho : off = ![8192 * c.val + 512 * (L 1).val + 256 * (L 0).val]) {inb hst} (y : S256.Idx) :
    fB y = ((oB).slice (Rect.unit (s := S32768) off S256.size inb) hst).view.read (Elt F) (outB X B Q Tk) y := by
  have h1 : (L 1).val < 16 := (L 1).isLt
  have h2 : (L 0).val < 2 := (L 0).isLt
  have h3 : (y 0).val < 256 := (y 0).isLt
  have h4 := c.isLt
  refine (hB y).trans (Eq.symm ?_)
  refine (read_window oB ho (outB X B Q Tk) y).trans ?_
  show outB X B Q Tk (ix1 32768 _) = _
  unfold outB
  rw [ix1_val]
  have e1 : (8192 * c.val + 512 * (L 1).val + 256 * (L 0).val + (y 0).val) % 32768 = 8192 * c.val + 512 * (L 1).val + 256 * (L 0).val + (y 0).val := by omega
  rw [e1]
  congr 1
  · show _ = (L 1).val
    omega
  · show _ = (L 0).val
    omega
  · omega
  · omega

theorem box_word_lt (c : Fin 4) (k : ℕ) : 4 * boxOf X Q Tk (im L) (hf L) k + c.val < 1280000 := by
  have := boxOf_lt X Q Tk (b := im L) (h := hf L) (L 1).isLt k
  have := c.isLt
  omega

/-- A window's part of an array, at contents that agree there. -/
theorem win_done {e : EltTy} (m : Memref sig .scVector .hbm S256 e) {f g : Buf (Elt F) (m.view.loc (thr d L))} (h : ∀ i ∈ m.view.set, f i = g i) :
    (m.view.loc (thr d L) ↦[m.view.set]{fullShare} f) ⊢ win (F := F) d L m g :=
  Entails.of_eq (pointsTo_congr h)

/-- The gathered coordinates, by slot. -/
theorem box_gathered (c : Fin 4) {fe : Vec F S256 .i32}
    (he : Filled fe (fun k => BitVec.ofNat 32 (4 * boxOf X Q Tk (im L) (hf L) k + c.val)) 256) (hn : S256.numel = S256.size gathers_S1280000_S256.axis')
    (hin : ∀ x, ((sEid).view.read (Elt F) fe x).toNat < S1280000.size gathers_S1280000_S256.axis) (x : S256.Idx) :
    SparseCore.gatherPayload gathers_S1280000_S256 ((aBs).view.read (Elt F) B) (SparseCore.rows ((sEid).view.read (Elt F) fe) hn hin) x
      = box X B Q Tk (im L) (hf L) c.val (x 0).val := by
  exact boxes_payload (w := fun k => 4 * boxOf X Q Tk (im L) (hf L) k + c.val) (fun k => rows_val (F := F) he (box_word_lt L X Q Tk c) (by norm_num) _ _ k) x

/-- A window of the boxes once a copy of the gathered coordinates has landed. -/
theorem box_done (c : Fin 4) {fb P : Vec F S256 .f32} (hP : ∀ x, P x = box X B Q Tk (im L) (hf L) c.val (x 0).val)
    {off : Fin 1 → ℕ} (ho : off = ![8192 * c.val + 512 * (L 1).val + 256 * (L 0).val]) {inb hst} {f0 : Vec F S32768 .f32} {pay : S256.Idx → F .f32}
    (hpay : pay = (sBox).view.read (Elt F) (View.write (Elt F) (sBox).view fb P Finset.univ)) :
    ∀ i ∈ ((oB).slice (Rect.unit (s := S32768) off S256.size inb) hst).view.set,
      ((oB).slice (Rect.unit (s := S32768) off S256.size inb) hst).view.writes (Elt F) f0 [⟨Rect.whole S256, pay⟩] i = outB X B Q Tk i :=
  have e : ∀ y, pay y = P y := fun y => by
    rw [hpay, View.write_whole_univ]
    rfl
  window_eq ((oB).slice (Rect.unit (s := S32768) off S256.size inb) hst).view f0 (outB X B Q Tk) fun y =>
    (e y).trans (box_window L X B Q Tk c hP ho y)

/-- The contents of the boxes' buffer do not matter. -/
theorem forget {f : Vec F S256 .f32} : at_ d L sBox f ⊢ iprop(∃ f : Vec F S256 .f32, at_ d L sBox f) := by
  iintro H
  iexists f
  iexact H

theorem part8_run (v31 c0 c1 c2 : BitVec 32) :
    iprop(May d L O ∗ (aB.view.loc (thr d L) ↦{q} B)
        ∗ (∃ f : Vec F S256 .i32, ⌜Filled f (fun k => BitVec.ofNat 32 (4 * boxOf X Q Tk (im L) (hf L) k)) 256⌝ ∗ at_ d L sBq f)
        ∗ (∃ f : Vec F S256 .i32, at_ d L sEid f) ∗ (∃ f : Vec F S256 .f32, at_ d L sBox f)
        ∗ (∃ f : Vec F S32768 .f32, win d L (wB L 0#32 (k1_off18_inb L 0)) f) ∗ (∃ f : Vec F S32768 .f32, win d L (wB L 8192#32 (k1_off18_inb L 1)) f)
        ∗ (∃ f : Vec F S32768 .f32, win d L (wB L 16384#32 (k1_off18_inb L 2)) f)
        ∗ semVal (cell d L cc1_scratch11) 0 ∗ semVal (cell d L cc1_scoped2) 0 ∗ semVal (cell d L cc1_scoped3) 0
        ∗ semVal (cell d L cc1_scoped4) 0 ∗ Owed d L O W)
      ⊢ wp frame (wpE (defs₀ (F := F)) 𝒱₀ (thr d L) none) Set.univ (P8 (F := F) L v31 c0 c1 c2) fun _ =>
        iprop((aB.view.loc (thr d L) ↦{q} B)
          ∗ (∃ f : Vec F S256 .i32, ⌜Filled f (fun k => BitVec.ofNat 32 (4 * boxOf X Q Tk (im L) (hf L) k)) 256⌝ ∗ at_ d L sBq f)
          ∗ (∃ f : Vec F S256 .i32, at_ d L sEid f) ∗ (∃ f : Vec F S256 .f32, at_ d L sBox f)
          ∗ win d L (wB L 0#32 (k1_off18_inb L 0)) (outB X B Q Tk) ∗ win d L (wB L 8192#32 (k1_off18_inb L 1)) (outB X B Q Tk)
          ∗ win d L (wB L 16384#32 (k1_off18_inb L 2)) (outB X B Q Tk)
          ∗ semVal (cell d L cc1_scratch11) 0 ∗ semVal (cell d L cc1_scoped2) 0 ∗ semVal (cell d L cc1_scoped3) 0
          ∗ semVal (cell d L cc1_scoped4) 0 ∗ Owed d L O W) := by
  unfold P8
  rw [k1_part8_eq_skeleton]; unfold k1_part8_skel Owed May
  iintro ⟨#Hmw, HB, ⟨%fq, %hq, Hq⟩, ⟨%fe, He⟩, ⟨%fb, Hb⟩, ⟨%g0, HW0⟩, ⟨%g1, HW1⟩, ⟨%g2, HW2⟩, Hv11, Hv2, Hv3, Hv4, %W', %hW', HO⟩
  have hN : ∀ h : S1280000.Gathers 0 S256, ∑ j, ((sBox).slice (S256.rowRect h.axis' j) (S256.stride_rowRect h.axis' j)).view.dmaCredit
      = (sBox).view.dmaCredit := by decide
  sl_for (I6 d L (fun k => 4 * boxOf X Q Tk (im L) (hf L) k) 0) $$ [Hq He]
  case region => intro k acc; exact t6_step d L _ _ _ _ _ k acc
  · unfold I6
    isplitl [Hq]
    · iexists fq; isplitr
      · ipureintro; exact hq
      · iexact Hq
    · iexists fe; isplitr
      · ipureintro; intro x hx; exact absurd hx (Nat.not_lt_zero _)
      · iexact He
  iintro %a0 HI
  unfold I6
  icases HI with ⟨⟨%fq0, %hq0, Hq⟩, ⟨%fe0, %he0, He⟩⟩
  replace he0 : Filled fe0 (fun k => BitVec.ofNat 32 (4 * boxOf X Q Tk (im L) (hf L) k + 0)) 256 := he0
  replace hq0 : Filled fq0 (fun k => BitVec.ofNat 32 (4 * boxOf X Q Tk (im L) (hf L) k)) 256 := hq0
  sl_exec
  have hin0 : ∀ x, ((sEid).view.read (Elt F) fe0 x).toNat < S1280000.size gathers_S1280000_S256.axis :=
    fun x => filled_inb he0 (box_word_lt L X Q Tk 0) (by norm_num) x
  iapply (SparseCore.wp_gatherFromWhole countersEmb 𝒱₀ (thr d L) none (src := aBs) (hg := gathers_S1280000_S256) (default : HIx 1)
      (sBox).view.dmaCredit (hN _) (by decide) hin0) $$ [HB Hb He Hv11]
  · isplitl [HB]; · iexact HB
    isplitl [Hb]; · iexact Hb
    isplitl [He]; · iexact He
    iexact Hv11
  iintro Hfl
  sl_exec
  iapply (Transfers.wp_waitLocalO countersEmb 𝒱₀ (thr d L) none (default : HIx 1) (rfl : (sBox).view.dmaCredit = _)) $$ [Hfl HO]
  · isplitl [Hfl]; · iexact Hfl
    isplitl [HO]; · iexact HO
    iapply (Transfers.MayWaits.elim (SemLoc.dma cc1_scratch11.sem)) $$ Hmw
  iintro ⟨⟨Hb, HB, He⟩, Hv11, HO⟩
  sl_exec
  have done0 : ∀ i ∈ (wB L 0#32 (k1_off18_inb L 0)).view.set,
      (wB L 0#32 (k1_off18_inb L 0)).view.writes (Elt F) (wB L 0#32 (k1_off18_inb L 0)).view.junk
        [⟨Rect.whole S256, part8_run.sl.dma0 d L B fb fe0 hin0⟩] i = outB X B Q Tk i :=
    box_done (F := F) L X B Q Tk 0 (box_gathered L X B Q Tk 0 he0 _ hin0) (off18_eq L 0) rfl
  ihave ⟨%fb1, Hb⟩ := (forget d L) $$ Hb
  sl_for (I6 d L (fun k => 4 * boxOf X Q Tk (im L) (hf L) k) 1) $$ [Hq He]
  case region => intro k acc; exact t7_step d L _ _ _ _ _ k acc
  · unfold I6
    isplitl [Hq]
    · iexists fq0; isplitr
      · ipureintro; exact hq0
      · iexact Hq
    · iexists fe0; isplitr
      · ipureintro; intro x hx; exact absurd hx (Nat.not_lt_zero _)
      · iexact He
  iintro %a1 HI
  unfold I6
  icases HI with ⟨⟨%fq1, %hq1, Hq⟩, ⟨%fe1, %he1, He⟩⟩
  replace he1 : Filled fe1 (fun k => BitVec.ofNat 32 (4 * boxOf X Q Tk (im L) (hf L) k + 1)) 256 := he1
  replace hq1 : Filled fq1 (fun k => BitVec.ofNat 32 (4 * boxOf X Q Tk (im L) (hf L) k)) 256 := hq1
  sl_exec
  have hin1 : ∀ x, ((sEid).view.read (Elt F) fe1 x).toNat < S1280000.size gathers_S1280000_S256.axis :=
    fun x => filled_inb he1 (box_word_lt L X Q Tk 1) (by norm_num) x
  iapply (SparseCore.wp_gatherFromWhole countersEmb 𝒱₀ (thr d L) none (src := aBs) (hg := gathers_S1280000_S256) (default : HIx 1)
      (sBox).view.dmaCredit (hN _) (by decide) hin1) $$ [HB Hb He Hv11]
  · isplitl [HB]; · iexact HB
    isplitl [Hb]; · iexact Hb
    isplitl [He]; · iexact He
    iexact Hv11
  iintro Hfl
  sl_exec
  iapply (Transfers.wp_waitLocalO countersEmb 𝒱₀ (thr d L) none (default : HIx 1) (rfl : (sBox).view.dmaCredit = _)) $$ [Hfl HO]
  · isplitl [Hfl]; · iexact Hfl
    isplitl [HO]; · iexact HO
    iapply (Transfers.MayWaits.elim (SemLoc.dma cc1_scratch11.sem)) $$ Hmw
  iintro ⟨⟨Hb, HB, He⟩, Hv11, HO⟩
  sl_exec
  have done1 : ∀ i ∈ (wB L 8192#32 (k1_off18_inb L 1)).view.set,
      (wB L 8192#32 (k1_off18_inb L 1)).view.writes (Elt F) (wB L 8192#32 (k1_off18_inb L 1)).view.junk
        [⟨Rect.whole S256, part8_run.sl.dma0_1 d L B fb1 fe1 hin1⟩] i = outB X B Q Tk i :=
    box_done (F := F) L X B Q Tk 1 (box_gathered L X B Q Tk 1 he1 _ hin1) (off18_eq L 1) rfl
  ihave ⟨%fb2, Hb⟩ := (forget d L) $$ Hb
  sl_for (I6 d L (fun k => 4 * boxOf X Q Tk (im L) (hf L) k) 2) $$ [Hq He]
  case region => intro k acc; exact t8_step d L _ _ _ _ _ k acc
  · unfold I6
    isplitl [Hq]
    · iexists fq1; isplitr
      · ipureintro; exact hq1
      · iexact Hq
    · iexists fe1; isplitr
      · ipureintro; intro x hx; exact absurd hx (Nat.not_lt_zero _)
      · iexact He
  iintro %a2 HI
  unfold I6
  icases HI with ⟨⟨%fq2, %hq2, Hq⟩, ⟨%fe2, %he2, He⟩⟩
  replace he2 : Filled fe2 (fun k => BitVec.ofNat 32 (4 * boxOf X Q Tk (im L) (hf L) k + 2)) 256 := he2
  replace hq2 : Filled fq2 (fun k => BitVec.ofNat 32 (4 * boxOf X Q Tk (im L) (hf L) k)) 256 := hq2
  sl_exec
  have hin2 : ∀ x, ((sEid).view.read (Elt F) fe2 x).toNat < S1280000.size gathers_S1280000_S256.axis :=
    fun x => filled_inb he2 (box_word_lt L X Q Tk 2) (by norm_num) x
  iapply (SparseCore.wp_gatherFromWhole countersEmb 𝒱₀ (thr d L) none (src := aBs) (hg := gathers_S1280000_S256) (default : HIx 1)
      (sBox).view.dmaCredit (hN _) (by decide) hin2) $$ [HB Hb He Hv11]
  · isplitl [HB]; · iexact HB
    isplitl [Hb]; · iexact Hb
    isplitl [He]; · iexact He
    iexact Hv11
  iintro Hfl
  sl_exec
  iapply (Transfers.wp_waitLocalO countersEmb 𝒱₀ (thr d L) none (default : HIx 1) (rfl : (sBox).view.dmaCredit = _)) $$ [Hfl HO]
  · isplitl [Hfl]; · iexact Hfl
    isplitl [HO]; · iexact HO
    iapply (Transfers.MayWaits.elim (SemLoc.dma cc1_scratch11.sem)) $$ Hmw
  iintro ⟨⟨Hb, HB, He⟩, Hv11, HO⟩
  sl_exec
  have done2 : ∀ i ∈ (wB L 16384#32 (k1_off18_inb L 2)).view.set,
      (wB L 16384#32 (k1_off18_inb L 2)).view.writes (Elt F) g2
        [⟨Rect.whole S256, part8_run.sl.dma0_2 d L B fb2 fe2 hin2⟩] i = outB X B Q Tk i :=
    box_done (F := F) L X B Q Tk 2 (box_gathered L X B Q Tk 2 he2 _ hin2) (off18_eq L 2) rfl
  sl_step
  isplitl [HB]; · iexact HB
  isplitl [Hq]
  · iexists fq2; isplitr
    · ipureintro; exact hq2
    · iexact Hq
  isplitl [He]; · iexists _; iexact He
  isplitl [Hb]; · iexists _; iexact Hb
  isplitl [HW0]; · iapply (win_done d L _ (done0)) $$ HW0
  isplitl [HW1]; · iapply (win_done d L _ (done1)) $$ HW1
  isplitl [HW2]; · iapply (win_done d L _ (done2)) $$ HW2
  isplitl [Hv11]; · iexact Hv11
  isplitl [Hv2]; · iexact Hv2
  isplitl [Hv3]; · iexact Hv3
  isplitl [Hv4]; · iexact Hv4
  iexists _; isplitr
  swap; · iexact HO
  ipureintro
  exact waits_insert (waits_insert (waits_insert (waits_insert (waits_insert (waits_insert hW')))))

end

end Cert.Proof.Select

end
-- ==== Proof.Body.lean ====
/-
  One subcore's run: the fetches, the loops and the gathers in order, from the arrays' contents to the subcore's windows of
  the results.
-/
module

public import proofs.«01_k».proof.Proof.Tile

@[expose] public section

noncomputable section

namespace Cert.Proof.Select

open Cert.KernelIdeal Cert.KernelIdeal.Gen Cert.Proof.Compact Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] (d : Dev nD) (L : grid1.Coords)

section

variable (X : Vec F S320000x128 .f32) (B : Vec F S1280000 .f32) (Q : Vec F S320000 .f32) (Tk : Vec F S2048 .f32)
variable (q : PosShare TreeShare) (O : CellTallies nD τ sig (HIx 1)) (W : Waits sig (HIx 1))

/-- A program followed by another, whose run takes over from what the first leaves. -/
theorem next {α β : Type} {R : sProp (MM F)} {p : Prog (TpuEff nD τ sig (Elt F) Λ₀ (.scVector (cV L) (jV L))) α}
    {g : α → Prog (TpuEff nD τ sig (Elt F) Λ₀ (.scVector (cV L) (jV L))) β} {Φ : α → sProp (MM F)} {Ψ : β → sProp (MM F)}
    (hp : R ⊢ wp frame (wpE (defs₀ (F := F)) 𝒱₀ (thr d L) none) Set.univ p Φ) :
    iprop(R ∗ (∀ a, Φ a -∗ wp frame (wpE (defs₀ (F := F)) 𝒱₀ (thr d L) none) Set.univ (g a) Ψ))
      ⊢ wp frame (wpE (defs₀ (F := F)) 𝒱₀ (thr d L) none) Set.univ (p >>= g) Ψ := by
  rw [wp_bind]
  exact (sep_mono_left hp).trans (wp_wand_r frame _ _)

theorem read_oV (g : Vec F S8192 .f32) (x : S8192.Idx) : (oV).view.read (Elt F) g x = g x := rfl

/-- The compacted values are the window's stretch of the results. -/
theorem vals_window {f : Vec F S272 .f32} (hf' : Filled f (vals X Q Tk (im L) (hf L)) 256) {pay : S256.Idx → F .f32}
    (hpay : pay = ((sVal).slice (Rect.unit (s := S272) ![0] S256.size inb_S272_S256_0) (fun _ => rfl)).view.read (Elt F) f) {f0 : Vec F S8192 .f32} :
    ∀ i ∈ (wV L).view.set, (wV L).view.writes (Elt F) f0 [⟨Rect.whole S256, pay⟩] i = outV X Q Tk i :=
  window_eq (wV L).view f0 (outV X Q Tk) fun y => by
    have h1 : (L 1).val < 16 := (L 1).isLt
    have h2 : (L 0).val < 2 := (L 0).isLt
    have h3 : (y 0).val < 256 := (y 0).isLt
    have hy : (0 + (y 0).val) % 272 < 256 := by omega
    have ea : pay y = f (ix1 272 (0 + (y 0).val)) := by rw [hpay]; exact read_window sVal rfl f y
    refine (ea.trans (hf' _ (by rw [ix1_val]; exact hy))).trans (Eq.symm ?_)
    refine (read_window (e := .f32) oV (off22_eq L) (outV X Q Tk) y).trans ?_
    rw [read_oV]
    unfold outV
    rw [ix1_val, ix1_val]
    have e1 : (512 * (L 1).val + 256 * (L 0).val + (y 0).val) % 8192 = 512 * (L 1).val + 256 * (L 0).val + (y 0).val := by omega
    have e2 : (0 + (y 0).val) % 272 = (y 0).val := by omega
    rw [e1, e2]
    congr 1
    · show _ = (L 1).val
      omega
    · show _ = (L 0).val
      omega
    · omega

/-- The compacted positions are the window's stretch of the results. -/
theorem flat_window {f : Vec F S272 .i32} (hf' : Filled f (fun k => BitVec.ofNat 32 (flat X Q Tk (im L) (hf L) k)) 256) {pay : S256.Idx → BitVec 32}
    (hpay : pay = ((sFlat).slice (Rect.unit (s := S272) ![0] S256.size inb_S272_S256_0) (fun _ => rfl)).view.read (Elt F) f) {f0 : Vec F S8192 .i32} :
    ∀ i ∈ (wF L).view.set, (wF L).view.writes (Elt F) f0 [⟨Rect.whole S256, pay⟩] i = outF X Q Tk i :=
  window_eq (wF L).view f0 (outF X Q Tk) fun y => by
    have h1 : (L 1).val < 16 := (L 1).isLt
    have h2 : (L 0).val < 2 := (L 0).isLt
    have h3 : (y 0).val < 256 := (y 0).isLt
    have hy : (0 + (y 0).val) % 272 < 256 := by omega
    have ea : pay y = f (ix1 272 (0 + (y 0).val)) := by rw [hpay]; exact read_window sFlat rfl f y
    refine (ea.trans (hf' _ (by rw [ix1_val]; exact hy))).trans (Eq.symm ?_)
    refine (read_window oF (off22_eq L) (outF X Q Tk) y).trans ?_
    show outF X Q Tk (ix1 8192 _) = _
    unfold outF
    rw [ix1_val, ix1_val]
    have e1 : (512 * (L 1).val + 256 * (L 0).val + (y 0).val) % 8192 = 512 * (L 1).val + 256 * (L 0).val + (y 0).val := by omega
    have e2 : (0 + (y 0).val) % 272 = (y 0).val := by omega
    rw [e1, e2]
    congr 2
    · show _ = (L 1).val
      omega
    · show _ = (L 0).val
      omega
    · omega

set_option maxHeartbeats 4000000 in
/-- One subcore's whole run. -/
theorem body_run :
    iprop(May d L O ∗ (aX.view.loc (thr d L) ↦{q} X) ∗ (aB.view.loc (thr d L) ↦{q} B) ∗ (aQ.view.loc (thr d L) ↦{q} Q) ∗ (aT.view.loc (thr d L) ↦{q} Tk)
        ∗ (∃ f : Vec F S8192 .f32, win d L (wV L) f) ∗ (∃ f : Vec F S8192 .i32, win d L (wF L) f) ∗ (∃ f : Vec F S32768 .f32, win d L (wB L 0#32 (k1_off18_inb L 0)) f) ∗ (∃ f : Vec F S32768 .f32, win d L (wB L 8192#32 (k1_off18_inb L 1)) f) ∗ (∃ f : Vec F S32768 .f32, win d L (wB L 16384#32 (k1_off18_inb L 2)) f) ∗ (∃ f : Vec F S32768 .f32, win d L (wB L 24576#32 (k1_off18_inb L 3)) f)
        ∗ (∃ f : Vec F S16 .f32, at_ d L sT f) ∗ (∃ f : Vec F S10000 .f32, at_ d L sQ f) ∗ (∃ f : Vec F S272 .i32, at_ d L sSel f) ∗ (∃ f : Vec F S256 .i32, at_ d L sGid f) ∗ (∃ f : Vec F S256x128 .f32, at_ d L sRow f) ∗ (∃ f : Vec F S272 .f32, at_ d L sVal f) ∗ (∃ f : Vec F S272 .i32, at_ d L sFlat f) ∗ (∃ f : Vec F S256 .i32, at_ d L sBq f) ∗ (∃ f : Vec F S256 .i32, at_ d L sEid f) ∗ (∃ f : Vec F S256 .f32, at_ d L sBox f)
        ∗ semVal (cell d L cc1_scratch10) 0 ∗ semVal (cell d L cc1_scratch11) 0 ∗ semVal (cell d L cc1_scoped0) 0 ∗ semVal (cell d L cc1_scoped1) 0 ∗ semVal (cell d L cc1_scoped2) 0 ∗ semVal (cell d L cc1_scoped3) 0 ∗ semVal (cell d L cc1_scoped4) 0 ∗ semVal (cell d L cc1_scoped5) 0 ∗ semVal (cell d L cc1_scoped6) 0 ∗ semVal (cell d L cc1_scoped7) 0 ∗ Owed d L O W)
      ⊢ wp frame (wpE (defs₀ (F := F)) 𝒱₀ (thr d L) none) Set.univ (body (F := F) L) fun _ =>
        iprop((aX.view.loc (thr d L) ↦{q} X) ∗ (aB.view.loc (thr d L) ↦{q} B) ∗ (aQ.view.loc (thr d L) ↦{q} Q) ∗ (aT.view.loc (thr d L) ↦{q} Tk)
          ∗ win d L (wV L) (outV X Q Tk) ∗ win d L (wF L) (outF X Q Tk) ∗ win d L (wB L 0#32 (k1_off18_inb L 0)) (outB X B Q Tk) ∗ win d L (wB L 8192#32 (k1_off18_inb L 1)) (outB X B Q Tk) ∗ win d L (wB L 16384#32 (k1_off18_inb L 2)) (outB X B Q Tk) ∗ win d L (wB L 24576#32 (k1_off18_inb L 3)) (outB X B Q Tk)
          ∗ (∃ f : Vec F S16 .f32, at_ d L sT f) ∗ (∃ f : Vec F S10000 .f32, at_ d L sQ f) ∗ (∃ f : Vec F S272 .i32, at_ d L sSel f) ∗ (∃ f : Vec F S256 .i32, at_ d L sGid f) ∗ (∃ f : Vec F S256x128 .f32, at_ d L sRow f) ∗ (∃ f : Vec F S272 .f32, at_ d L sVal f) ∗ (∃ f : Vec F S272 .i32, at_ d L sFlat f) ∗ (∃ f : Vec F S256 .i32, at_ d L sBq f) ∗ (∃ f : Vec F S256 .i32, at_ d L sEid f) ∗ (∃ f : Vec F S256 .f32, at_ d L sBox f)
          ∗ semVal (cell d L cc1_scratch10) 0 ∗ semVal (cell d L cc1_scratch11) 0 ∗ semVal (cell d L cc1_scoped0) 0 ∗ semVal (cell d L cc1_scoped1) 0 ∗ semVal (cell d L cc1_scoped2) 0 ∗ semVal (cell d L cc1_scoped3) 0 ∗ semVal (cell d L cc1_scoped4) 0 ∗ semVal (cell d L cc1_scoped5) 0 ∗ semVal (cell d L cc1_scoped6) 0 ∗ semVal (cell d L cc1_scoped7) 0 ∗ Owed d L O W) := by
  unfold body
  rw [cc1__select_body_eq_skeleton]; unfold cc1__select_body_skel
  iintro ⟨#Hmw, HX, HB, HQ, HT, HWV, HWF, HW0, HW1, HW2, HW3, HsT, HsQ, HsS, HsG, HsR, HsV, HsF, HsB, He, Hb, Hv10, Hv11, Hv0, Hv1, Hv2, Hv3, Hv4, Hv5, Hv6, Hv7, HO⟩
  iapply (next d L (part6_run d L Tk q O W))
  isplitl [HT HsT Hv0 HO]
  · isplitr; · iexact Hmw
    isplitl [HT]; · iexact HT
    isplitl [HsT]; · iexact HsT
    isplitl [Hv0]; · iexact Hv0
    iexact HO
  iintro %r ⟨%hr, HT, HsT, Hv0, HO⟩
  obtain ⟨r1, r2, r3, r4⟩ := r
  obtain ⟨h1, h2, h4⟩ := hr
  dsimp only at h1 h2 h4
  subst h1 h2 h4
  iapply (next d L (part7_run d L X Q Tk q O W))
  isplitl [HX HQ HsT HsQ HsS HsG HsR HsV HsF HsB Hv1 Hv10 HO]
  · isplitr; · iexact Hmw
    isplitl [HX]; · iexact HX
    isplitl [HQ]; · iexact HQ
    isplitl [HsT]; · iexact HsT
    isplitl [HsQ]; · iexact HsQ
    isplitl [HsS]; · iexact HsS
    isplitl [HsG]; · iexact HsG
    isplitl [HsR]; · iexact HsR
    isplitl [HsV]; · iexact HsV
    isplitl [HsF]; · iexact HsF
    isplitl [HsB]; · iexact HsB
    isplitl [Hv1]; · iexact Hv1
    isplitl [Hv10]; · iexact Hv10
    iexact HO
  iintro %r7 ⟨HX, HQ, HsT, HsQ, HsS, HsG, HsR, HsV, HsF, HsB, Hv1, Hv10, HO⟩
  obtain ⟨c0, c1, c2⟩ := r7
  iapply (next d L (part8_run d L X B Q Tk q O W r3 c0 c1 c2))
  isplitl [HB HsB He Hb HW0 HW1 HW2 Hv11 Hv2 Hv3 Hv4 HO]
  · isplitr; · iexact Hmw
    isplitl [HB]; · iexact HB
    isplitl [HsB]; · iexact HsB
    isplitl [He]; · iexact He
    isplitl [Hb]; · iexact Hb
    isplitl [HW0]; · iexact HW0
    isplitl [HW1]; · iexact HW1
    isplitl [HW2]; · iexact HW2
    isplitl [Hv11]; · iexact Hv11
    isplitl [Hv2]; · iexact Hv2
    isplitl [Hv3]; · iexact Hv3
    isplitl [Hv4]; · iexact Hv4
    iexact HO
  iintro %r8 ⟨HB, ⟨%fq, %hq, Hq⟩, ⟨%fe, He⟩, ⟨%fb, Hb⟩, HW0, HW1, HW2, Hv11, Hv2, Hv3, Hv4, HO⟩
  obtain ⟨e0, e1⟩ := r8
  unfold Owed May
  icases HO with ⟨%W', %hW', HO⟩
  icases HsV with ⟨%fV, %hV, HsV⟩
  icases HsF with ⟨%fF, %hF, HsF⟩
  icases HWV with ⟨%gV, HWV⟩
  icases HWF with ⟨%gF, HWF⟩
  icases HW3 with ⟨%g3, HW3⟩
  have hN : ∀ h : S1280000.Gathers 0 S256, ∑ j, ((sBox).slice (S256.rowRect h.axis' j) (S256.stride_rowRect h.axis' j)).view.dmaCredit
      = (sBox).view.dmaCredit := by decide
  dsimp only
  sl_for (I6 d L (fun k => 4 * boxOf X Q Tk (im L) (hf L) k) 3) $$ [Hq He]
  case region => intro k acc; exact t9_step d L _ k acc
  · unfold I6
    isplitl [Hq]
    · iexists fq; isplitr
      · ipureintro; exact hq
      · iexact Hq
    · iexists fe; isplitr
      · ipureintro; intro x hx; exact absurd hx (Nat.not_lt_zero _)
      · iexact He
  iintro %a3 HI
  unfold I6
  icases HI with ⟨⟨%fq3, %hq3, Hq⟩, ⟨%fe3, %he3, He⟩⟩
  replace he3 : Filled fe3 (fun k => BitVec.ofNat 32 (4 * boxOf X Q Tk (im L) (hf L) k + 3)) 256 := he3
  replace hq3 : Filled fq3 (fun k => BitVec.ofNat 32 (4 * boxOf X Q Tk (im L) (hf L) k)) 256 := hq3
  have hin3 : ∀ x, ((sEid).view.read (Elt F) fe3 x).toNat < S1280000.size gathers_S1280000_S256.axis :=
    fun x => filled_inb he3 (box_word_lt L X Q Tk 3) (by norm_num) x
  iapply (SparseCore.wp_gatherFromWhole countersEmb 𝒱₀ (thr d L) none (src := aBs) (hg := gathers_S1280000_S256) (default : HIx 1)
      (sBox).view.dmaCredit (hN _) (by decide) hin3) $$ [HB Hb He Hv11]
  · isplitl [HB]; · iexact HB
    isplitl [Hb]; · iexact Hb
    isplitl [He]; · iexact He
    iexact Hv11
  iintro Hfl
  sl_exec
  iapply (Transfers.wp_waitLocalO countersEmb 𝒱₀ (thr d L) none (default : HIx 1) (rfl : (sBox).view.dmaCredit = _)) $$ [Hfl HO]
  · isplitl [Hfl]; · iexact Hfl
    isplitl [HO]; · iexact HO
    iapply (Transfers.MayWaits.elim (SemLoc.dma cc1_scratch11.sem)) $$ Hmw
  iintro ⟨⟨Hb, HB, He⟩, Hv11, HO⟩
  sl_exec
  have done3 : ∀ i ∈ (wB L 24576#32 (k1_off18_inb L 3)).view.set,
      (wB L 24576#32 (k1_off18_inb L 3)).view.writes (Elt F) g3
        [⟨Rect.whole S256, body_run.sl.dma0 d L B fb fe3 hin3⟩] i = outB X B Q Tk i :=
    box_done (F := F) L X B Q Tk 3 (box_gathered L X B Q Tk 3 he3 _ hin3) (off18_eq L 3) rfl
  sl_step
  isplitl [HX]; · iexact HX
  isplitl [HB]; · iexact HB
  isplitl [HQ]; · iexact HQ
  isplitl [HT]; · iexact HT
  isplitl [HWV]; · iapply (win_done d L _ (vals_window L X Q Tk (f0 := gV) (pay := body_run.sl.dma0_1 fV) hV rfl)) $$ HWV
  isplitl [HWF]; · iapply (win_done d L _ (flat_window L X Q Tk (f0 := gF) (pay := body_run.sl.dma0_2 fF) hF rfl)) $$ HWF
  isplitl [HW0]; · iexact HW0
  isplitl [HW1]; · iexact HW1
  isplitl [HW2]; · iexact HW2
  isplitl [HW3]; · iapply (win_done d L _ done3) $$ HW3
  isplitl [HsT]; · iexact HsT
  isplitl [HsQ]; · iexact HsQ
  isplitl [HsS]; · iexact HsS
  isplitl [HsG]; · iexact HsG
  isplitl [HsR]; · iexact HsR
  isplitl [HsV]; · iexists fV; iexact HsV
  isplitl [HsF]; · iexists fF; iexact HsF
  isplitl [Hq]; · iexists fq3; iexact Hq
  isplitl [He]; · iexists fe3; iexact He
  isplitl [Hb]; · iexists _; iexact Hb
  isplitl [Hv10]; · iexact Hv10
  isplitl [Hv11]; · iexact Hv11
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hv6]; · iexact Hv6
  isplitl [Hv7]; · iexact Hv7
  iexists _; isplitr
  swap; · iexact HO
  ipureintro
  exact waits_insert (waits_insert (waits_insert (waits_insert hW')))

end

end Cert.Proof.Select

end
-- ==== Proof.Launch.lean ====
/-
  One subcore's run: the fetches, the loops and the gathers in order, from the arrays' contents to the subcore's windows of
  the results.
-/
module

public import proofs.«01_k».proof.Proof.Body

@[expose] public section

noncomputable section

namespace Cert.Proof.Select

open Cert.KernelIdeal Cert.KernelIdeal.Gen Cert.Proof.Compact Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type}

/-! ## Shares, in halves -/

/-- The `i`-th of the `2 ^ n` equal shares of `q`. -/
def part : (n : ℕ) → PosShare TreeShare → ℕ → PosShare TreeShare
  | 0, q, _ => q
  | n + 1, q, i => part n (if i % 2 = 0 then q.left else q.right) (i / 2)

/-- The number of a share: its half, then its number within the half. -/
def halves (n : ℕ) : Fin 2 × Fin (2 ^ n) ≃ Fin (2 ^ (n + 1)) where
  toFun p := ⟨2 * p.2.val + p.1.val, by have := p.1.isLt; have := p.2.isLt; omega⟩
  invFun i := (⟨i.val % 2, by omega⟩, ⟨i.val / 2, by have := i.isLt; omega⟩)
  left_inv p := by
    have := p.1.isLt
    refine Prod.ext (Fin.ext ?_) (Fin.ext ?_)
    · show (2 * p.2.val + p.1.val) % 2 = _
      omega
    · show (2 * p.2.val + p.1.val) / 2 = _
      omega
  right_inv i := Fin.ext (by show 2 * (i.val / 2) + i.val % 2 = _; omega)

/-- Read access in equal parts. -/
theorem shares {ℓ : Loc nD τ sig} (f : Buf (Elt F) ℓ) : ∀ (n : ℕ) (q : PosShare TreeShare),
    (ℓ ↦{q} f : sProp (MM F)) = bigSep Finset.univ fun i : Fin (2 ^ n) => ℓ ↦{part n q i.val} f
  | 0, q => (bigSep_univ_of_subsingleton (0 : Fin 1) (Φ := fun i : Fin (2 ^ 0) => (ℓ ↦{part 0 q i.val} f : sProp (MM F)))).symm
  | n + 1, q => by
    rw [BI.bigSep_univ_equiv (halves n) (fun i : Fin (2 ^ (n + 1)) => (ℓ ↦{part (n + 1) q i.val} f : sProp (MM F))), BI.bigSep_univ_prod, bigSep_fin_two]
    have e0 : ∀ j : Fin (2 ^ n), part (n + 1) q ((halves n) (0, j)).val = part n q.left j.val := fun j => by
      show part n (if (2 * j.val + 0) % 2 = 0 then q.left else q.right) ((2 * j.val + 0) / 2) = _
      rw [if_pos (by omega), show (2 * j.val + 0) / 2 = j.val by omega]
    have e1 : ∀ j : Fin (2 ^ n), part (n + 1) q ((halves n) (1, j)).val = part n q.right j.val := fun j => by
      show part n (if (2 * j.val + 1) % 2 = 0 then q.left else q.right) ((2 * j.val + 1) / 2) = _
      rw [if_neg (by omega), show (2 * j.val + 1) / 2 = j.val by omega]
    simp only [e0, e1]
    rw [← shares f n q.left, ← shares f n q.right]
    exact BI.Entails.antisymm (pointsTo_share (PosShare.mem_left_op_right q)).1 (pointsTo_share (PosShare.mem_left_op_right q)).2

/-! ## An array in pieces -/

theorem pieces {ℓ : Loc nD τ sig} {T : Type} [Fintype T] (S : T → Finset (Idx ℓ)) (cover : ∀ x, ∃ t, x ∈ S t)
    (uniq : ∀ t t' x, x ∈ S t → x ∈ S t' → t = t') (f : Buf (Elt F) ℓ) :
    (ℓ ↦{fullShare} f : sProp (MM F)) = bigSep Finset.univ fun t => ℓ ↦[S t]{fullShare} f := by
  rw [← pointsTo_biUnion Finset.univ (ℓ := ℓ) S fun t _ t' _ h => Finset.disjoint_left.mpr fun x h1 h2 => h (uniq t t' x h1 h2),
    show Finset.univ.biUnion S = Finset.univ from Finset.eq_univ_of_forall fun x => Finset.mem_biUnion.mpr (by
      obtain ⟨t, h⟩ := cover x
      exact ⟨t, Finset.mem_univ _, h⟩)]

/-- The coordinates of the subcore `s` of the SparseCore `c`. -/
def at' (c : Fin (grid1.bound 0)) (s : Fin (grid1.bound 1)) : grid1.Coords
  | 0 => c
  | 1 => s
  | ⟨_ + 2, h⟩ => absurd h (Nat.not_lt.2 (Nat.le_add_left _ _))

section Windows

variable (L : grid1.Coords)

theorem mem_wV (x : S8192.Idx) : x ∈ (wV L).view.set ↔ 512 * (L 1).val + 256 * (L 0).val ≤ (x 0).val ∧ (x 0).val < 512 * (L 1).val + 256 * (L 0).val + 256 := by
  rw [show (wV L).view.set = (Rect.unit (s := S8192) (k1_off22 L) S256.size (k1_off22_inb L)).set from by
    show ((View.whole (main_v5_0_scv : Ref sig .scVector)).slice _).set = _
    rw [View.set_slice]; exact Finset.map_refl, Rect.mem_set_unit]
  rw [show (∀ a : Fin 1, k1_off22 L a ≤ (x a).val ∧ (x a).val < k1_off22 L a + S256.size a) ↔ _ from ⟨fun h => h 0, fun h a => by rw [Subsingleton.elim a 0]; exact h⟩,
    off22_eq]
  exact Iff.rfl

theorem mem_wF (x : S8192.Idx) : x ∈ (wF L).view.set ↔ 512 * (L 1).val + 256 * (L 0).val ≤ (x 0).val ∧ (x 0).val < 512 * (L 1).val + 256 * (L 0).val + 256 := by
  rw [show (wF L).view.set = (Rect.unit (s := S8192) (k1_off22 L) S256.size (k1_off22_inb L)).set from by
    show ((View.whole (main_v5_1_scv : Ref sig .scVector)).slice _).set = _
    rw [View.set_slice]; exact Finset.map_refl, Rect.mem_set_unit]
  rw [show (∀ a : Fin 1, k1_off22 L a ≤ (x a).val ∧ (x a).val < k1_off22 L a + S256.size a) ↔ _ from ⟨fun h => h 0, fun h a => by rw [Subsingleton.elim a 0]; exact h⟩,
    off22_eq]
  exact Iff.rfl

theorem mem_wB (c : Fin 4) (inb : ∀ a, k1_off18 L (BitVec.ofNat 32 (8192 * c.val)) a + S256.size a ≤ S32768.size a) (x : S32768.Idx) : x ∈ (wB L (BitVec.ofNat 32 (8192 * c.val)) inb).view.set
    ↔ 8192 * c.val + 512 * (L 1).val + 256 * (L 0).val ≤ (x 0).val ∧ (x 0).val < 8192 * c.val + 512 * (L 1).val + 256 * (L 0).val + 256 := by
  rw [show (wB L (BitVec.ofNat 32 (8192 * c.val)) inb).view.set = (Rect.unit (s := S32768) (k1_off18 L (BitVec.ofNat 32 (8192 * c.val))) S256.size inb).set from by
    show ((View.whole (main_v5_2_scv : Ref sig .scVector)).slice _).set = _
    rw [View.set_slice]; exact Finset.map_refl, Rect.mem_set_unit]
  rw [show (∀ a : Fin 1, k1_off18 L (BitVec.ofNat 32 (8192 * c.val)) a ≤ (x a).val ∧ (x a).val < k1_off18 L (BitVec.ofNat 32 (8192 * c.val)) a + S256.size a) ↔ _ from
    ⟨fun h => h 0, fun h a => by rw [Subsingleton.elim a 0]; exact h⟩, off18_eq L c]
  exact Iff.rfl

end Windows

variable (d : Dev nD)

/-- The arguments and the results, in HBM. -/
abbrev gX : Loc nD τ sig := (SparseCore.T d).loc main_v1
abbrev gB : Loc nD τ sig := (SparseCore.T d).loc main_v2
abbrev gQ : Loc nD τ sig := (SparseCore.T d).loc main_v3
abbrev gT : Loc nD τ sig := (SparseCore.T d).loc main_v4
abbrev gV : Loc nD τ sig := (SparseCore.T d).loc main_v5_0
abbrev gF : Loc nD τ sig := (SparseCore.T d).loc main_v5_1
abbrev gO : Loc nD τ sig := (SparseCore.T d).loc main_v5_2

/-- One piece for each subcore: two SparseCores, sixteen subcores each. -/
abbrev each (Φ : grid1.Coords → sProp (MM F)) : sProp (MM F) :=
  bigSep Finset.univ fun c : Fin 2 => bigSep Finset.univ fun s : Fin 16 => Φ (at' c s)

theorem each_sep (Φ Ψ : grid1.Coords → sProp (MM F)) : each (fun L => iprop(Φ L ∗ Ψ L)) = iprop(each Φ ∗ each Ψ) := by
  unfold each
  simp only [bigSep_sep']

theorem each_mono {Φ Ψ : grid1.Coords → sProp (MM F)} (h : ∀ L, Φ L ⊢ Ψ L) : each Φ ⊢ each Ψ :=
  bigSep_mono fun _ _ => bigSep_mono fun _ _ => h _

theorem each_V (f : Vec F S8192 .f32) : (gV d ↦{fullShare} f : sProp (MM F)) = each fun L => win d L (wV L) f := by
  refine (pieces (ℓ := gV d) (T := Fin 2 × Fin 16) (fun t => (wV (at' t.1 t.2)).view.set) (fun x => ?_) (fun t t' x h h' => ?_) f).trans ?_
  · have hx : (x 0).val < 8192 := (x 0).isLt
    refine ⟨(⟨(x 0).val / 256 % 2, by omega⟩, ⟨(x 0).val / 512, by omega⟩), ?_⟩
    refine (mem_wV _ x).mpr ?_
    show 512 * ((x 0).val / 512) + 256 * ((x 0).val / 256 % 2) ≤ (x 0).val ∧ (x 0).val < 512 * ((x 0).val / 512) + 256 * ((x 0).val / 256 % 2) + 256
    omega
  · have h1 : 512 * t.2.val + 256 * t.1.val ≤ (x 0).val ∧ (x 0).val < 512 * t.2.val + 256 * t.1.val + 256 := (mem_wV _ x).mp h
    have h2 : 512 * t'.2.val + 256 * t'.1.val ≤ (x 0).val ∧ (x 0).val < 512 * t'.2.val + 256 * t'.1.val + 256 := (mem_wV _ x).mp h'
    have := t.1.isLt
    have := t'.1.isLt
    exact Prod.ext (Fin.ext (by omega)) (Fin.ext (by omega))
  · rw [BI.bigSep_univ_prod]

theorem each_F (f : Vec F S8192 .i32) : (gF d ↦{fullShare} f : sProp (MM F)) = each fun L => win d L (wF L) f := by
  refine (pieces (ℓ := gF d) (T := Fin 2 × Fin 16) (fun t => (wF (at' t.1 t.2)).view.set) (fun x => ?_) (fun t t' x h h' => ?_) f).trans ?_
  · have hx : (x 0).val < 8192 := (x 0).isLt
    refine ⟨(⟨(x 0).val / 256 % 2, by omega⟩, ⟨(x 0).val / 512, by omega⟩), ?_⟩
    refine (mem_wF _ x).mpr ?_
    show 512 * ((x 0).val / 512) + 256 * ((x 0).val / 256 % 2) ≤ (x 0).val ∧ (x 0).val < 512 * ((x 0).val / 512) + 256 * ((x 0).val / 256 % 2) + 256
    omega
  · have h1 : 512 * t.2.val + 256 * t.1.val ≤ (x 0).val ∧ (x 0).val < 512 * t.2.val + 256 * t.1.val + 256 := (mem_wF _ x).mp h
    have h2 : 512 * t'.2.val + 256 * t'.1.val ≤ (x 0).val ∧ (x 0).val < 512 * t'.2.val + 256 * t'.1.val + 256 := (mem_wF _ x).mp h'
    have := t.1.isLt
    have := t'.1.isLt
    exact Prod.ext (Fin.ext (by omega)) (Fin.ext (by omega))
  · rw [BI.bigSep_univ_prod]

/-- The four windows of the boxes' array that a subcore writes. -/
abbrev wins (L : grid1.Coords) (f : Vec F S32768 .f32) : sProp (MM F) :=
  iprop(win d L (wB L 0#32 (k1_off18_inb L 0)) f ∗ win d L (wB L 8192#32 (k1_off18_inb L 1)) f ∗ win d L (wB L 16384#32 (k1_off18_inb L 2)) f
    ∗ win d L (wB L 24576#32 (k1_off18_inb L 3)) f)

theorem each_B (f : Vec F S32768 .f32) : (gO d ↦{fullShare} f : sProp (MM F)) = each fun L => wins d L f := by
  refine (pieces (ℓ := gO d) (T := (Fin 2 × Fin 16) × Fin 4)
    (fun t => (wB (at' t.1.1 t.1.2) (BitVec.ofNat 32 (8192 * t.2.val)) (k1_off18_inb (at' t.1.1 t.1.2) t.2)).view.set) (fun x => ?_) (fun t t' x h h' => ?_) f).trans ?_
  · have hx : (x 0).val < 32768 := (x 0).isLt
    refine ⟨((⟨(x 0).val / 256 % 2, by omega⟩, ⟨(x 0).val % 8192 / 512, by omega⟩), ⟨(x 0).val / 8192, by omega⟩), ?_⟩
    refine (mem_wB _ ⟨(x 0).val / 8192, by omega⟩ _ x).mpr ?_
    show 8192 * ((x 0).val / 8192) + 512 * ((x 0).val % 8192 / 512) + 256 * ((x 0).val / 256 % 2) ≤ (x 0).val
      ∧ (x 0).val < 8192 * ((x 0).val / 8192) + 512 * ((x 0).val % 8192 / 512) + 256 * ((x 0).val / 256 % 2) + 256
    omega
  · have h1 : 8192 * t.2.val + 512 * t.1.2.val + 256 * t.1.1.val ≤ (x 0).val ∧ (x 0).val < 8192 * t.2.val + 512 * t.1.2.val + 256 * t.1.1.val + 256 := (mem_wB _ t.2 _ x).mp h
    have h2 : 8192 * t'.2.val + 512 * t'.1.2.val + 256 * t'.1.1.val ≤ (x 0).val ∧ (x 0).val < 8192 * t'.2.val + 512 * t'.1.2.val + 256 * t'.1.1.val + 256 := (mem_wB _ t'.2 _ x).mp h'
    have := t.1.1.isLt
    have := t'.1.1.isLt
    have := t.1.2.isLt
    have := t'.1.2.isLt
    exact Prod.ext (Prod.ext (Fin.ext (by omega)) (Fin.ext (by omega))) (Fin.ext (by omega))
  · rw [BI.bigSep_univ_prod, BI.bigSep_univ_prod]
    refine bigSep_congr fun c _ => bigSep_congr fun s _ => ?_
    rw [show (Finset.univ : Finset (Fin 4)) = {0, 1, 2, 3} by decide, SparseCore.bigSep_insert' (by decide), SparseCore.bigSep_insert' (by decide),
      SparseCore.bigSep_insert' (by decide), bigSep_singleton]
    rfl

/-- The read share of a subcore. -/
abbrev shareOf (L : grid1.Coords) : PosShare TreeShare := part 4 (part 1 fullShare (L 0).val) (L 1).val

theorem each_read {ℓ : Loc nD τ sig} (f : Buf (Elt F) ℓ) : (ℓ ↦{fullShare} f : sProp (MM F)) = each fun L => ℓ ↦{shareOf L} f := by
  rw [shares f 1 fullShare]
  refine bigSep_congr fun c _ => ?_
  rw [shares f 4 (part 1 fullShare c.val)]
  rfl

/-! ## What the launch hands out and takes back -/

section Run

variable [FloatOps F] (vX : Dev nD → Vec F S320000x128 .f32) (vB : Dev nD → Vec F S1280000 .f32) (vQ : Dev nD → Vec F S320000 .f32) (vT : Dev nD → Vec F S2048 .f32)

/-- The four arguments, at a share. -/
abbrev args (q : PosShare TreeShare) : sProp (MM F) :=
  iprop((gX d ↦{q} vX d) ∗ (gB d ↦{q} vB d) ∗ (gQ d ↦{q} vQ d) ∗ (gT d ↦{q} vT d))

/-- What a subcore is given: a read share of the arguments and its windows of the results. -/
abbrev given (L : grid1.Coords) : sProp (MM F) :=
  iprop(args d vX vB vQ vT (shareOf L) ∗ (∃ f : Vec F S8192 .f32, win d L (wV L) f) ∗ (∃ f : Vec F S8192 .i32, win d L (wF L) f) ∗ (∃ f : Vec F S32768 .f32, wins d L f))

/-- What it hands back: the windows at the values claimed. -/
abbrev back (L : grid1.Coords) : sProp (MM F) :=
  iprop(args d vX vB vQ vT (shareOf L) ∗ win d L (wV L) (outV (vX d) (vQ d) (vT d)) ∗ win d L (wF L) (outF (vX d) (vQ d) (vT d))
    ∗ wins d L (outB (vX d) (vB d) (vQ d) (vT d)))

/-- All results, whole. -/
abbrev results : sProp (MM F) :=
  iprop((gV d ↦{fullShare} outV (vX d) (vQ d) (vT d)) ∗ (gF d ↦{fullShare} outF (vX d) (vQ d) (vT d))
    ∗ gO d ↦{fullShare} outB (vX d) (vB d) (vQ d) (vT d))

theorem each_args : args d vX vB vQ vT fullShare = each fun L => args d vX vB vQ vT (shareOf L) := by
  unfold args
  rw [each_read (ℓ := gX d) (vX d), each_read (ℓ := gB d) (vB d), each_read (ℓ := gQ d) (vQ d), each_read (ℓ := gT d) (vT d), ← each_sep, ← each_sep, ← each_sep]

theorem hand_out (f0 : Vec F S8192 .f32) (f1 : Vec F S8192 .i32) (f2 : Vec F S32768 .f32) :
    iprop(args d vX vB vQ vT fullShare ∗ (gV d ↦{fullShare} f0) ∗ (gF d ↦{fullShare} f1) ∗ gO d ↦{fullShare} f2)
      ⊢ each (given d vX vB vQ vT) := by
  rw [each_args, each_V, each_F, each_B, ← each_sep, ← each_sep, ← each_sep]
  refine each_mono fun L => ?_
  iintro ⟨HA, HV, HF, HB⟩
  isplitl [HA]; · iexact HA
  isplitl [HV]; · iexists f0; iexact HV
  isplitl [HF]; · iexists f1; iexact HF
  iexists f2; iexact HB

theorem take_back : each (back d vX vB vQ vT) = iprop(args d vX vB vQ vT fullShare ∗ results d vX vB vQ vT) := by
  unfold back results
  rw [each_args, each_V, each_F, each_B, ← each_sep, ← each_sep, ← each_sep]

def P : (K (F := F)).Pay (nD := nD) (Val := Elt F) (Name := ℕ) (U := UU) where
  st := fun q d c => match q with | 0 => bigSep Finset.univ fun s : Fin 16 => given d vX vB vQ vT (at' c s)
  dn := fun q d c => match q with | 0 => bigSep Finset.univ fun s : Fin 16 => back d vX vB vQ vT (at' c s)
  go := fun q d c s => match q with | 0 => given d vX vB vQ vT (at' c s)
  td := fun q d c s => match q with | 0 => back d vX vB vQ vT (at' c s)
  x := fun _ _ => iprop(emp)

instance P_storable : (P (F := F) vX vB vQ vT).IsStorable where
  st q d c := match q with
    | 0 => (inferInstance : BI.Storable (upEmb : UEmb _ (MM F)) (bigSep Finset.univ fun s : Fin 16 => given d vX vB vQ vT (at' c s)))
  dn q d c := match q with
    | 0 => (inferInstance : BI.Storable (upEmb : UEmb _ (MM F)) (bigSep Finset.univ fun s : Fin 16 => back d vX vB vQ vT (at' c s)))
  go q d c s := match q with
    | 0 => (inferInstance : BI.Storable (upEmb : UEmb _ (MM F)) (given d vX vB vQ vT (at' c s)))
  td q d c s := match q with
    | 0 => (inferInstance : BI.Storable (upEmb : UEmb _ (MM F)) (back d vX vB vQ vT (at' c s)))

theorem tile_body (L : grid1.Coords) (hF : (K (F := F)).Facts) (O : CellTallies nD τ sig (HIx 1)) (W : Waits sig (HIx 1)) (hO : ∀ g, O g none = 0) :
    iprop(levAts (K (F := F)).L (K (F := F)).lev ∗ emp ∗ given d vX vB vQ vT L
        ∗ scopedBufs (thr d L) ∗ scopedSems0 (thr d L) ∗ owes (thr d L) O W)
      ⊢ wp frame (wpE (defs₀ (F := F)) 𝒱₀ (thr d L) none) Set.univ (body L) fun _ =>
        iprop(back d vX vB vQ vT L ∗ scopedBufs (thr d L) ∗ scopedSems0 (thr d L)
          ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨⟨HX, HB, HQ, HT⟩, HWV, HWF, %fB, HW0, HW1, HW2, HW3⟩, ⟨HB0, HB1, HB2, HB3, HB4, HB5, HB6, HB7, HB8, HB9, HBr⟩,
    ⟨Hv10, Hv11, Hv0, Hv1, Hv2, Hv3, Hv4, Hv5, Hv6, Hv7, Hvr⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r frame _ _)
  isplitr [HBr Hvr]
  · iapply (body_run d L (vX d) (vB d) (vQ d) (vT d) (shareOf L) O W)
    isplitl [Hmw]; · iexact Hmw
    isplitl [HX]; · iexact HX
    isplitl [HB]; · iexact HB
    isplitl [HQ]; · iexact HQ
    isplitl [HT]; · iexact HT
    isplitl [HWV]; · iexact HWV
    isplitl [HWF]; · iexact HWF
    isplitl [HW0]; · iexists fB; iexact HW0
    isplitl [HW1]; · iexists fB; iexact HW1
    isplitl [HW2]; · iexists fB; iexact HW2
    isplitl [HW3]; · iexists fB; iexact HW3
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [Hv10]; · iexact Hv10
    isplitl [Hv11]; · iexact Hv11
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    unfold Owed
    iexists W; isplitr
    · ipureintro; exact fun p hp => .inl hp
    · iexact HO
  · unfold Owed
    iintro %a ⟨HX, HB, HQ, HT, HWV, HWF, HW0, HW1, HW2, HW3, HB0, HB1, HB2, HB3, HB4, HB5, HB6, HB7, HB8, HB9,
      Hv10, Hv11, Hv0, Hv1, Hv2, Hv3, Hv4, Hv5, Hv6, Hv7, HO⟩
    isplitl [HX HB HQ HT HWV HWF HW0 HW1 HW2 HW3]
    · isplitl [HX HB HQ HT]
      · isplitl [HX]; · iexact HX
        isplitl [HB]; · iexact HB
        isplitl [HQ]; · iexact HQ
        iexact HT
      isplitl [HWV]; · iexact HWV
      isplitl [HWF]; · iexact HWF
      isplitl [HW0]; · iexact HW0
      isplitl [HW1]; · iexact HW1
      isplitl [HW2]; · iexact HW2
      iexact HW3
    isplitr [Hv10 Hv11 Hv0 Hv1 Hv2 Hv3 Hv4 Hv5 Hv6 Hv7 Hvr HO]
    · skip
      isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      isplitl [HB7]; · iexact HB7
      isplitl [HB8]; · iexact HB8
      isplitl [HB9]; · iexact HB9
      iexact HBr
    isplitr [HO]
    · skip
      isplitl [Hv10]; · iexact Hv10
      isplitl [Hv11]; · iexact Hv11
      isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      isplitl [Hv7]; · iexact Hv7
      iexact Hvr
    iexact HO

end Run

end Cert.Proof.Select

end
-- ==== Proof.Region.lean ====
/-
  The row-maximum kernel on the TensorCore: its body's run on whole staging buffers, the pipeline's proof data, and the
  region as the program enters it, with what its two result arrays hold at the end.
-/
module

public import proofs.«01_k».proof.Proof.Setup
public import Idealize.ShloMosaic.Lib.Pipeline.Regions
public import Idealize.ShloMosaic.Lib.Pipeline.RegionsLoop
public import Idealize.ShloMosaic.Lib.Pipeline.FrameBody
public import Idealize.ShloMosaic.Lib.Pipeline.ValueKit.Geometry
public import Idealize.ShloMosaic.Lib.Ring
public import Idealize.ShloMosaic.Lib.VecWindow

@[expose] public section

set_option maxRecDepth 16384

noncomputable section

namespace Cert.Proof.Maxima

open Cert.KernelIdeal Cert.KernelIdeal.Gen Cert.Proof.Select

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

/-! ## The layout -/

abbrev adm : (p : Fin 2) → (pcfgs (F := F) p).Adm := fun p => (cfgs p).toPCfg_adm
abbrev semTab : Fin 2 → List (DmaSem sig) := fun | 0 => Pipeline.specSems spec0 | 1 => Pipeline.specSems spec2

theorem cells_inj : Function.Injective (Pipeline.cellOf (nD := nD) (τ := τ) (Pipeline.pin (pcfgs (F := F)) adm)) :=
  Pipeline.cellOf_injective_of_table cfgs semTab (fun | 0 => rfl | 1 => rfl) (by decide) (by decide)

theorem winFacts : Pipeline.WinFacts spec0 := by decide
theorem block_pos : ∀ w : Fin 3, 0 < (spec0 w).block.numel := by decide
theorem arr_whole : ∀ w : Fin 3, (spec0 w).arr.IsWhole :=
  fun | 0 => Memref.isWhole_whole _ | 1 => Memref.isWhole_whole _ | 2 => Memref.isWhole_whole _
theorem stage_whole : ∀ (w : Fin 3) (s : Fin (spec0 w).nbuf), ((spec0 w).stage s).IsWhole :=
  fun | 0 => fun s => hstage0_0 (s.cast nbuf0_0) | 1 => fun s => hstage0_1 (s.cast nbuf0_1) | 2 => fun s => hstage0_2 (s.cast nbuf0_2)

theorem each_window {M : Type} [URA M] (Φ : Fin 3 → sProp M) :
    bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

/-! ## The body -/

/-- A block with its columns padded to 128 by minus infinity. -/
def padded (x : Vec F S1x2000x91 .f32) : Vec F S1x2000x128 .f32 := fun y =>
  if h : (y 2).val < 91 then x (fun | ⟨0, _⟩ => y 0 | ⟨1, _⟩ => y 1 | ⟨2, _⟩ => ⟨(y 2).val, h⟩) else Scalar.ofBits .f32 0xFF800000#32

theorem body_run (c : Dev nD) (i : grid0.Coords) (M0 : Memref sig .tc .vmem S1x2000x91 .f32) (h0 : M0.IsWhole)
    (M1 : Memref sig .tc .vmem S1x1x2000 .f32) (h1 : M1.IsWhole) (M2 : Memref sig .tc .vmem S1x2000x128 .f32) (h2 : M2.IsWhole)
    (x : Vec F S1x2000x91 .f32) (E : Set ℕ) (Q : PUnit → sProp (MM F)) :
    iprop(owns (c : Thread nD τ) M0 fullShare x ∗ (∃ d, owns (c : Thread nD τ) M1 fullShare d) ∗ (∃ d, owns (c : Thread nD τ) M2 fullShare d)
        ∗ (iprop(owns (c : Thread nD τ) M0 fullShare x ∗ owns (c : Thread nD τ) M1 fullShare (k0_pay1 x) ∗ owns (c : Thread nD τ) M2 fullShare (padded x)) -∗ Q ⟨⟩))
      ⊢ wp frame (wpE (defs₀ (F := F)) Variants.none (c : Thread nD τ) none) E (cc0__qmax_body i M0 h0 M1 h1 M2 h2) Q := by
  simp only [cc0__qmax_body_eq_skeleton]
  unfold cc0__qmax_body_skel
  unfold owns
  iintro ⟨⟨%f0, %hf0, H0⟩, ⟨%d1, %f1, -, H1⟩, ⟨%d2, %f2, -, H2⟩, Hk⟩
  obtain rfl := h0.eq_unread hf0
  sl_exec
  sl_step
  iapply Hk
  isplitl [H0]
  · iexists _
    isplitr
    · ipureintro
      exact h0.read_unread _
    iexact H0
  isplitl [H1]
  · iexists _
    isplitr
    swap
    · iexact H1
    ipureintro
    rw [View.read_writes_full, View.readAt_full, hf0]
  iexists _
  isplitr
  swap
  · iexact H2
  ipureintro
  rw [View.readAt_full, hf0]
  refine funext fun y => ?_
  by_cases hy : (y 2).val < 91
  · rw [View.read_writes_cons_miss_of_axis _ _ _ _ y 2 91 37 rfl rfl rfl (.inl hy)]
    rw [padded, dif_pos hy]
    refine View.read_writes_cons_hit_of_coords _ _ _ _ _ _ _ fun a => ?_
    match a with
    | ⟨0, _⟩ => exact (Nat.zero_add _).symm.trans (congrArg _ (Nat.one_mul _).symm)
    | ⟨1, _⟩ => exact (Nat.zero_add _).symm.trans (congrArg _ (Nat.one_mul _).symm)
    | ⟨2, _⟩ => exact (Nat.zero_add _).symm.trans (congrArg _ (Nat.one_mul _).symm)
  · rw [padded, dif_neg hy]
    have h2 : (y 2).val - 91 < 37 := by
      have : (y 2).val < 128 := (y 2).isLt
      omega
    refine (View.read_writes_cons_hit_of_coords _ _ _ _ _ (fun | ⟨0, _⟩ => y 0 | ⟨1, _⟩ => y 1 | ⟨2, _⟩ => ⟨(y 2).val - 91, h2⟩) y fun a => ?_).trans rfl
    match a with
    | ⟨0, _⟩ => exact (Nat.zero_add _).symm.trans (congrArg _ (Nat.one_mul _).symm)
    | ⟨1, _⟩ => exact (Nat.zero_add _).symm.trans (congrArg _ (Nat.one_mul _).symm)
    | ⟨2, _⟩ =>
      show (y 2).val = 91 + 1 * ((y 2).val - 91)
      omega

/-! ## The pipeline's proof data -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev bodyAt (t : Fin cfg0.N) := cc0__qmax_body (F := F) (grid0.coords t) (ms0 t) (hstage0_0 ((cfg0.slots t 0).cast nbuf0_0))
  (ms1 t) (hstage0_1 ((cfg0.slots t 1).cast nbuf0_1)) (ms2 t) (hstage0_2 ((cfg0.slots t 2).cast nbuf0_2))

theorem row_at (t : Fin cfg0.N) : defs₀ (F := F) .tc cfg0.body (cfg0.bodyArgs t (cfg0.slots t)) = bodyAt t := by
  rfl

variable (A : (c : Dev nD) → (b : Ref sig .tc) → Buf (Elt F) ((c.tc : Thread nD τ).loc b))

/-- The block of window `w`'s array that point `t` works on. -/
def iblk (c : Dev nD) (w : Fin cfg0.W) (t : Fin cfg0.N) : ((cfg0.win w).xblock (cfg0.grid.coords t)).Idx → Elt F (cfg0.win w).elt :=
  ((cfg0.win w).blk t).view.read (Elt F) (A c (Pipeline.arrRef spec0 w))

/-- The pairs the TensorCore may have waited on before its first call of the SparseCores. -/
def early (c : Dev nD) : Set (SemLoc sig × HIx 1) := {p | (K (F := F)).lev ((c.tc : Thread nD τ), p.1) p.2 ≤ 8 * 0}

def dat (c : Dev nD) : Dat τ (Elt F) (HIx 1) ℕ UU ℕ cfg0 c where
  A w := A c (Pipeline.arrRef spec0 w)
  after w t := match w with
    | ⟨0, _⟩ => iblk A c 0 t
    | ⟨1, _⟩ => k0_pay1 (iblk A c 0 t)
    | ⟨2, _⟩ => padded (iblk A c 0 t)
  Φ _ := Pipeline.scopedRest (Ix := HIx 1) (Name := ℕ) (U := UU) (Lvl := ℕ) (Val := Elt F) spec0 c
  q _ := fullShare
  owed _ := (K (F := F)).Otc c 0
  recorded _ := early (F := F) c

theorem A_eq (c : Dev nD) (w : Fin cfg0.W) : (dat A c).A w = A c (Pipeline.arrRef spec0 w) := by dsimp only [dat]
theorem after_0 (c : Dev nD) (t : Fin cfg0.N) : (dat A c).after 0 t = iblk A c 0 t := by dsimp only [dat]
theorem after_1 (c : Dev nD) (t : Fin cfg0.N) : (dat A c).after 1 t = k0_pay1 (iblk A c 0 t) := by dsimp only [dat]
theorem after_2 (c : Dev nD) (t : Fin cfg0.N) : (dat A c).after 2 t = padded (iblk A c 0 t) := by dsimp only [dat]

theorem before_0 (c : Dev nD) (t : Fin cfg0.N) (d) : (dat A c).before 0 t d = iblk A c 0 t :=
  ((dat A c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-! ## The body obligation -/

def bodyPre (c : Dev nD) (t : Fin cfg0.N) : sProp (MM F) :=
  iprop((dat A c).Φ t.castSucc ∗ (dat A c).owesAt none t.castSucc
    ∗ (∃ d, owns (c : Thread nD τ) (ms0 t) fullShare ((dat A c).before 0 t d))
    ∗ (∃ d, owns (c : Thread nD τ) (ms1 t) fullShare ((dat A c).before 1 t d))
    ∗ (∃ d, owns (c : Thread nD τ) (ms2 t) fullShare ((dat A c).before 2 t d)))

def bodyPost (c : Dev nD) (t : Fin cfg0.N) : sProp (MM F) :=
  iprop((dat A c).Φ t.succ ∗ (dat A c).owesAt none t.succ
    ∗ owns (c : Thread nD τ) (ms0 t) fullShare ((dat A c).after 0 t)
    ∗ owns (c : Thread nD τ) (ms1 t) fullShare ((dat A c).after 1 t)
    ∗ owns (c : Thread nD τ) (ms2 t) fullShare ((dat A c).after 2 t))

theorem body_at (c : Dev nD) (t : Fin cfg0.N) :
    bodyPre A c t ⊢ wp frame (wpE (defs₀ (F := F)) Variants.none (c : Thread nD τ) none) Set.univ (bodyAt t) (fun _ => bodyPost A c t) := by
  unfold bodyPre bodyPost bodyAt
  simp only [before_0]
  rw [show (dat A c).Φ t.succ = (dat A c).Φ t.castSucc from rfl,
    show (dat A c).owesAt none t.succ = (dat A c).owesAt none t.castSucc from rfl, after_0, after_1, after_2]
  iintro ⟨HΦ, Ho, ⟨%d0, H0⟩, ⟨%d1, H1⟩, ⟨%d2, H2⟩⟩
  iapply (body_run c (grid0.coords t) _ _ _ _ _ _ (iblk A c 0 t) Set.univ _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation (c : Dev nD) : BodyObligation (dat A c) (defs₀ (F := F)) Variants.none none Set.univ := fun t => by
  rw [each_window, each_window, row_at]
  exact triple_restated (body_at A c t) rfl .rfl fun _ => .rfl

/-! ## The region -/

/-- The other call's data while this one runs: its arrays as they are. -/
def idle (c : Dev nD) : Dat τ (Elt F) (HIx 1) ℕ UU ℕ cfg2 c where
  A w := A c (Pipeline.arrRef spec2 w)
  after w t := match w with
    | ⟨0, _⟩ => A c main_v8
    | ⟨1, _⟩ => A c main_v9
    | ⟨2, _⟩ => A c main_v11
    | ⟨3, _⟩ => A c main_v13
    | ⟨4, _⟩ => A c main_v15
    | ⟨5, _⟩ => A c main_v17
    | ⟨6, _⟩ => A c main_v6
    | ⟨7, _⟩ => A c main_v18_0
    | ⟨8, _⟩ => A c main_v18_1
    | ⟨9, _⟩ => A c main_v18_2
    | ⟨10, _⟩ => A c main_v18_3
    | ⟨11, _⟩ => A c main_v18_4
    | ⟨12, _⟩ => A c main_v18_5
  Φ _ := BI.emp
  q _ := fullShare
  owed _ := (K (F := F)).Otc c 0
  recorded _ := early (F := F) c

def pdats : (p : Fin 2) → (c : Dev nD) → Dat τ (Elt F) (HIx 1) ℕ UU ℕ (Pipeline.pin (pcfgs (F := F)) adm p) c
  | ⟨0, _⟩ => fun c => dat A c
  | ⟨1, _⟩ => fun c => idle A c

theorem Otc_none (c : Dev nD) (g : GSem nD τ sig) : (K (F := F)).Otc (N := 1) c 0 g none = 0 := by
  by_contra h
  have h1 := SparseCore.Cfg.lev_of_Otc_pos (K := K (F := F)) (Nat.pos_of_ne_zero h)
  have h2 : (K (F := F)).lev g (none : HIx 1) = 0 := rfl
  rw [h2] at h1
  exact absurd h1 (by omega)

/-- What the TensorCore owes and has waited on before its first call of the SparseCores. -/
abbrev debts (c : Dev nD) : sProp (MM F) :=
  iprop(∃ W, ⌜(K (F := F)).WBelow (c.tc : Thread nD τ) W (8 * 0)⌝ ∗ owes (c.tc : Thread nD τ) ((K (F := F)).Otc c 0) W)

variable (A' : (c : Dev nD) → (b : Ref sig .tc) → Buf (Elt F) ((c.tc : Thread nD τ).loc b))

set_option backward.isDefEq.respectTransparency.types false in
def reg (hQ : ∀ c, A' c main_v0_0 = (dat A c).arrAt 1 cfg0.N) (hX : ∀ c, A' c main_v0_1 = (dat A c).arrAt 2 cfg0.N)
    (hne : ∀ c (b : Ref sig .tc), b ≠ main_v0_0 → b ≠ main_v0_1 → A' c b = A c b) :
    Pipeline.RegionSeg (pcfgs (F := F)) adm (pdats A) none defs₀ 𝒱₀ (K (F := F)).L (K (F := F)).lev 0 where
  win := winFacts.to₀
  block_pos := block_pos
  stage_whole := stage_whole
  K := PEmpty
  osem k := k.elim
  ho := Pipeline.OwnSemFacts.none _
  hbody c := (obligation A c).loose
  hwaits c := Pipeline.cellsWaits_intro _ _ none 0 c fun w s t => (K (F := F)).mayWait_none _ (Otc_none c)
  pre c := iprop(unscopedBufs c (A c) ∗ debts c)
  post c := iprop(unscopedBufs c (A' c) ∗ debts c)
  X _ := BI.emp
  Y _ := BI.emp
  Z c := Pipeline.unscopedRest (Ix := HIx 1) (Name := ℕ) (U := UU) (Lvl := ℕ) spec0 c (A c)
  hentry c := by
    rw [Pipeline.ownSems0_none]
    have hsplit := Pipeline.arrays_of_unscopedBufs (p := 0) (pcfgs (F := F)) adm (pdats A) winFacts arr_whole c
      ((pdats A 0 c).share_full fun _ => rfl) (A c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W
      isplitr
      · ipureintro; exact fun p hp => Or.inl (hW p hp)
      iexact HO
    isplitr; · iempintro
    iexact Hrest
  hin c := by
    rw [show (pdats A 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats A 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) winFacts arr_whole c
      (pdats A) ((pdats A 0 c).share_full fun _ => rfl) (A c) (A' c) ((pdats A 0 c).arrAt · cfg0.N)
      (fun w => by
        fin_cases w
        · exact ((pdats A 0 c).arrAt_in 0 rfl _).trans (hne c main_arg0 (by decide) (by decide)).symm
        · exact (hQ c).symm
        · exact (hX c).symm)
      (fun b hb => hne c b (fun h => hb (h ▸ Finset.mem_image.mpr ⟨1, Finset.mem_univ _, rfl⟩))
        fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W
    isplitr
    · ipureintro
      intro p hp
      rcases hW hp with h | ⟨w, s, h⟩
      · exact h
      · rw [h]; exact Nat.zero_le _
    iexact HO

/-! ## The arrays at the end -/

/-- The rows that point `k` works on: two thousand rows of one image. -/
def rowsOf (X : Vec F S16x20000x91 .f32) (k : Fin 160) : Vec F S1x2000x91 .f32 := fun y =>
  X (fun
    | ⟨0, _⟩ => ⟨k.val / 10, show k.val / 10 < 16 from by have := k.isLt; omega⟩
    | ⟨1, _⟩ => ⟨k.val % 10 * 2000 + (y 1).val, show _ < 20000 from by have : (y 1).val < 2000 := (y 1).isLt; omega⟩
    | ⟨2, _⟩ => ⟨(y 2).val, (y 2).isLt⟩)

/-- The maxima of the rows, by block. -/
def maxima (X : Vec F S16x20000x91 .f32) : Vec F S160x1x2000 .f32 := fun i =>
  k0_pay1 (rowsOf X (i 0)) (fun | ⟨0, _⟩ => (0 : Fin 1) | ⟨1, _⟩ => (0 : Fin 1) | ⟨2, _⟩ => ⟨(i 2).val, (i 2).isLt⟩)

/-- The rows padded, by block. -/
def widened (X : Vec F S16x20000x91 .f32) : Vec F S160x2000x128 .f32 := fun i =>
  padded (rowsOf X (i 0)) (fun | ⟨0, _⟩ => (0 : Fin 1) | ⟨1, _⟩ => ⟨(i 1).val, (i 1).isLt⟩ | ⟨2, _⟩ => ⟨(i 2).val, (i 2).isLt⟩)

theorem idx_0 : ∀ t : Fin cfg0.N, win0_0.index t = ![t.val / 10, t.val % 10, 0] := (by decide +kernel : ∀ t : Fin grid0.N, _)
theorem idx_1 : ∀ t : Fin cfg0.N, win0_1.index t = ![t.val, 0, 0] := (by decide +kernel : ∀ t : Fin grid0.N, _)
theorem idx_2 : ∀ t : Fin cfg0.N, win0_2.index t = ![t.val, 0, 0] := (by decide +kernel : ∀ t : Fin grid0.N, _)

theorem iblk_rows (c : Dev nD) (t : Fin cfg0.N) : iblk A c 0 t = rowsOf (A c main_arg0) t := by
  funext y
  blk_simp [iblk]
  unfold rowsOf
  blk_ext [idx_0]

theorem final_1 (c : Dev nD) : (dat A c).arrAt 1 cfg0.N = maxima (A c main_arg0) := by
  refine (dat A c).arrAt_eq_of_covers 1 _ (by decide +kernel) fun t hf y => ?_
  blk_simp
  rw [after_1, iblk_rows]
  have h0 : (y 0).val < 1 := (y 0).isLt
  have h1 : (y 1).val < 1 := (y 1).isLt
  refine congrArg₂ (fun (k : Fin 160) (j : S1x1x2000.Idx) => k0_pay1 (rowsOf (A c main_arg0) k) j) (Fin.ext ?_) (funext fun a => Fin.ext ?_)
  · blk_simp [idx_1]
  · match a with
    | ⟨0, _⟩ => show (y 0).val = 0; omega
    | ⟨1, _⟩ => show (y 1).val = 0; omega
    | ⟨2, _⟩ =>
      show (y 2).val = ((((cfg0.win 1).blk t).view.emb y) 2).val
      blk_simp [idx_1]

theorem final_2 (c : Dev nD) : (dat A c).arrAt 2 cfg0.N = widened (A c main_arg0) := by
  refine (dat A c).arrAt_eq_of_covers 2 _ (by decide +kernel) fun t hf y => ?_
  blk_simp
  rw [after_2, iblk_rows]
  have h0 : (y 0).val < 1 := (y 0).isLt
  refine congrArg₂ (fun (k : Fin 160) (j : S1x2000x128.Idx) => padded (rowsOf (A c main_arg0) k) j) (Fin.ext ?_) (funext fun a => Fin.ext ?_)
  · blk_simp [idx_2]
  · match a with
    | ⟨0, _⟩ => show (y 0).val = 0; omega
    | ⟨1, _⟩ =>
      show (y 1).val = ((((cfg0.win 2).blk t).view.emb y) 1).val
      blk_simp [idx_2]
    | ⟨2, _⟩ =>
      show (y 2).val = ((((cfg0.win 2).blk t).view.emb y) 2).val
      blk_simp [idx_2]

end Cert.Proof.Maxima

end
-- ==== Proof.Rank.lean ====
/-
  The ranking kernel on the TensorCore: its body's run on whole staging buffers.
-/
module

public import proofs.«01_k».proof.Proof.Region
public import Idealize.ShloMosaic.Lib.WritesUnit
public import Idealize.ShloMosaic.Lib.Pipeline.Regions
public import Idealize.ShloMosaic.Lib.Pipeline.RegionsLoop
public import Idealize.ShloMosaic.Lib.Pipeline.FrameBody
public import Idealize.ShloMosaic.Lib.Pipeline.ValueKit.Geometry
public import Idealize.ShloMosaic.Lib.Ring
public import Idealize.ShloMosaic.Lib.VecWindow

@[expose] public section

set_option maxRecDepth 16384

noncomputable section

namespace Cert.Proof.Rank

open Cert.KernelIdeal Cert.KernelIdeal.Gen Cert.Proof.Select

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

/-! ## What the body stores -/

/-- The rank of every candidate among its image's 512. -/
def rank (v : Vec F S16x512 .f32) (f : Vec F S16x512 .i32) : IVec S16x512 32 :=
  k2_pay14 (k2_pay3 v) (k2_pay4 f) (k2_pay5 v f) (k2_pay6 v f) (k2_pay8 f) (k2_pay10 f) (k2_pay11 v) (k2_pay12 v) (k2_pay13 v)

/-- Three blocks of a hundred columns side by side. -/
def side {e : EltTy} (a b c : Vec F S16x100 e) : Vec F S16x300 e := fun y =>
  if h : (y 1).val < 100 then a (fun | ⟨0, _⟩ => ⟨(y 0).val, (y 0).isLt⟩ | ⟨1, _⟩ => ⟨(y 1).val, h⟩)
  else if h : (y 1).val < 200 then b (fun | ⟨0, _⟩ => ⟨(y 0).val, (y 0).isLt⟩ | ⟨1, _⟩ => ⟨(y 1).val - 100, show _ < 100 by omega⟩)
  else c (fun | ⟨0, _⟩ => ⟨(y 0).val, (y 0).isLt⟩ | ⟨1, _⟩ => ⟨(y 1).val - 200, show _ < 100 by have : (y 1).val < 300 := (y 1).isLt; omega⟩)

/-- A plane's values in the order of the ranks. -/
def plane (p v : Vec F S16x512 .f32) (f : Vec F S16x512 .i32) : Vec F S16x300 .f32 :=
  side (F := F) (e := .f32) (k2_pay2 p (k2_pay26 (rank v f))) (k2_pay2 p (k2_pay36 (rank v f))) (k2_pay2 p (k2_pay44 (rank v f)))

def scores (v : Vec F S16x512 .f32) (f : Vec F S16x512 .i32) : Vec F S16x300 .f32 := plane (k2_pay3 v) v f

def labels (v : Vec F S16x512 .f32) (f : Vec F S16x512 .i32) : Vec F S16x300 .i32 :=
  side (F := F) (e := .i32) (k2_pay46 (k2_pay4 f) (k2_pay26 (rank v f))) (k2_pay46 (k2_pay4 f) (k2_pay36 (rank v f)))
    (k2_pay46 (k2_pay4 f) (k2_pay44 (rank v f)))

/-- The four corners' coordinates, scaled. -/
def left (cx w : Vec F S16x512 .f32) (s : Vec F S16x2 .f32) : Vec F S16x512 .f32 := k2_pay22 (k2_pay15 s) (k2_pay21 cx w)
def top (cy h : Vec F S16x512 .f32) (s : Vec F S16x2 .f32) : Vec F S16x512 .f32 := k2_pay23 (k2_pay16 s) (k2_pay18 cy) (k2_pay20 h)
def right (cx w : Vec F S16x512 .f32) (s : Vec F S16x2 .f32) : Vec F S16x512 .f32 := k2_pay24 (k2_pay15 s) (k2_pay17 cx) (k2_pay19 w)
def bottom (cy h : Vec F S16x512 .f32) (s : Vec F S16x2 .f32) : Vec F S16x512 .f32 := k2_pay25 (k2_pay16 s) (k2_pay18 cy) (k2_pay20 h)

/-- Three stores of a hundred columns each leave the blocks side by side. -/
theorem stored {e : EltTy} (v : View sig .tc .vmem S16x300 e) (g : v.ty.Contents (Elt F)) (a b c : Vec F S16x100 e)
    (ia : ∀ i, (![0, 0] : Fin 2 → ℕ) i + S16x100.size i ≤ S16x300.size i) (ib : ∀ i, (![0, 100] : Fin 2 → ℕ) i + S16x100.size i ≤ S16x300.size i)
    (ic : ∀ i, (![0, 200] : Fin 2 → ℕ) i + S16x100.size i ≤ S16x300.size i) :
    v.read (Elt F) (v.writes (Elt F) g [⟨Rect.unit (s := S16x300) ![0, 200] S16x100.size ic, c⟩, ⟨Rect.unit (s := S16x300) ![0, 100] S16x100.size ib, b⟩,
      ⟨Rect.unit (s := S16x300) ![0, 0] S16x100.size ia, a⟩]) = side (F := F) a b c := by
  refine funext fun y => ?_
  have hy : (y 1).val < 300 := (y 1).isLt
  unfold side
  by_cases h1 : (y 1).val < 100
  · rw [dif_pos h1,
      View.read_writes_cons_unit_of_not_mem v g ic c _ y rfl (1 : Fin 2) (.inl (show (y 1).val < 200 by omega)),
      View.read_writes_cons_unit_of_not_mem v g ib b _ y rfl (1 : Fin 2) (.inl (show (y 1).val < 100 by omega))]
    refine View.read_writes_cons_unit_of_mem v g ia a _ y _ rfl fun i => ?_
    match i with
    | ⟨0, _⟩ => exact (Nat.zero_add _).symm
    | ⟨1, _⟩ => exact (Nat.zero_add _).symm
  rw [dif_neg h1]
  by_cases h2 : (y 1).val < 200
  · rw [dif_pos h2, View.read_writes_cons_unit_of_not_mem v g ic c _ y rfl (1 : Fin 2) (.inl (show (y 1).val < 200 by omega))]
    refine View.read_writes_cons_unit_of_mem v g ib b _ y _ rfl fun i => ?_
    match i with
    | ⟨0, _⟩ => exact (Nat.zero_add _).symm
    | ⟨1, _⟩ => show (y 1).val = 100 + ((y 1).val - 100); omega
  · rw [dif_neg h2]
    refine View.read_writes_cons_unit_of_mem v g ic c _ y _ rfl fun i => ?_
    match i with
    | ⟨0, _⟩ => exact (Nat.zero_add _).symm
    | ⟨1, _⟩ => show (y 1).val = 200 + ((y 1).val - 200); omega

/-! ## The stores -/

/-- The eighteen stores, of given values: the results in blocks of a hundred columns. -/
def stores (M7 : Memref sig .tc .vmem S16x300 .i32)
    (M8 : Memref sig .tc .vmem S16x300 .f32)
    (M9 : Memref sig .tc .vmem S16x300 .f32)
    (M10 : Memref sig .tc .vmem S16x300 .f32)
    (M11 : Memref sig .tc .vmem S16x300 .f32)
    (M12 : Memref sig .tc .vmem S16x300 .f32)
    (a7 b7 c7 : Vec F S16x100 .i32)
    (a8 b8 c8 : Vec F S16x100 .f32)
    (a9 b9 c9 : Vec F S16x100 .f32)
    (a10 b10 c10 : Vec F S16x100 .f32)
    (a11 b11 c11 : Vec F S16x100 .f32)
    (a12 b12 c12 : Vec F S16x100 .f32) : Prog (TpuEff nD τ sig (Elt F) Λ₀ .tc) PUnit := do
  let _ ← Prog.lift (.load M8 (Rect.unit (s := S16x300) ![0, 0] S16x100.size inb_S16x300_S16x100_0_0).toLoadRect (View.loadsAt_vmem h_S16x100))
  Prog.lift (.store M8 (Rect.unit (s := S16x300) ![0, 0] S16x100.size inb_S16x300_S16x100_0_0) a8 Finset.univ (View.stores_vmem_bits_univ h_S16x100 rfl) (.inl rfl))
  let _ ← Prog.lift (.load M7 (Rect.unit (s := S16x300) ![0, 0] S16x100.size inb_S16x300_S16x100_0_0).toLoadRect (View.loadsAt_vmem h_S16x100))
  Prog.lift (.store M7 (Rect.unit (s := S16x300) ![0, 0] S16x100.size inb_S16x300_S16x100_0_0) a7 Finset.univ (View.stores_vmem_bits_univ h_S16x100 rfl) (.inl rfl))
  let _ ← Prog.lift (.load M9 (Rect.unit (s := S16x300) ![0, 0] S16x100.size inb_S16x300_S16x100_0_0).toLoadRect (View.loadsAt_vmem h_S16x100))
  Prog.lift (.store M9 (Rect.unit (s := S16x300) ![0, 0] S16x100.size inb_S16x300_S16x100_0_0) a9 Finset.univ (View.stores_vmem_bits_univ h_S16x100 rfl) (.inl rfl))
  let _ ← Prog.lift (.load M10 (Rect.unit (s := S16x300) ![0, 0] S16x100.size inb_S16x300_S16x100_0_0).toLoadRect (View.loadsAt_vmem h_S16x100))
  Prog.lift (.store M10 (Rect.unit (s := S16x300) ![0, 0] S16x100.size inb_S16x300_S16x100_0_0) a10 Finset.univ (View.stores_vmem_bits_univ h_S16x100 rfl) (.inl rfl))
  let _ ← Prog.lift (.load M11 (Rect.unit (s := S16x300) ![0, 0] S16x100.size inb_S16x300_S16x100_0_0).toLoadRect (View.loadsAt_vmem h_S16x100))
  Prog.lift (.store M11 (Rect.unit (s := S16x300) ![0, 0] S16x100.size inb_S16x300_S16x100_0_0) a11 Finset.univ (View.stores_vmem_bits_univ h_S16x100 rfl) (.inl rfl))
  let _ ← Prog.lift (.load M12 (Rect.unit (s := S16x300) ![0, 0] S16x100.size inb_S16x300_S16x100_0_0).toLoadRect (View.loadsAt_vmem h_S16x100))
  Prog.lift (.store M12 (Rect.unit (s := S16x300) ![0, 0] S16x100.size inb_S16x300_S16x100_0_0) a12 Finset.univ (View.stores_vmem_bits_univ h_S16x100 rfl) (.inl rfl))
  let _ ← Prog.lift (.load M8 (Rect.unit (s := S16x300) ![0, 100] S16x100.size inb_S16x300_S16x100_0_100).toLoadRect (View.loadsAt_vmem h_S16x100))
  Prog.lift (.store M8 (Rect.unit (s := S16x300) ![0, 100] S16x100.size inb_S16x300_S16x100_0_100) b8 Finset.univ (View.stores_vmem_bits_univ h_S16x100 rfl) (.inl rfl))
  let _ ← Prog.lift (.load M7 (Rect.unit (s := S16x300) ![0, 100] S16x100.size inb_S16x300_S16x100_0_100).toLoadRect (View.loadsAt_vmem h_S16x100))
  Prog.lift (.store M7 (Rect.unit (s := S16x300) ![0, 100] S16x100.size inb_S16x300_S16x100_0_100) b7 Finset.univ (View.stores_vmem_bits_univ h_S16x100 rfl) (.inl rfl))
  let _ ← Prog.lift (.load M9 (Rect.unit (s := S16x300) ![0, 100] S16x100.size inb_S16x300_S16x100_0_100).toLoadRect (View.loadsAt_vmem h_S16x100))
  Prog.lift (.store M9 (Rect.unit (s := S16x300) ![0, 100] S16x100.size inb_S16x300_S16x100_0_100) b9 Finset.univ (View.stores_vmem_bits_univ h_S16x100 rfl) (.inl rfl))
  let _ ← Prog.lift (.load M10 (Rect.unit (s := S16x300) ![0, 100] S16x100.size inb_S16x300_S16x100_0_100).toLoadRect (View.loadsAt_vmem h_S16x100))
  Prog.lift (.store M10 (Rect.unit (s := S16x300) ![0, 100] S16x100.size inb_S16x300_S16x100_0_100) b10 Finset.univ (View.stores_vmem_bits_univ h_S16x100 rfl) (.inl rfl))
  let _ ← Prog.lift (.load M11 (Rect.unit (s := S16x300) ![0, 100] S16x100.size inb_S16x300_S16x100_0_100).toLoadRect (View.loadsAt_vmem h_S16x100))
  Prog.lift (.store M11 (Rect.unit (s := S16x300) ![0, 100] S16x100.size inb_S16x300_S16x100_0_100) b11 Finset.univ (View.stores_vmem_bits_univ h_S16x100 rfl) (.inl rfl))
  let _ ← Prog.lift (.load M12 (Rect.unit (s := S16x300) ![0, 100] S16x100.size inb_S16x300_S16x100_0_100).toLoadRect (View.loadsAt_vmem h_S16x100))
  Prog.lift (.store M12 (Rect.unit (s := S16x300) ![0, 100] S16x100.size inb_S16x300_S16x100_0_100) b12 Finset.univ (View.stores_vmem_bits_univ h_S16x100 rfl) (.inl rfl))
  let _ ← Prog.lift (.load M8 (Rect.unit (s := S16x300) ![0, 200] S16x100.size inb_S16x300_S16x100_0_200).toLoadRect (View.loadsAt_vmem h_S16x100))
  Prog.lift (.store M8 (Rect.unit (s := S16x300) ![0, 200] S16x100.size inb_S16x300_S16x100_0_200) c8 Finset.univ (View.stores_vmem_bits_univ h_S16x100 rfl) (.inl rfl))
  let _ ← Prog.lift (.load M7 (Rect.unit (s := S16x300) ![0, 200] S16x100.size inb_S16x300_S16x100_0_200).toLoadRect (View.loadsAt_vmem h_S16x100))
  Prog.lift (.store M7 (Rect.unit (s := S16x300) ![0, 200] S16x100.size inb_S16x300_S16x100_0_200) c7 Finset.univ (View.stores_vmem_bits_univ h_S16x100 rfl) (.inl rfl))
  let _ ← Prog.lift (.load M9 (Rect.unit (s := S16x300) ![0, 200] S16x100.size inb_S16x300_S16x100_0_200).toLoadRect (View.loadsAt_vmem h_S16x100))
  Prog.lift (.store M9 (Rect.unit (s := S16x300) ![0, 200] S16x100.size inb_S16x300_S16x100_0_200) c9 Finset.univ (View.stores_vmem_bits_univ h_S16x100 rfl) (.inl rfl))
  let _ ← Prog.lift (.load M10 (Rect.unit (s := S16x300) ![0, 200] S16x100.size inb_S16x300_S16x100_0_200).toLoadRect (View.loadsAt_vmem h_S16x100))
  Prog.lift (.store M10 (Rect.unit (s := S16x300) ![0, 200] S16x100.size inb_S16x300_S16x100_0_200) c10 Finset.univ (View.stores_vmem_bits_univ h_S16x100 rfl) (.inl rfl))
  let _ ← Prog.lift (.load M11 (Rect.unit (s := S16x300) ![0, 200] S16x100.size inb_S16x300_S16x100_0_200).toLoadRect (View.loadsAt_vmem h_S16x100))
  Prog.lift (.store M11 (Rect.unit (s := S16x300) ![0, 200] S16x100.size inb_S16x300_S16x100_0_200) c11 Finset.univ (View.stores_vmem_bits_univ h_S16x100 rfl) (.inl rfl))
  let _ ← Prog.lift (.load M12 (Rect.unit (s := S16x300) ![0, 200] S16x100.size inb_S16x300_S16x100_0_200).toLoadRect (View.loadsAt_vmem h_S16x100))
  Prog.lift (.store M12 (Rect.unit (s := S16x300) ![0, 200] S16x100.size inb_S16x300_S16x100_0_200) c12 Finset.univ (View.stores_vmem_bits_univ h_S16x100 rfl) (.inl rfl))
  pure ⟨⟩

theorem stores_run (c : Dev nD) (M7 : Memref sig .tc .vmem S16x300 .i32)
    (M8 : Memref sig .tc .vmem S16x300 .f32)
    (M9 : Memref sig .tc .vmem S16x300 .f32)
    (M10 : Memref sig .tc .vmem S16x300 .f32)
    (M11 : Memref sig .tc .vmem S16x300 .f32)
    (M12 : Memref sig .tc .vmem S16x300 .f32)
    (a7 b7 c7 : Vec F S16x100 .i32)
    (a8 b8 c8 : Vec F S16x100 .f32)
    (a9 b9 c9 : Vec F S16x100 .f32)
    (a10 b10 c10 : Vec F S16x100 .f32)
    (a11 b11 c11 : Vec F S16x100 .f32)
    (a12 b12 c12 : Vec F S16x100 .f32) (E : Set ℕ) (Q : PUnit → sProp (MM F)) :
    iprop((∃ d, owns (c : Thread nD τ) M7 fullShare d)
        ∗ (∃ d, owns (c : Thread nD τ) M8 fullShare d)
        ∗ (∃ d, owns (c : Thread nD τ) M9 fullShare d)
        ∗ (∃ d, owns (c : Thread nD τ) M10 fullShare d)
        ∗ (∃ d, owns (c : Thread nD τ) M11 fullShare d)
        ∗ (∃ d, owns (c : Thread nD τ) M12 fullShare d)
        ∗ (iprop(owns (c : Thread nD τ) M7 fullShare (side (F := F) a7 b7 c7)
          ∗ owns (c : Thread nD τ) M8 fullShare (side (F := F) a8 b8 c8)
          ∗ owns (c : Thread nD τ) M9 fullShare (side (F := F) a9 b9 c9)
          ∗ owns (c : Thread nD τ) M10 fullShare (side (F := F) a10 b10 c10)
          ∗ owns (c : Thread nD τ) M11 fullShare (side (F := F) a11 b11 c11)
          ∗ owns (c : Thread nD τ) M12 fullShare (side (F := F) a12 b12 c12)) -∗ Q ⟨⟩))
      ⊢ wp frame (wpE (defs₀ (F := F)) Variants.none (c : Thread nD τ) none) E (stores M7 M8 M9 M10 M11 M12 a7 b7 c7 a8 b8 c8 a9 b9 c9 a10 b10 c10 a11 b11 c11 a12 b12 c12) Q := by
  unfold stores
  unfold owns
  iintro ⟨⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  sl_exec
  sl_step
  iapply Hk
  isplitl [H7]
  · iexists _
    isplitr
    swap
    · iexact H7
    ipureintro
    exact stored M7.view f7 a7 b7 c7 _ _ _
  isplitl [H8]
  · iexists _
    isplitr
    swap
    · iexact H8
    ipureintro
    exact stored M8.view f8 a8 b8 c8 _ _ _
  isplitl [H9]
  · iexists _
    isplitr
    swap
    · iexact H9
    ipureintro
    exact stored M9.view f9 a9 b9 c9 _ _ _
  isplitl [H10]
  · iexists _
    isplitr
    swap
    · iexact H10
    ipureintro
    exact stored M10.view f10 a10 b10 c10 _ _ _
  isplitl [H11]
  · iexists _
    isplitr
    swap
    · iexact H11
    ipureintro
    exact stored M11.view f11 a11 b11 c11 _ _ _
  iexists _
  isplitr
  swap
  · iexact H12
  ipureintro
  exact stored M12.view f12 a12 b12 c12 _ _ _

/-- What is stored, from what is loaded. -/
def rest (M7 : Memref sig .tc .vmem S16x300 .i32) (M8 M9 M10 M11 M12 : Memref sig .tc .vmem S16x300 .f32)
    (v : Vec F S16x512 .f32) (f : Vec F S16x512 .i32) (s s' : Vec F S16x2 .f32) (cx cy w h : Vec F S16x512 .f32) : Prog (TpuEff nD τ sig (Elt F) Λ₀ .tc) PUnit :=
  stores M7 M8 M9 M10 M11 M12
    (k2_pay31 (Scalar.select (Scalar.cmpi .eq 91#32 0#32) 1#32 91#32) (k2_pay28 (k2_pay4 f) (k2_pay14 (k2_pay3 v) (k2_pay4 f) (k2_pay5 v f) (k2_pay6 v f) (k2_pay8 f) (k2_pay10 f) (k2_pay11 v) (k2_pay12 v) (k2_pay13 v))) (k2_pay29 (k2_pay4 f) (k2_pay14 (k2_pay3 v) (k2_pay4 f) (k2_pay5 v f) (k2_pay6 v f) (k2_pay8 f) (k2_pay10 f) (k2_pay11 v) (k2_pay12 v) (k2_pay13 v))) (k2_pay30 (k2_pay4 f) (k2_pay14 (k2_pay3 v) (k2_pay4 f) (k2_pay5 v f) (k2_pay6 v f) (k2_pay8 f) (k2_pay10 f) (k2_pay11 v) (k2_pay12 v) (k2_pay13 v)))) (k2_pay38 (k2_pay4 f) (k2_pay14 (k2_pay3 v) (k2_pay4 f) (k2_pay5 v f) (k2_pay6 v f) (k2_pay8 f) (k2_pay10 f) (k2_pay11 v) (k2_pay12 v) (k2_pay13 v))) (k2_pay46 (k2_pay4 f) (k2_pay44 (k2_pay14 (k2_pay3 v) (k2_pay4 f) (k2_pay5 v f) (k2_pay6 v f) (k2_pay8 f) (k2_pay10 f) (k2_pay11 v) (k2_pay12 v) (k2_pay13 v))))
    (k2_pay27 (k2_pay3 v) (k2_pay14 (k2_pay3 v) (k2_pay4 f) (k2_pay5 v f) (k2_pay6 v f) (k2_pay8 f) (k2_pay10 f) (k2_pay11 v) (k2_pay12 v) (k2_pay13 v))) (k2_pay37 (k2_pay3 v) (k2_pay14 (k2_pay3 v) (k2_pay4 f) (k2_pay5 v f) (k2_pay6 v f) (k2_pay8 f) (k2_pay10 f) (k2_pay11 v) (k2_pay12 v) (k2_pay13 v))) (k2_pay45 (k2_pay3 v) (k2_pay14 (k2_pay3 v) (k2_pay4 f) (k2_pay5 v f) (k2_pay6 v f) (k2_pay8 f) (k2_pay10 f) (k2_pay11 v) (k2_pay12 v) (k2_pay13 v)))
    (k2_pay32 (k2_pay22 (k2_pay15 s) (k2_pay21 cx w)) (k2_pay26 (k2_pay14 (k2_pay3 v) (k2_pay4 f) (k2_pay5 v f) (k2_pay6 v f) (k2_pay8 f) (k2_pay10 f) (k2_pay11 v) (k2_pay12 v) (k2_pay13 v)))) (k2_pay40 (k2_pay39 (k2_pay14 (k2_pay3 v) (k2_pay4 f) (k2_pay5 v f) (k2_pay6 v f) (k2_pay8 f) (k2_pay10 f) (k2_pay11 v) (k2_pay12 v) (k2_pay13 v)) (k2_pay22 (k2_pay15 s) (k2_pay21 cx w)))) (k2_pay47 (k2_pay22 (k2_pay15 s) (k2_pay21 cx w)) (k2_pay44 (k2_pay14 (k2_pay3 v) (k2_pay4 f) (k2_pay5 v f) (k2_pay6 v f) (k2_pay8 f) (k2_pay10 f) (k2_pay11 v) (k2_pay12 v) (k2_pay13 v))))
    (k2_pay33 (k2_pay23 (k2_pay16 s') (k2_pay18 cy) (k2_pay20 h)) (k2_pay26 (k2_pay14 (k2_pay3 v) (k2_pay4 f) (k2_pay5 v f) (k2_pay6 v f) (k2_pay8 f) (k2_pay10 f) (k2_pay11 v) (k2_pay12 v) (k2_pay13 v)))) (k2_pay41 (k2_pay23 (k2_pay16 s') (k2_pay18 cy) (k2_pay20 h)) (k2_pay36 (k2_pay14 (k2_pay3 v) (k2_pay4 f) (k2_pay5 v f) (k2_pay6 v f) (k2_pay8 f) (k2_pay10 f) (k2_pay11 v) (k2_pay12 v) (k2_pay13 v)))) (k2_pay48 (k2_pay23 (k2_pay16 s') (k2_pay18 cy) (k2_pay20 h)) (k2_pay44 (k2_pay14 (k2_pay3 v) (k2_pay4 f) (k2_pay5 v f) (k2_pay6 v f) (k2_pay8 f) (k2_pay10 f) (k2_pay11 v) (k2_pay12 v) (k2_pay13 v))))
    (k2_pay34 (k2_pay24 (k2_pay15 s) (k2_pay17 cx) (k2_pay19 w)) (k2_pay26 (k2_pay14 (k2_pay3 v) (k2_pay4 f) (k2_pay5 v f) (k2_pay6 v f) (k2_pay8 f) (k2_pay10 f) (k2_pay11 v) (k2_pay12 v) (k2_pay13 v)))) (k2_pay42 (k2_pay24 (k2_pay15 s) (k2_pay17 cx) (k2_pay19 w)) (k2_pay36 (k2_pay14 (k2_pay3 v) (k2_pay4 f) (k2_pay5 v f) (k2_pay6 v f) (k2_pay8 f) (k2_pay10 f) (k2_pay11 v) (k2_pay12 v) (k2_pay13 v)))) (k2_pay1 (k2_pay44 (k2_pay14 (k2_pay3 v) (k2_pay4 f) (k2_pay5 v f) (k2_pay6 v f) (k2_pay8 f) (k2_pay10 f) (k2_pay11 v) (k2_pay12 v) (k2_pay13 v))) (k2_pay49 (k2_pay24 (k2_pay15 s) (k2_pay17 cx) (k2_pay19 w))))
    (k2_pay35 (k2_pay25 (k2_pay16 s') (k2_pay18 cy) (k2_pay20 h)) (k2_pay26 (k2_pay14 (k2_pay3 v) (k2_pay4 f) (k2_pay5 v f) (k2_pay6 v f) (k2_pay8 f) (k2_pay10 f) (k2_pay11 v) (k2_pay12 v) (k2_pay13 v)))) (k2_pay43 (k2_pay25 (k2_pay16 s') (k2_pay18 cy) (k2_pay20 h)) (k2_pay36 (k2_pay14 (k2_pay3 v) (k2_pay4 f) (k2_pay5 v f) (k2_pay6 v f) (k2_pay8 f) (k2_pay10 f) (k2_pay11 v) (k2_pay12 v) (k2_pay13 v)))) (k2_pay2 (k2_pay25 (k2_pay16 s') (k2_pay18 cy) (k2_pay20 h)) (k2_pay44 (k2_pay14 (k2_pay3 v) (k2_pay4 f) (k2_pay5 v f) (k2_pay6 v f) (k2_pay8 f) (k2_pay10 f) (k2_pay11 v) (k2_pay12 v) (k2_pay13 v))))

theorem rest_eq (M7 : Memref sig .tc .vmem S16x300 .i32) (M8 M9 M10 M11 M12 : Memref sig .tc .vmem S16x300 .f32)
    (v : Vec F S16x512 .f32) (f : Vec F S16x512 .i32) (s : Vec F S16x2 .f32) (cx cy w h : Vec F S16x512 .f32) :
    rest M7 M8 M9 M10 M11 M12 v f s s cx cy w h = stores M7 M8 M9 M10 M11 M12
      (k2_pay46 (k2_pay4 f) (k2_pay26 (rank v f))) (k2_pay46 (k2_pay4 f) (k2_pay36 (rank v f))) (k2_pay46 (k2_pay4 f) (k2_pay44 (rank v f)))
      (k2_pay2 (k2_pay3 v) (k2_pay26 (rank v f))) (k2_pay2 (k2_pay3 v) (k2_pay36 (rank v f))) (k2_pay2 (k2_pay3 v) (k2_pay44 (rank v f)))
      (k2_pay2 (left cx w s) (k2_pay26 (rank v f))) (k2_pay2 (left cx w s) (k2_pay36 (rank v f))) (k2_pay2 (left cx w s) (k2_pay44 (rank v f)))
      (k2_pay2 (top cy h s) (k2_pay26 (rank v f))) (k2_pay2 (top cy h s) (k2_pay36 (rank v f))) (k2_pay2 (top cy h s) (k2_pay44 (rank v f)))
      (k2_pay2 (right cx w s) (k2_pay26 (rank v f))) (k2_pay2 (right cx w s) (k2_pay36 (rank v f))) (k2_pay2 (right cx w s) (k2_pay44 (rank v f)))
      (k2_pay2 (bottom cy h s) (k2_pay26 (rank v f))) (k2_pay2 (bottom cy h s) (k2_pay36 (rank v f))) (k2_pay2 (bottom cy h s) (k2_pay44 (rank v f))) := by
  unfold rest rank left top right bottom
  rfl

theorem body_flat (M0 : Memref sig .tc .vmem S16x512 .f32) (h0 : M0.IsWhole)
    (M1 : Memref sig .tc .vmem S16x512 .i32) (h1 : M1.IsWhole)
    (M2 : Memref sig .tc .vmem S16x512 .f32) (h2 : M2.IsWhole)
    (M3 : Memref sig .tc .vmem S16x512 .f32) (h3 : M3.IsWhole)
    (M4 : Memref sig .tc .vmem S16x512 .f32) (h4 : M4.IsWhole)
    (M5 : Memref sig .tc .vmem S16x512 .f32) (h5 : M5.IsWhole)
    (M6 : Memref sig .tc .vmem S16x2 .f32) (h6 : M6.IsWhole)
    (M7 : Memref sig .tc .vmem S16x300 .i32) (h7 : M7.IsWhole)
    (M8 : Memref sig .tc .vmem S16x300 .f32) (h8 : M8.IsWhole)
    (M9 : Memref sig .tc .vmem S16x300 .f32) (h9 : M9.IsWhole)
    (M10 : Memref sig .tc .vmem S16x300 .f32) (h10 : M10.IsWhole)
    (M11 : Memref sig .tc .vmem S16x300 .f32) (h11 : M11.IsWhole)
    (M12 : Memref sig .tc .vmem S16x300 .f32) (h12 : M12.IsWhole) :
    cc2__rank_body (F := F) M0 h0 M1 h1 M2 h2 M3 h3 M4 h4 M5 h5 M6 h6 M7 h7 M8 h8 M9 h9 M10 h10 M11 h11 M12 h12 = (do
      let v : Vec F S16x512 .f32 ← Prog.lift (.load M0 (Rect.unit (s := S16x512) ![0, 0] S16x512.size inb_S16x512_S16x512_0_0).toLoadRect (View.loadsAt_vmem h_S16x512))
      let f : Vec F S16x512 .i32 ← Prog.lift (.load M1 (Rect.unit (s := S16x512) ![0, 0] S16x512.size inb_S16x512_S16x512_0_0).toLoadRect (View.loadsAt_vmem h_S16x512))
      let s : Vec F S16x2 .f32 ← Prog.lift (.load M6 (Rect.unit (s := S16x2) ![0, 0] S16x2.size inb_S16x2_S16x2_0_0).toLoadRect (View.loadsAt_vmem h_S16x2))
      let s' : Vec F S16x2 .f32 ← Prog.lift (.load M6 (Rect.unit (s := S16x2) ![0, 0] S16x2.size inb_S16x2_S16x2_0_0).toLoadRect (View.loadsAt_vmem h_S16x2))
      let cx : Vec F S16x512 .f32 ← Prog.lift (.load M2 (Rect.unit (s := S16x512) ![0, 0] S16x512.size inb_S16x512_S16x512_0_0).toLoadRect (View.loadsAt_vmem h_S16x512))
      let cy : Vec F S16x512 .f32 ← Prog.lift (.load M3 (Rect.unit (s := S16x512) ![0, 0] S16x512.size inb_S16x512_S16x512_0_0).toLoadRect (View.loadsAt_vmem h_S16x512))
      let w : Vec F S16x512 .f32 ← Prog.lift (.load M4 (Rect.unit (s := S16x512) ![0, 0] S16x512.size inb_S16x512_S16x512_0_0).toLoadRect (View.loadsAt_vmem h_S16x512))
      let h : Vec F S16x512 .f32 ← Prog.lift (.load M5 (Rect.unit (s := S16x512) ![0, 0] S16x512.size inb_S16x512_S16x512_0_0).toLoadRect (View.loadsAt_vmem h_S16x512))
      rest M7 M8 M9 M10 M11 M12 v f s s' cx cy w h) := by
  simp only [cc2__rank_body_eq_skeleton]
  unfold cc2__rank_body_skel
  simp only [k2_part1_eq_skeleton, k2_part2_eq_skeleton, k2_part3_eq_skeleton, k2_part4_eq_skeleton, k2_part5_eq_skeleton, k2_part6_eq_skeleton, k2_part7_eq_skeleton]
  unfold k2_part1_skel k2_part2_skel k2_part3_skel k2_part4_skel k2_part5_skel k2_part6_skel k2_part7_skel rest stores
  simp only [bind_assoc, pure_bind]
  rfl

/-! ## The body -/

/-- The loads, before anything that takes what they read. -/
theorem loads_run (c : Dev nD) (M0 : Memref sig .tc .vmem S16x512 .f32) (h0 : M0.IsWhole)
    (M1 : Memref sig .tc .vmem S16x512 .i32) (h1 : M1.IsWhole)
    (M2 : Memref sig .tc .vmem S16x512 .f32) (h2 : M2.IsWhole)
    (M3 : Memref sig .tc .vmem S16x512 .f32) (h3 : M3.IsWhole)
    (M4 : Memref sig .tc .vmem S16x512 .f32) (h4 : M4.IsWhole)
    (M5 : Memref sig .tc .vmem S16x512 .f32) (h5 : M5.IsWhole)
    (M6 : Memref sig .tc .vmem S16x2 .f32) (h6 : M6.IsWhole)
    (k : Vec F S16x512 .f32 → Vec F S16x512 .i32 → Vec F S16x2 .f32 → Vec F S16x2 .f32 → Vec F S16x512 .f32 → Vec F S16x512 .f32 → Vec F S16x512 .f32
      → Vec F S16x512 .f32 → Prog (TpuEff nD τ sig (Elt F) Λ₀ .tc) PUnit)
    (v : Vec F S16x512 .f32) (f : Vec F S16x512 .i32) (cx cy w h : Vec F S16x512 .f32) (s : Vec F S16x2 .f32) (E : Set ℕ) (Q : PUnit → sProp (MM F)) :
    iprop(owns (c : Thread nD τ) M0 fullShare v
        ∗ owns (c : Thread nD τ) M1 fullShare f
        ∗ owns (c : Thread nD τ) M2 fullShare cx
        ∗ owns (c : Thread nD τ) M3 fullShare cy
        ∗ owns (c : Thread nD τ) M4 fullShare w
        ∗ owns (c : Thread nD τ) M5 fullShare h
        ∗ owns (c : Thread nD τ) M6 fullShare s
        ∗ (iprop(owns (c : Thread nD τ) M0 fullShare v
        ∗ owns (c : Thread nD τ) M1 fullShare f
        ∗ owns (c : Thread nD τ) M2 fullShare cx
        ∗ owns (c : Thread nD τ) M3 fullShare cy
        ∗ owns (c : Thread nD τ) M4 fullShare w
        ∗ owns (c : Thread nD τ) M5 fullShare h
        ∗ owns (c : Thread nD τ) M6 fullShare s)
          -∗ wp frame (wpE (defs₀ (F := F)) Variants.none (c : Thread nD τ) none) E (k v f s s cx cy w h) Q))
      ⊢ wp frame (wpE (defs₀ (F := F)) Variants.none (c : Thread nD τ) none) E (do
        let v : Vec F S16x512 .f32 ← Prog.lift (.load M0 (Rect.unit (s := S16x512) ![0, 0] S16x512.size inb_S16x512_S16x512_0_0).toLoadRect (View.loadsAt_vmem h_S16x512))
        let f : Vec F S16x512 .i32 ← Prog.lift (.load M1 (Rect.unit (s := S16x512) ![0, 0] S16x512.size inb_S16x512_S16x512_0_0).toLoadRect (View.loadsAt_vmem h_S16x512))
        let s : Vec F S16x2 .f32 ← Prog.lift (.load M6 (Rect.unit (s := S16x2) ![0, 0] S16x2.size inb_S16x2_S16x2_0_0).toLoadRect (View.loadsAt_vmem h_S16x2))
        let s' : Vec F S16x2 .f32 ← Prog.lift (.load M6 (Rect.unit (s := S16x2) ![0, 0] S16x2.size inb_S16x2_S16x2_0_0).toLoadRect (View.loadsAt_vmem h_S16x2))
        let cx : Vec F S16x512 .f32 ← Prog.lift (.load M2 (Rect.unit (s := S16x512) ![0, 0] S16x512.size inb_S16x512_S16x512_0_0).toLoadRect (View.loadsAt_vmem h_S16x512))
        let cy : Vec F S16x512 .f32 ← Prog.lift (.load M3 (Rect.unit (s := S16x512) ![0, 0] S16x512.size inb_S16x512_S16x512_0_0).toLoadRect (View.loadsAt_vmem h_S16x512))
        let w : Vec F S16x512 .f32 ← Prog.lift (.load M4 (Rect.unit (s := S16x512) ![0, 0] S16x512.size inb_S16x512_S16x512_0_0).toLoadRect (View.loadsAt_vmem h_S16x512))
        let h : Vec F S16x512 .f32 ← Prog.lift (.load M5 (Rect.unit (s := S16x512) ![0, 0] S16x512.size inb_S16x512_S16x512_0_0).toLoadRect (View.loadsAt_vmem h_S16x512))
        k v f s s' cx cy w h) Q := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  sl_exec
  have e0 : View.readAt (Elt F) M0.view (Rect.unit (s := S16x512) ![0, 0] ![16, 512] inb_S16x512_S16x512_0_0).toLoadRect f0 = v :=
    (View.readAt_full M0.view f0 inb_S16x512_S16x512_0_0).trans hf0
  have e1 : View.readAt (Elt F) M1.view (Rect.unit (s := S16x512) ![0, 0] ![16, 512] inb_S16x512_S16x512_0_0).toLoadRect f1 = f :=
    (View.readAt_full M1.view f1 inb_S16x512_S16x512_0_0).trans hf1
  have e2 : View.readAt (Elt F) M2.view (Rect.unit (s := S16x512) ![0, 0] ![16, 512] inb_S16x512_S16x512_0_0).toLoadRect f2 = cx :=
    (View.readAt_full M2.view f2 inb_S16x512_S16x512_0_0).trans hf2
  have e3 : View.readAt (Elt F) M3.view (Rect.unit (s := S16x512) ![0, 0] ![16, 512] inb_S16x512_S16x512_0_0).toLoadRect f3 = cy :=
    (View.readAt_full M3.view f3 inb_S16x512_S16x512_0_0).trans hf3
  have e4 : View.readAt (Elt F) M4.view (Rect.unit (s := S16x512) ![0, 0] ![16, 512] inb_S16x512_S16x512_0_0).toLoadRect f4 = w :=
    (View.readAt_full M4.view f4 inb_S16x512_S16x512_0_0).trans hf4
  have e5 : View.readAt (Elt F) M5.view (Rect.unit (s := S16x512) ![0, 0] ![16, 512] inb_S16x512_S16x512_0_0).toLoadRect f5 = h :=
    (View.readAt_full M5.view f5 inb_S16x512_S16x512_0_0).trans hf5
  have e6 : View.readAt (Elt F) M6.view (Rect.unit (s := S16x2) ![0, 0] ![16, 2] inb_S16x2_S16x2_0_0).toLoadRect f6 = s :=
    (View.readAt_full M6.view f6 inb_S16x2_S16x2_0_0).trans hf6
  rw [e0, e1, e2, e3, e4, e5, e6]
  iapply Hk
  isplitl [H0]
  · iexists f0
    isplitr
    · ipureintro
      exact hf0
    iexact H0
  isplitl [H1]
  · iexists f1
    isplitr
    · ipureintro
      exact hf1
    iexact H1
  isplitl [H2]
  · iexists f2
    isplitr
    · ipureintro
      exact hf2
    iexact H2
  isplitl [H3]
  · iexists f3
    isplitr
    · ipureintro
      exact hf3
    iexact H3
  isplitl [H4]
  · iexists f4
    isplitr
    · ipureintro
      exact hf4
    iexact H4
  isplitl [H5]
  · iexists f5
    isplitr
    · ipureintro
      exact hf5
    iexact H5
  iexists f6
  isplitr
  · ipureintro
    exact hf6
  iexact H6

theorem body_run (c : Dev nD) (M0 : Memref sig .tc .vmem S16x512 .f32) (h0 : M0.IsWhole)
    (M1 : Memref sig .tc .vmem S16x512 .i32) (h1 : M1.IsWhole)
    (M2 : Memref sig .tc .vmem S16x512 .f32) (h2 : M2.IsWhole)
    (M3 : Memref sig .tc .vmem S16x512 .f32) (h3 : M3.IsWhole)
    (M4 : Memref sig .tc .vmem S16x512 .f32) (h4 : M4.IsWhole)
    (M5 : Memref sig .tc .vmem S16x512 .f32) (h5 : M5.IsWhole)
    (M6 : Memref sig .tc .vmem S16x2 .f32) (h6 : M6.IsWhole)
    (M7 : Memref sig .tc .vmem S16x300 .i32) (h7 : M7.IsWhole)
    (M8 : Memref sig .tc .vmem S16x300 .f32) (h8 : M8.IsWhole)
    (M9 : Memref sig .tc .vmem S16x300 .f32) (h9 : M9.IsWhole)
    (M10 : Memref sig .tc .vmem S16x300 .f32) (h10 : M10.IsWhole)
    (M11 : Memref sig .tc .vmem S16x300 .f32) (h11 : M11.IsWhole)
    (M12 : Memref sig .tc .vmem S16x300 .f32) (h12 : M12.IsWhole)
    (v : Vec F S16x512 .f32) (f : Vec F S16x512 .i32) (cx cy w h : Vec F S16x512 .f32) (s : Vec F S16x2 .f32) (E : Set ℕ) (Q : PUnit → sProp (MM F)) :
    iprop((iprop(owns (c : Thread nD τ) M0 fullShare v
        ∗ owns (c : Thread nD τ) M1 fullShare f
        ∗ owns (c : Thread nD τ) M2 fullShare cx
        ∗ owns (c : Thread nD τ) M3 fullShare cy
        ∗ owns (c : Thread nD τ) M4 fullShare w
        ∗ owns (c : Thread nD τ) M5 fullShare h
        ∗ owns (c : Thread nD τ) M6 fullShare s)
        ∗ iprop((∃ d, owns (c : Thread nD τ) M7 fullShare d)
        ∗ (∃ d, owns (c : Thread nD τ) M8 fullShare d)
        ∗ (∃ d, owns (c : Thread nD τ) M9 fullShare d)
        ∗ (∃ d, owns (c : Thread nD τ) M10 fullShare d)
        ∗ (∃ d, owns (c : Thread nD τ) M11 fullShare d)
        ∗ (∃ d, owns (c : Thread nD τ) M12 fullShare d)))
        ∗ (iprop(iprop(owns (c : Thread nD τ) M0 fullShare v
        ∗ owns (c : Thread nD τ) M1 fullShare f
        ∗ owns (c : Thread nD τ) M2 fullShare cx
        ∗ owns (c : Thread nD τ) M3 fullShare cy
        ∗ owns (c : Thread nD τ) M4 fullShare w
        ∗ owns (c : Thread nD τ) M5 fullShare h
        ∗ owns (c : Thread nD τ) M6 fullShare s)
          ∗ iprop(owns (c : Thread nD τ) M7 fullShare (labels v f)
          ∗ owns (c : Thread nD τ) M8 fullShare (scores v f)
          ∗ owns (c : Thread nD τ) M9 fullShare (plane (left cx w s) v f)
          ∗ owns (c : Thread nD τ) M10 fullShare (plane (top cy h s) v f)
          ∗ owns (c : Thread nD τ) M11 fullShare (plane (right cx w s) v f)
          ∗ owns (c : Thread nD τ) M12 fullShare (plane (bottom cy h s) v f))) -∗ Q ⟨⟩))
      ⊢ wp frame (wpE (defs₀ (F := F)) Variants.none (c : Thread nD τ) none) E (cc2__rank_body M0 h0 M1 h1 M2 h2 M3 h3 M4 h4 M5 h5 M6 h6 M7 h7 M8 h8 M9 h9 M10 h10 M11 h11 M12 h12) Q := by
  rw [body_flat]
  iintro ⟨⟨⟨H0, H1, H2, H3, H4, H5, H6⟩, ⟨H7, H8, H9, H10, H11, H12⟩⟩, Hk⟩
  iapply (loads_run c M0 h0 M1 h1 M2 h2 M3 h3 M4 h4 M5 h5 M6 h6 (rest M7 M8 M9 M10 M11 M12) v f cx cy w h s E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro HI
  rw [rest_eq]
  iapply (stores_run c M7 M8 M9 M10 M11 M12 _ _ _ _ _ _ _ _ _ _ _ _ _ _ _ _ _ _ E Q)
  isplitl [H7]; · iexact H7
  isplitl [H8]; · iexact H8
  isplitl [H9]; · iexact H9
  isplitl [H10]; · iexact H10
  isplitl [H11]; · iexact H11
  isplitl [H12]; · iexact H12
  iintro HO
  iapply Hk
  isplitl [HI]; · iexact HI
  iexact HO

end Cert.Proof.Rank

end
-- ==== Proof.RankRegion.lean ====
/-
  The ranking kernel's pipeline: its proof data and the region as the program enters it, with what its six result arrays
  hold at the end.
-/
module

public import proofs.«01_k».proof.Proof.Rank
public import Idealize.ShloMosaic.Lib.Pipeline.Regions
public import Idealize.ShloMosaic.Lib.Pipeline.RegionsLoop
public import Idealize.ShloMosaic.Lib.Pipeline.FrameBody
public import Idealize.ShloMosaic.Lib.Pipeline.ValueKit.Geometry
public import Idealize.ShloMosaic.Lib.Ring
public import Idealize.ShloMosaic.Lib.VecWindow

@[expose] public section

set_option maxRecDepth 16384

noncomputable section

namespace Cert.Proof.Rank

open Cert.KernelIdeal Cert.KernelIdeal.Gen Cert.Proof.Select

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

theorem winFacts : Pipeline.WinFacts spec2 := by decide
theorem block_pos : ∀ w : Fin 13, 0 < (spec2 w).block.numel := by decide
theorem arr_whole : ∀ w : Fin 13, (spec2 w).arr.IsWhole :=
  fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _
theorem stage_whole : ∀ (w : Fin 13) (s : Fin (spec2 w).nbuf), ((spec2 w).stage s).IsWhole :=
  fun | 0 => fun _ => hstage2_0 0 | 1 => fun _ => hstage2_1 0 | 2 => fun _ => hstage2_2 0 | 3 => fun _ => hstage2_3 0 | 4 => fun _ => hstage2_4 0 | 5 => fun _ => hstage2_5 0 | 6 => fun _ => hstage2_6 0 | 7 => fun _ => hstage2_7 0 | 8 => fun _ => hstage2_8 0 | 9 => fun _ => hstage2_9 0 | 10 => fun _ => hstage2_10 0 | 11 => fun _ => hstage2_11 0 | 12 => fun _ => hstage2_12 0

theorem each_window {M : Type} [URA M] (Φ : Fin 13 → sProp M) :
    bigSep Finset.univ Φ = iprop(Φ (0 : Fin 13) ∗ Φ (1 : Fin 13) ∗ Φ (2 : Fin 13) ∗ Φ (3 : Fin 13) ∗ Φ (4 : Fin 13) ∗ Φ (5 : Fin 13) ∗ Φ (6 : Fin 13) ∗ Φ (7 : Fin 13) ∗ Φ (8 : Fin 13) ∗ Φ (9 : Fin 13) ∗ Φ (10 : Fin 13) ∗ Φ (11 : Fin 13) ∗ Φ (12 : Fin 13)) :=
  bigSep_univ_eq_bigSepL [(0 : Fin 13), (1 : Fin 13), (2 : Fin 13), (3 : Fin 13), (4 : Fin 13), (5 : Fin 13), (6 : Fin 13), (7 : Fin 13), (8 : Fin 13), (9 : Fin 13), (10 : Fin 13), (11 : Fin 13), (12 : Fin 13)] (by decide) (by decide) Φ

abbrev ms0 (t : Fin cfg2.N) := win2_0.stage (cfg2.slots t 0)
abbrev ms1 (t : Fin cfg2.N) := win2_1.stage (cfg2.slots t 1)
abbrev ms2 (t : Fin cfg2.N) := win2_2.stage (cfg2.slots t 2)
abbrev ms3 (t : Fin cfg2.N) := win2_3.stage (cfg2.slots t 3)
abbrev ms4 (t : Fin cfg2.N) := win2_4.stage (cfg2.slots t 4)
abbrev ms5 (t : Fin cfg2.N) := win2_5.stage (cfg2.slots t 5)
abbrev ms6 (t : Fin cfg2.N) := win2_6.stage (cfg2.slots t 6)
abbrev ms7 (t : Fin cfg2.N) := win2_7.stage (cfg2.slots t 7)
abbrev ms8 (t : Fin cfg2.N) := win2_8.stage (cfg2.slots t 8)
abbrev ms9 (t : Fin cfg2.N) := win2_9.stage (cfg2.slots t 9)
abbrev ms10 (t : Fin cfg2.N) := win2_10.stage (cfg2.slots t 10)
abbrev ms11 (t : Fin cfg2.N) := win2_11.stage (cfg2.slots t 11)
abbrev ms12 (t : Fin cfg2.N) := win2_12.stage (cfg2.slots t 12)
abbrev bodyAt (t : Fin cfg2.N) := cc2__rank_body (F := F) (ms0 t) (hstage2_0 0) (ms1 t) (hstage2_1 0) (ms2 t) (hstage2_2 0) (ms3 t) (hstage2_3 0) (ms4 t) (hstage2_4 0) (ms5 t) (hstage2_5 0) (ms6 t) (hstage2_6 0) (ms7 t) (hstage2_7 0) (ms8 t) (hstage2_8 0) (ms9 t) (hstage2_9 0) (ms10 t) (hstage2_10 0) (ms11 t) (hstage2_11 0) (ms12 t) (hstage2_12 0)

theorem row_at (t : Fin cfg2.N) : defs₀ (F := F) .tc cfg2.body (cfg2.bodyArgs t (cfg2.slots t)) = bodyAt t := by
  rfl

variable (A : (c : Dev nD) → (b : Ref sig .tc) → Buf (Elt F) ((c.tc : Thread nD τ).loc b))

/-- The pairs the TensorCore may have waited on after its call of the SparseCores. -/
def late (c : Dev nD) : Set (SemLoc sig × HIx 1) := {p | (K (F := F)).lev ((c.tc : Thread nD τ), p.1) p.2 ≤ 8 * 1}

def dat (c : Dev nD) : Dat τ (Elt F) (HIx 1) ℕ UU ℕ cfg2 c where
  A w := A c (Pipeline.arrRef spec2 w)
  after w t := match w with
    | ⟨0, _⟩ => A c main_v8
    | ⟨1, _⟩ => A c main_v9
    | ⟨2, _⟩ => A c main_v11
    | ⟨3, _⟩ => A c main_v13
    | ⟨4, _⟩ => A c main_v15
    | ⟨5, _⟩ => A c main_v17
    | ⟨6, _⟩ => A c main_v6
    | ⟨7, _⟩ => labels (F := F) (A c main_v8) (A c main_v9)
    | ⟨8, _⟩ => scores (F := F) (A c main_v8) (A c main_v9)
    | ⟨9, _⟩ => plane (F := F) (left (A c main_v11) (A c main_v15) (A c main_v6)) (A c main_v8) (A c main_v9)
    | ⟨10, _⟩ => plane (F := F) (top (A c main_v13) (A c main_v17) (A c main_v6)) (A c main_v8) (A c main_v9)
    | ⟨11, _⟩ => plane (F := F) (right (A c main_v11) (A c main_v15) (A c main_v6)) (A c main_v8) (A c main_v9)
    | ⟨12, _⟩ => plane (F := F) (bottom (A c main_v13) (A c main_v17) (A c main_v6)) (A c main_v8) (A c main_v9)
  Φ _ := Pipeline.scopedRest (Ix := HIx 1) (Name := ℕ) (U := UU) (Lvl := ℕ) (Val := Elt F) spec2 c
  q _ := fullShare
  owed _ := (K (F := F)).Otc c 1
  recorded _ := late (F := F) c

theorem A_eq (c : Dev nD) (w : Fin cfg2.W) : (dat A c).A w = A c (Pipeline.arrRef spec2 w) := by dsimp only [dat]
theorem after_0 (c : Dev nD) (t : Fin cfg2.N) : (dat A c).after 0 t = A c main_v8 := by dsimp only [dat]
theorem after_1 (c : Dev nD) (t : Fin cfg2.N) : (dat A c).after 1 t = A c main_v9 := by dsimp only [dat]
theorem after_2 (c : Dev nD) (t : Fin cfg2.N) : (dat A c).after 2 t = A c main_v11 := by dsimp only [dat]
theorem after_3 (c : Dev nD) (t : Fin cfg2.N) : (dat A c).after 3 t = A c main_v13 := by dsimp only [dat]
theorem after_4 (c : Dev nD) (t : Fin cfg2.N) : (dat A c).after 4 t = A c main_v15 := by dsimp only [dat]
theorem after_5 (c : Dev nD) (t : Fin cfg2.N) : (dat A c).after 5 t = A c main_v17 := by dsimp only [dat]
theorem after_6 (c : Dev nD) (t : Fin cfg2.N) : (dat A c).after 6 t = A c main_v6 := by dsimp only [dat]
theorem after_7 (c : Dev nD) (t : Fin cfg2.N) : (dat A c).after 7 t = labels (F := F) (A c main_v8) (A c main_v9) := by dsimp only [dat]
theorem after_8 (c : Dev nD) (t : Fin cfg2.N) : (dat A c).after 8 t = scores (F := F) (A c main_v8) (A c main_v9) := by dsimp only [dat]
theorem after_9 (c : Dev nD) (t : Fin cfg2.N) : (dat A c).after 9 t = plane (F := F) (left (A c main_v11) (A c main_v15) (A c main_v6)) (A c main_v8) (A c main_v9) := by dsimp only [dat]
theorem after_10 (c : Dev nD) (t : Fin cfg2.N) : (dat A c).after 10 t = plane (F := F) (top (A c main_v13) (A c main_v17) (A c main_v6)) (A c main_v8) (A c main_v9) := by dsimp only [dat]
theorem after_11 (c : Dev nD) (t : Fin cfg2.N) : (dat A c).after 11 t = plane (F := F) (right (A c main_v11) (A c main_v15) (A c main_v6)) (A c main_v8) (A c main_v9) := by dsimp only [dat]
theorem after_12 (c : Dev nD) (t : Fin cfg2.N) : (dat A c).after 12 t = plane (F := F) (bottom (A c main_v13) (A c main_v17) (A c main_v6)) (A c main_v8) (A c main_v9) := by dsimp only [dat]

theorem idx_0 : ∀ t : Fin cfg2.N, win2_0.index t = ![0, 0] := (by decide +kernel : ∀ t : Fin grid2.N, _)
theorem whole_0 (c : Dev nD) (t : Fin cfg2.N) : ((cfg2.win 0).blk t).view.read (Elt F) (A c main_v8) = A c main_v8 := by
  funext y
  blk_simp
  blk_ext [idx_0]
theorem idx_1 : ∀ t : Fin cfg2.N, win2_1.index t = ![0, 0] := (by decide +kernel : ∀ t : Fin grid2.N, _)
theorem whole_1 (c : Dev nD) (t : Fin cfg2.N) : ((cfg2.win 1).blk t).view.read (Elt F) (A c main_v9) = A c main_v9 := by
  funext y
  blk_simp
  blk_ext [idx_1]
theorem idx_2 : ∀ t : Fin cfg2.N, win2_2.index t = ![0, 0] := (by decide +kernel : ∀ t : Fin grid2.N, _)
theorem whole_2 (c : Dev nD) (t : Fin cfg2.N) : ((cfg2.win 2).blk t).view.read (Elt F) (A c main_v11) = A c main_v11 := by
  funext y
  blk_simp
  blk_ext [idx_2]
theorem idx_3 : ∀ t : Fin cfg2.N, win2_3.index t = ![0, 0] := (by decide +kernel : ∀ t : Fin grid2.N, _)
theorem whole_3 (c : Dev nD) (t : Fin cfg2.N) : ((cfg2.win 3).blk t).view.read (Elt F) (A c main_v13) = A c main_v13 := by
  funext y
  blk_simp
  blk_ext [idx_3]
theorem idx_4 : ∀ t : Fin cfg2.N, win2_4.index t = ![0, 0] := (by decide +kernel : ∀ t : Fin grid2.N, _)
theorem whole_4 (c : Dev nD) (t : Fin cfg2.N) : ((cfg2.win 4).blk t).view.read (Elt F) (A c main_v15) = A c main_v15 := by
  funext y
  blk_simp
  blk_ext [idx_4]
theorem idx_5 : ∀ t : Fin cfg2.N, win2_5.index t = ![0, 0] := (by decide +kernel : ∀ t : Fin grid2.N, _)
theorem whole_5 (c : Dev nD) (t : Fin cfg2.N) : ((cfg2.win 5).blk t).view.read (Elt F) (A c main_v17) = A c main_v17 := by
  funext y
  blk_simp
  blk_ext [idx_5]
theorem idx_6 : ∀ t : Fin cfg2.N, win2_6.index t = ![0, 0] := (by decide +kernel : ∀ t : Fin grid2.N, _)
theorem whole_6 (c : Dev nD) (t : Fin cfg2.N) : ((cfg2.win 6).blk t).view.read (Elt F) (A c main_v6) = A c main_v6 := by
  funext y
  blk_simp
  blk_ext [idx_6]
theorem idx_7 : ∀ t : Fin cfg2.N, win2_7.index t = ![0, 0] := (by decide +kernel : ∀ t : Fin grid2.N, _)
theorem whole_7 (c : Dev nD) (t : Fin cfg2.N) : ((cfg2.win 7).blk t).view.read (Elt F) (A c main_v18_0) = A c main_v18_0 := by
  funext y
  blk_simp
  blk_ext [idx_7]
theorem idx_8 : ∀ t : Fin cfg2.N, win2_8.index t = ![0, 0] := (by decide +kernel : ∀ t : Fin grid2.N, _)
theorem whole_8 (c : Dev nD) (t : Fin cfg2.N) : ((cfg2.win 8).blk t).view.read (Elt F) (A c main_v18_1) = A c main_v18_1 := by
  funext y
  blk_simp
  blk_ext [idx_8]
theorem idx_9 : ∀ t : Fin cfg2.N, win2_9.index t = ![0, 0] := (by decide +kernel : ∀ t : Fin grid2.N, _)
theorem whole_9 (c : Dev nD) (t : Fin cfg2.N) : ((cfg2.win 9).blk t).view.read (Elt F) (A c main_v18_2) = A c main_v18_2 := by
  funext y
  blk_simp
  blk_ext [idx_9]
theorem idx_10 : ∀ t : Fin cfg2.N, win2_10.index t = ![0, 0] := (by decide +kernel : ∀ t : Fin grid2.N, _)
theorem whole_10 (c : Dev nD) (t : Fin cfg2.N) : ((cfg2.win 10).blk t).view.read (Elt F) (A c main_v18_3) = A c main_v18_3 := by
  funext y
  blk_simp
  blk_ext [idx_10]
theorem idx_11 : ∀ t : Fin cfg2.N, win2_11.index t = ![0, 0] := (by decide +kernel : ∀ t : Fin grid2.N, _)
theorem whole_11 (c : Dev nD) (t : Fin cfg2.N) : ((cfg2.win 11).blk t).view.read (Elt F) (A c main_v18_4) = A c main_v18_4 := by
  funext y
  blk_simp
  blk_ext [idx_11]
theorem idx_12 : ∀ t : Fin cfg2.N, win2_12.index t = ![0, 0] := (by decide +kernel : ∀ t : Fin grid2.N, _)
theorem whole_12 (c : Dev nD) (t : Fin cfg2.N) : ((cfg2.win 12).blk t).view.read (Elt F) (A c main_v18_5) = A c main_v18_5 := by
  funext y
  blk_simp
  blk_ext [idx_12]

theorem before_0 (c : Dev nD) (t : Fin cfg2.N) (d) : (dat A c).before 0 t d = A c main_v8 :=
  ((dat A c).before_in_eq_fetched 0 rfl (fun _ => rfl) (fun _ _ _ => rfl)
      (fun t => by rw [after_0]; unfold Dat.blockOf; rw [A_eq]; exact (whole_0 A c t).symm) t d).trans
    (by unfold Dat.fetched Dat.blockOf; rw [A_eq]; exact whole_0 A c t)
theorem before_1 (c : Dev nD) (t : Fin cfg2.N) (d) : (dat A c).before 1 t d = A c main_v9 :=
  ((dat A c).before_in_eq_fetched 1 rfl (fun _ => rfl) (fun _ _ _ => rfl)
      (fun t => by rw [after_1]; unfold Dat.blockOf; rw [A_eq]; exact (whole_1 A c t).symm) t d).trans
    (by unfold Dat.fetched Dat.blockOf; rw [A_eq]; exact whole_1 A c t)
theorem before_2 (c : Dev nD) (t : Fin cfg2.N) (d) : (dat A c).before 2 t d = A c main_v11 :=
  ((dat A c).before_in_eq_fetched 2 rfl (fun _ => rfl) (fun _ _ _ => rfl)
      (fun t => by rw [after_2]; unfold Dat.blockOf; rw [A_eq]; exact (whole_2 A c t).symm) t d).trans
    (by unfold Dat.fetched Dat.blockOf; rw [A_eq]; exact whole_2 A c t)
theorem before_3 (c : Dev nD) (t : Fin cfg2.N) (d) : (dat A c).before 3 t d = A c main_v13 :=
  ((dat A c).before_in_eq_fetched 3 rfl (fun _ => rfl) (fun _ _ _ => rfl)
      (fun t => by rw [after_3]; unfold Dat.blockOf; rw [A_eq]; exact (whole_3 A c t).symm) t d).trans
    (by unfold Dat.fetched Dat.blockOf; rw [A_eq]; exact whole_3 A c t)
theorem before_4 (c : Dev nD) (t : Fin cfg2.N) (d) : (dat A c).before 4 t d = A c main_v15 :=
  ((dat A c).before_in_eq_fetched 4 rfl (fun _ => rfl) (fun _ _ _ => rfl)
      (fun t => by rw [after_4]; unfold Dat.blockOf; rw [A_eq]; exact (whole_4 A c t).symm) t d).trans
    (by unfold Dat.fetched Dat.blockOf; rw [A_eq]; exact whole_4 A c t)
theorem before_5 (c : Dev nD) (t : Fin cfg2.N) (d) : (dat A c).before 5 t d = A c main_v17 :=
  ((dat A c).before_in_eq_fetched 5 rfl (fun _ => rfl) (fun _ _ _ => rfl)
      (fun t => by rw [after_5]; unfold Dat.blockOf; rw [A_eq]; exact (whole_5 A c t).symm) t d).trans
    (by unfold Dat.fetched Dat.blockOf; rw [A_eq]; exact whole_5 A c t)
theorem before_6 (c : Dev nD) (t : Fin cfg2.N) (d) : (dat A c).before 6 t d = A c main_v6 :=
  ((dat A c).before_in_eq_fetched 6 rfl (fun _ => rfl) (fun _ _ _ => rfl)
      (fun t => by rw [after_6]; unfold Dat.blockOf; rw [A_eq]; exact (whole_6 A c t).symm) t d).trans
    (by unfold Dat.fetched Dat.blockOf; rw [A_eq]; exact whole_6 A c t)

/-! ## The body obligation -/

def bodyPre (c : Dev nD) (t : Fin cfg2.N) : sProp (MM F) :=
  iprop((dat A c).Φ t.castSucc ∗ (dat A c).owesAt none t.castSucc
    ∗ (∃ d, owns (c : Thread nD τ) (ms0 t) fullShare ((dat A c).before 0 t d))
    ∗ (∃ d, owns (c : Thread nD τ) (ms1 t) fullShare ((dat A c).before 1 t d))
    ∗ (∃ d, owns (c : Thread nD τ) (ms2 t) fullShare ((dat A c).before 2 t d))
    ∗ (∃ d, owns (c : Thread nD τ) (ms3 t) fullShare ((dat A c).before 3 t d))
    ∗ (∃ d, owns (c : Thread nD τ) (ms4 t) fullShare ((dat A c).before 4 t d))
    ∗ (∃ d, owns (c : Thread nD τ) (ms5 t) fullShare ((dat A c).before 5 t d))
    ∗ (∃ d, owns (c : Thread nD τ) (ms6 t) fullShare ((dat A c).before 6 t d))
    ∗ (∃ d, owns (c : Thread nD τ) (ms7 t) fullShare ((dat A c).before 7 t d))
    ∗ (∃ d, owns (c : Thread nD τ) (ms8 t) fullShare ((dat A c).before 8 t d))
    ∗ (∃ d, owns (c : Thread nD τ) (ms9 t) fullShare ((dat A c).before 9 t d))
    ∗ (∃ d, owns (c : Thread nD τ) (ms10 t) fullShare ((dat A c).before 10 t d))
    ∗ (∃ d, owns (c : Thread nD τ) (ms11 t) fullShare ((dat A c).before 11 t d))
    ∗ (∃ d, owns (c : Thread nD τ) (ms12 t) fullShare ((dat A c).before 12 t d)))

def bodyPost (c : Dev nD) (t : Fin cfg2.N) : sProp (MM F) :=
  iprop((dat A c).Φ t.succ ∗ (dat A c).owesAt none t.succ
    ∗ owns (c : Thread nD τ) (ms0 t) fullShare ((dat A c).after 0 t)
    ∗ owns (c : Thread nD τ) (ms1 t) fullShare ((dat A c).after 1 t)
    ∗ owns (c : Thread nD τ) (ms2 t) fullShare ((dat A c).after 2 t)
    ∗ owns (c : Thread nD τ) (ms3 t) fullShare ((dat A c).after 3 t)
    ∗ owns (c : Thread nD τ) (ms4 t) fullShare ((dat A c).after 4 t)
    ∗ owns (c : Thread nD τ) (ms5 t) fullShare ((dat A c).after 5 t)
    ∗ owns (c : Thread nD τ) (ms6 t) fullShare ((dat A c).after 6 t)
    ∗ owns (c : Thread nD τ) (ms7 t) fullShare ((dat A c).after 7 t)
    ∗ owns (c : Thread nD τ) (ms8 t) fullShare ((dat A c).after 8 t)
    ∗ owns (c : Thread nD τ) (ms9 t) fullShare ((dat A c).after 9 t)
    ∗ owns (c : Thread nD τ) (ms10 t) fullShare ((dat A c).after 10 t)
    ∗ owns (c : Thread nD τ) (ms11 t) fullShare ((dat A c).after 11 t)
    ∗ owns (c : Thread nD τ) (ms12 t) fullShare ((dat A c).after 12 t))

theorem body_at (c : Dev nD) (t : Fin cfg2.N) :
    bodyPre A c t ⊢ wp frame (wpE (defs₀ (F := F)) Variants.none (c : Thread nD τ) none) Set.univ (bodyAt t) (fun _ => bodyPost A c t) := by
  unfold bodyPre bodyPost bodyAt
  simp only [before_0, before_1, before_2, before_3, before_4, before_5, before_6]
  rw [show (dat A c).Φ t.succ = (dat A c).Φ t.castSucc from rfl,
    show (dat A c).owesAt none t.succ = (dat A c).owesAt none t.castSucc from rfl, after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run c _ _ _ _ _ _ _ _ _ _ _ _ _ _ _ _ _ _ _ _ _ _ _ _ _ _ (A c main_v8) (A c main_v9) (A c main_v11) (A c main_v13) (A c main_v15) (A c main_v17) (A c main_v6) Set.univ _)
  isplitl [H0 H1 H2 H3 H4 H5 H6 H7 H8 H9 H10 H11 H12]
  · isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12
  iintro ⟨⟨H0, H1, H2, H3, H4, H5, H6⟩, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem obligation (c : Dev nD) : BodyObligation (dat A c) (defs₀ (F := F)) Variants.none none Set.univ := fun t => by
  rw [each_window, each_window, row_at]
  exact triple_restated (body_at A c t) rfl .rfl fun _ => .rfl

/-! ## The arrays at the end -/

theorem final_7 (c : Dev nD) : (dat A c).arrAt 7 cfg2.N = labels (F := F) (A c main_v8) (A c main_v9) := by
  refine (dat A c).arrAt_eq_of_covers 7 _ (by decide +kernel) fun t hf y => ?_
  rw [after_7]
  refine congrArg (labels (F := F) (A c main_v8) (A c main_v9) : (⟨S16x300, .i32⟩ : BufTy).Contents (Elt F)) ?_
  blk_ext [idx_7]
theorem final_8 (c : Dev nD) : (dat A c).arrAt 8 cfg2.N = scores (F := F) (A c main_v8) (A c main_v9) := by
  refine (dat A c).arrAt_eq_of_covers 8 _ (by decide +kernel) fun t hf y => ?_
  rw [after_8]
  refine congrArg (scores (F := F) (A c main_v8) (A c main_v9) : (⟨S16x300, .f32⟩ : BufTy).Contents (Elt F)) ?_
  blk_ext [idx_8]
theorem final_9 (c : Dev nD) : (dat A c).arrAt 9 cfg2.N = plane (F := F) (left (A c main_v11) (A c main_v15) (A c main_v6)) (A c main_v8) (A c main_v9) := by
  refine (dat A c).arrAt_eq_of_covers 9 _ (by decide +kernel) fun t hf y => ?_
  rw [after_9]
  refine congrArg (plane (F := F) (left (A c main_v11) (A c main_v15) (A c main_v6)) (A c main_v8) (A c main_v9) : (⟨S16x300, .f32⟩ : BufTy).Contents (Elt F)) ?_
  blk_ext [idx_9]
theorem final_10 (c : Dev nD) : (dat A c).arrAt 10 cfg2.N = plane (F := F) (top (A c main_v13) (A c main_v17) (A c main_v6)) (A c main_v8) (A c main_v9) := by
  refine (dat A c).arrAt_eq_of_covers 10 _ (by decide +kernel) fun t hf y => ?_
  rw [after_10]
  refine congrArg (plane (F := F) (top (A c main_v13) (A c main_v17) (A c main_v6)) (A c main_v8) (A c main_v9) : (⟨S16x300, .f32⟩ : BufTy).Contents (Elt F)) ?_
  blk_ext [idx_10]
theorem final_11 (c : Dev nD) : (dat A c).arrAt 11 cfg2.N = plane (F := F) (right (A c main_v11) (A c main_v15) (A c main_v6)) (A c main_v8) (A c main_v9) := by
  refine (dat A c).arrAt_eq_of_covers 11 _ (by decide +kernel) fun t hf y => ?_
  rw [after_11]
  refine congrArg (plane (F := F) (right (A c main_v11) (A c main_v15) (A c main_v6)) (A c main_v8) (A c main_v9) : (⟨S16x300, .f32⟩ : BufTy).Contents (Elt F)) ?_
  blk_ext [idx_11]
theorem final_12 (c : Dev nD) : (dat A c).arrAt 12 cfg2.N = plane (F := F) (bottom (A c main_v13) (A c main_v17) (A c main_v6)) (A c main_v8) (A c main_v9) := by
  refine (dat A c).arrAt_eq_of_covers 12 _ (by decide +kernel) fun t hf y => ?_
  rw [after_12]
  refine congrArg (plane (F := F) (bottom (A c main_v13) (A c main_v17) (A c main_v6)) (A c main_v8) (A c main_v9) : (⟨S16x300, .f32⟩ : BufTy).Contents (Elt F)) ?_
  blk_ext [idx_12]

/-! ## The region -/

def pdats : (p : Fin 2) → (c : Dev nD) → Dat τ (Elt F) (HIx 1) ℕ UU ℕ (Pipeline.pin (pcfgs (F := F)) Maxima.adm p) c
  | ⟨0, _⟩ => fun c => Maxima.dat A c
  | ⟨1, _⟩ => fun c => dat A c

theorem Otc_none (c : Dev nD) (g : GSem nD τ sig) : (K (F := F)).Otc (N := 1) c 1 g none = 0 := by
  by_contra h
  have h1 := SparseCore.Cfg.lev_of_Otc_pos (K := K (F := F)) (Nat.pos_of_ne_zero h)
  have h2 : (K (F := F)).lev g (none : HIx 1) = 0 := rfl
  rw [h2] at h1
  exact absurd h1 (by omega)

/-- What the TensorCore owes and has waited on after its call of the SparseCores. -/
abbrev debts (c : Dev nD) : sProp (MM F) :=
  iprop(∃ W, ⌜(K (F := F)).WBelow (c.tc : Thread nD τ) W (8 * 1)⌝ ∗ owes (c.tc : Thread nD τ) ((K (F := F)).Otc c 1) W)

variable (A' : (c : Dev nD) → (b : Ref sig .tc) → Buf (Elt F) ((c.tc : Thread nD τ).loc b))

set_option backward.isDefEq.respectTransparency.types false in
def reg (h7 : ∀ c, A' c main_v18_0 = (dat A c).arrAt 7 cfg2.N) (h8 : ∀ c, A' c main_v18_1 = (dat A c).arrAt 8 cfg2.N) (h9 : ∀ c, A' c main_v18_2 = (dat A c).arrAt 9 cfg2.N) (h10 : ∀ c, A' c main_v18_3 = (dat A c).arrAt 10 cfg2.N) (h11 : ∀ c, A' c main_v18_4 = (dat A c).arrAt 11 cfg2.N) (h12 : ∀ c, A' c main_v18_5 = (dat A c).arrAt 12 cfg2.N)
    (hne : ∀ c (b : Ref sig .tc), b ≠ main_v18_0 → b ≠ main_v18_1 → b ≠ main_v18_2 → b ≠ main_v18_3 → b ≠ main_v18_4 → b ≠ main_v18_5 → A' c b = A c b) :
    Pipeline.RegionSeg (pcfgs (F := F)) Maxima.adm (pdats A) none defs₀ 𝒱₀ (K (F := F)).L (K (F := F)).lev 1 where
  win := winFacts.to₀
  block_pos := block_pos
  stage_whole := stage_whole
  K := PEmpty
  osem k := k.elim
  ho := Pipeline.OwnSemFacts.none _
  hbody c := (obligation A c).loose
  hwaits c := Pipeline.cellsWaits_intro _ _ none 1 c fun w s t => (K (F := F)).mayWait_none _ (Otc_none c)
  pre c := iprop(unscopedBufs c (A c) ∗ debts c)
  post c := iprop(unscopedBufs c (A' c) ∗ debts c)
  X _ := BI.emp
  Y _ := BI.emp
  Z c := Pipeline.unscopedRest (Ix := HIx 1) (Name := ℕ) (U := UU) (Lvl := ℕ) spec2 c (A c)
  hentry c := by
    rw [Pipeline.ownSems0_none]
    have hsplit := Pipeline.arrays_of_unscopedBufs (p := 1) (pcfgs (F := F)) Maxima.adm (pdats A) winFacts arr_whole c
      ((pdats A 1 c).share_full fun _ => rfl) (A c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W
      isplitr
      · ipureintro; exact fun p hp => Or.inl (hW p hp)
      iexact HO
    isplitr; · iempintro
    iexact Hrest
  hin c := by
    rw [show (pdats A 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats A 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) Maxima.adm (Ix := HIx 1) (Name := ℕ) (U := UU) (Lvl := ℕ) winFacts arr_whole c
      (pdats A) ((pdats A 1 c).share_full fun _ => rfl) (A c) (A' c) ((pdats A 1 c).arrAt · cfg2.N)
      (fun w => by
        fin_cases w
        · exact ((pdats A 1 c).arrAt_in 0 rfl _).trans (hne c main_v8 (by decide) (by decide) (by decide) (by decide) (by decide) (by decide)).symm
        · exact ((pdats A 1 c).arrAt_in 1 rfl _).trans (hne c main_v9 (by decide) (by decide) (by decide) (by decide) (by decide) (by decide)).symm
        · exact ((pdats A 1 c).arrAt_in 2 rfl _).trans (hne c main_v11 (by decide) (by decide) (by decide) (by decide) (by decide) (by decide)).symm
        · exact ((pdats A 1 c).arrAt_in 3 rfl _).trans (hne c main_v13 (by decide) (by decide) (by decide) (by decide) (by decide) (by decide)).symm
        · exact ((pdats A 1 c).arrAt_in 4 rfl _).trans (hne c main_v15 (by decide) (by decide) (by decide) (by decide) (by decide) (by decide)).symm
        · exact ((pdats A 1 c).arrAt_in 5 rfl _).trans (hne c main_v17 (by decide) (by decide) (by decide) (by decide) (by decide) (by decide)).symm
        · exact ((pdats A 1 c).arrAt_in 6 rfl _).trans (hne c main_v6 (by decide) (by decide) (by decide) (by decide) (by decide) (by decide)).symm
        · exact (h7 c).symm
        · exact (h8 c).symm
        · exact (h9 c).symm
        · exact (h10 c).symm
        · exact (h11 c).symm
        · exact (h12 c).symm)
      (fun b hb => hne c b (fun h => hb (h ▸ Finset.mem_image.mpr ⟨7, Finset.mem_univ _, rfl⟩)) (fun h => hb (h ▸ Finset.mem_image.mpr ⟨8, Finset.mem_univ _, rfl⟩)) (fun h => hb (h ▸ Finset.mem_image.mpr ⟨9, Finset.mem_univ _, rfl⟩)) (fun h => hb (h ▸ Finset.mem_image.mpr ⟨10, Finset.mem_univ _, rfl⟩)) (fun h => hb (h ▸ Finset.mem_image.mpr ⟨11, Finset.mem_univ _, rfl⟩)) (fun h => hb (h ▸ Finset.mem_image.mpr ⟨12, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W
    isplitr
    · ipureintro
      intro p hp
      rcases hW hp with h | ⟨w, s, h⟩
      · exact h
      · rw [h]; exact Nat.zero_le _
    iexact HO

end Cert.Proof.Rank

end
-- ==== Proof.Main.lean ====
/-
  The program's run: the row-maximum call, the selection on the subcores, the ranking, and the host's operations between them.
-/
module

public import proofs.«01_k».proof.Proof.Launch
public import proofs.«01_k».proof.Proof.RankRegion
public import proofs.«01_k».proof.Proof.Gen.Kernel

@[expose] public section

noncomputable section

namespace Cert.Proof.Select

open Cert.KernelIdeal Cert.KernelIdeal.Gen Cert.Proof.Compact Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

section Obligations

variable (vX : Dev nD → Vec F S320000x128 .f32) (vB : Dev nD → Vec F S1280000 .f32) (vQ : Dev nD → Vec F S320000 .f32) (vT : Dev nD → Vec F S2048 .f32)

theorem defs₀_vector (c : Fin τ.nSC) (s : Fin τ.nSub) :
    defs₀ (F := F) (.scVector c s) 1 () = SparseCore.onTile hcore1 hsub1 (fun c s => body (F := F) (at' c s)) ⟨⟩ c s := rfl

omit [FloatOps F] in
/-- The subcore waits on nothing but what it started. -/
theorem waits_own {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr
  · ipureintro
    intro p hp
    rcases h p hp with h | h
    · exact .inl h
    · exact .inr (.inl h)
  · iexact HO

set_option maxRecDepth 16384 in
theorem tileObl : (K (F := F)).TileObl (D (F := F)) 𝒱 (P vX vB vQ vT) v₀ 0 := by
  intro d c i O W hO _ _
  simp only [show (P vX vB vQ vT).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d vX vB vQ vT (at' ⟨_, hci.1⟩ ⟨_, hci.2⟩) facts O W hO).trans (wp_mono frame _ _ fun _ => waits_own)

theorem vecSplit : (K (F := F)).VecSplit' (P vX vB vQ vT) 0 := by
  intro d c
  show (bigSep Finset.univ fun s : Fin 16 => given d vX vB vQ vT (at' c s)) ⊢ |={Set.univ}=> iprop(
    (bigSep Finset.univ fun s : Fin 16 => given d vX vB vQ vT (at' c s))
      ∗ ((bigSep Finset.univ fun s : Fin 16 => back d vX vB vQ vT (at' c s)) -∗ bigSep Finset.univ fun s : Fin 16 => back d vX vB vQ vT (at' c s)))
  iintro H
  imodintro
  isplitl [H]; · iexact H
  iintro H
  iexact H

omit [FloatOps F] in
theorem nothing {I : Type} (s : Finset I) : (bigSep s fun _ => iprop(emp)) = (iprop(emp) : sProp (MM F)) := bigSep_emp_const s

/-- The staging cells' ghost state at the launch. -/
def staged : UP := initOf (Pipeline.cells (Pipeline.pin (pcfgs (F := F)) Maxima.adm) Maxima.cells_inj) (Pipeline.launchToks (Pipeline.pin (pcfgs (F := F)) Maxima.adm) Maxima.cells_inj)

/-- The ghost state at the launch: the handshakes' rounds and the staging cells'. -/
def u₀ : UU := (initOf (K (F := F)).hsCells (K (F := F)).hsToks, (staged (F := F), 1))

/-- What the TensorCore enters a call with. -/
abbrev entry (p : Fin 2) (d : Dev nD) : sProp (MM F) :=
  iprop(Pipeline.cellsGhost (Pipeline.pin (pcfgs (F := F)) Maxima.adm) EP p d ∗ Pipeline.toksInit (Pipeline.pin (pcfgs (F := F)) Maxima.adm) EP p d)

/-- Both calls' entries. -/
abbrev entries (d : Dev nD) : sProp (MM F) := iprop(entry (F := F) 0 d ∗ entry (F := F) 1 d)

theorem fund : BI.own (EP (F := F) (staged (F := F))) ⊢ (|==> bigSep Finset.univ fun d : Dev nD => entries (F := F) d : sProp (MM F)) := by
  have h := Pipeline.fund_ghost (nD := nD) (Pipeline.pin (pcfgs (F := F)) Maxima.adm) (EP (F := F)) Maxima.cells_inj
  have e : ∀ Φ : Dev nD → sProp (MM F), bigSep Finset.univ Φ = Φ (0 : Fin 1) := fun Φ => bigSep_univ_of_subsingleton (0 : Fin 1)
  have e2 : ∀ Φ : Fin 2 → sProp (MM F), bigSep Finset.univ Φ = iprop(Φ 0 ∗ Φ 1) := fun Φ => by
    rw [show (Finset.univ : Finset (Fin 2)) = {0, 1} from rfl, SparseCore.bigSep_insert' (by decide), bigSep_singleton]
  rw [e, e, e2, e2] at h
  rw [e]
  iintro H
  imod (show BI.own (EP (F := F) (staged (F := F))) ⊢ _ from h) $$ H with ⟨⟨Ha, Hb⟩, Hc, Hd⟩
  imodintro
  isplitl [Ha Hc]
  · isplitl [Ha] <;> iassumption
  · isplitl [Hb] <;> iassumption

theorem hu₀ : (ownU (u₀ (F := F)) : sProp (MM F))
    ⊢ |={Set.univ}=> iprop(BI.own (EH (initOf (K (F := F)).hsCells (K (F := F)).hsToks)) ∗ (bigSep Finset.univ fun d : Dev nD => entries (F := F) d)
        ∗ bigSep Finset.univ fun thr : Thread nD τ => bigSep Finset.univ fun q : Fin 1 => (P vX vB vQ vT).x q thr) := by
  unfold u₀
  iintro Hu
  ihave H := (ownU_pair (initOf (K (F := F)).hsCells (K (F := F)).hsToks) ((staged (F := F), 1) : UP × Counters)) $$ Hu
  icases H with ⟨HH, HP⟩
  imod ((show BI.own (embR ((staged (F := F), 1) : UP × Counters)) ⊢ (|==> bigSep Finset.univ fun d : Dev nD => entries (F := F) d : sProp (MM F)) from fund)) $$ HP with HP
  imodintro
  isplitl [HH]; · iexact HH
  isplitl [HP]; · iexact HP
  have e : (bigSep Finset.univ fun thr : Thread nD τ => bigSep Finset.univ fun q : Fin 1 => (P vX vB vQ vT).x q thr) = (iprop(emp) : sProp (MM F)) :=
    (bigSep_congr fun _ _ => bigSep_univ_of_subsingleton (0 : Fin 1)).trans (nothing _)
  rw [e]
  iempintro

end Obligations

/-! ## The program on the TensorCore -/

variable (m : (ℓ : Loc nD τ sig) → Buf (Elt F) ℓ) (ρ : Dev nD → PrngReg)

/-- The arguments of the program. -/
abbrev gL (d : Dev nD) : Loc nD τ sig := (d.tc : Thread nD τ).loc main_arg0
abbrev gR (d : Dev nD) : Loc nD τ sig := (d.tc : Thread nD τ).loc main_arg1
abbrev gS (d : Dev nD) : Loc nD τ sig := (d.tc : Thread nD τ).loc main_arg2
abbrev gK (d : Dev nD) : Loc nD τ sig := (d.tc : Thread nD τ).loc main_arg3
/-- Its results. -/
abbrev gLab (d : Dev nD) : Loc nD τ sig := (d.tc : Thread nD τ).loc main_v18_0
abbrev gBox (d : Dev nD) : Loc nD τ sig := (d.tc : Thread nD τ).loc main_v23
abbrev gSco (d : Dev nD) : Loc nD τ sig := (d.tc : Thread nD τ).loc main_v18_1

/-- The arrays as the launch finds them, -/
abbrev A0 (d : Dev nD) : Valuation τ sig (Elt F) := fun b => m (d, b)
/-- after the row-maximum call, -/
def A1 (d : Dev nD) : Valuation τ sig (Elt F) :=
  Function.update (Function.update (A0 m d) (Proc.devRef .tc main_v0_0) (Maxima.maxima (F := F) (m (gL d))))
    (Proc.devRef .tc main_v0_1) (Maxima.widened (F := F) (m (gL d)))

/-- The reshapes between the two calls. -/
abbrev reshapes : List (HloOp τ sig (Elt F)) :=
  [StableHlo.reshape main_v0_1 main_v1 (rfl : (.f32 : EltTy) = .f32) shapeCasts_S160x2000x128_S320000x128,
    StableHlo.reshape main_arg1 main_v2 (rfl : (.f32 : EltTy) = .f32) shapeCasts_S16x20000x4_S1280000,
    StableHlo.reshape main_v0_0 main_v3 (rfl : (.f32 : EltTy) = .f32) shapeCasts_S160x1x2000_S320000,
    StableHlo.reshape main_arg3 main_v4 (rfl : (.f32 : EltTy) = .f32) shapeCasts_S16x128_S2048]

/-- and after the reshapes. -/
def A2 (d : Dev nD) : Valuation τ sig (Elt F) := StableHlo.after reshapes (A1 m d)

/-- The arguments of the SparseCore call. -/
def mX (d : Dev nD) : Vec F S320000x128 .f32 := shapeCast S320000x128 (Maxima.widened (F := F) (m (gL d))) shapeCasts_S160x2000x128_S320000x128
def mB (d : Dev nD) : Vec F S1280000 .f32 := shapeCast S1280000 (m (gR d)) shapeCasts_S16x20000x4_S1280000
def mQ (d : Dev nD) : Vec F S320000 .f32 := shapeCast S320000 (Maxima.maxima (F := F) (m (gL d))) shapeCasts_S160x1x2000_S320000
def mT (d : Dev nD) : Vec F S2048 .f32 := shapeCast S2048 (m (gK d)) shapeCasts_S16x128_S2048

abbrev PM := P (F := F) (mX m) (mB m) (mQ m) (mT m)

theorem A1_maxima (d : Dev nD) : A1 m d (Proc.devRef .tc main_v0_0) = Maxima.maxima (F := F) (m (gL d)) := by
  unfold A1
  rw [Function.update_of_ne (StableHlo.devRef_ne_of_ne (by decide)), Function.update_self]

theorem A1_widened (d : Dev nD) : A1 m d (Proc.devRef .tc main_v0_1) = Maxima.widened (F := F) (m (gL d)) := by
  unfold A1
  rw [Function.update_self]

theorem A1_other (d : Dev nD) (b : Ref sig .tc) (h0 : b ≠ main_v0_0) (h1 : b ≠ main_v0_1) : A1 m d (Proc.devRef .tc b) = m ((d.tc : Thread nD τ).loc b) := by
  unfold A1
  rw [Function.update_of_ne (StableHlo.devRef_ne_of_ne h1), Function.update_of_ne (StableHlo.devRef_ne_of_ne h0)]

theorem A2_X (d : Dev nD) : A2 m d (Proc.devRef .tc main_v1) = mX m d := by
  unfold A2 mX
  after_results
  rw [A1_widened m d]
  rfl
theorem A2_B (d : Dev nD) : A2 m d (Proc.devRef .tc main_v2) = mB m d := by
  unfold A2 mB
  after_results
  rw [A1_other m d main_arg1 (by decide) (by decide)]
  rfl
theorem A2_Q (d : Dev nD) : A2 m d (Proc.devRef .tc main_v3) = mQ m d := by
  unfold A2 mQ
  after_results
  rw [A1_maxima m d]
  rfl
theorem A2_T (d : Dev nD) : A2 m d (Proc.devRef .tc main_v4) = mT m d := by
  unfold A2 mT
  after_results
  rw [A1_other m d main_arg3 (by decide) (by decide)]
  rfl
theorem A2_L (d : Dev nD) : A2 m d (Proc.devRef .tc main_arg0) = m (gL d) := by
  unfold A2
  after_results
  exact A1_other m d main_arg0 (by decide) (by decide)
theorem A2_R (d : Dev nD) : A2 m d (Proc.devRef .tc main_arg1) = m (gR d) := by
  unfold A2
  after_results
  exact A1_other m d main_arg1 (by decide) (by decide)
theorem A2_K (d : Dev nD) : A2 m d (Proc.devRef .tc main_arg3) = m (gK d) := by
  unfold A2
  after_results
  exact A1_other m d main_arg3 (by decide) (by decide)

theorem A2_S (d : Dev nD) : A2 m d (Proc.devRef .tc main_arg2) = m (gS d) := by
  unfold A2
  after_results
  exact A1_other m d main_arg2 (by decide) (by decide)

/-- After the selection, -/
def A3 (d : Dev nD) : Valuation τ sig (Elt F) :=
  Function.update (Function.update (Function.update (A2 m d) (Proc.devRef .tc main_v5_0) (outV (mX m d) (mQ m d) (mT m d)))
    (Proc.devRef .tc main_v5_1) (outF (mX m d) (mQ m d) (mT m d))) (Proc.devRef .tc main_v5_2) (outB (mX m d) (mB m d) (mQ m d) (mT m d))

theorem A3_V (d : Dev nD) : A3 m d (Proc.devRef .tc main_v5_0) = outV (mX m d) (mQ m d) (mT m d) := by
  unfold A3
  rw [Function.update_of_ne (StableHlo.devRef_ne_of_ne (by decide)), Function.update_of_ne (StableHlo.devRef_ne_of_ne (by decide)), Function.update_self]
theorem A3_F (d : Dev nD) : A3 m d (Proc.devRef .tc main_v5_1) = outF (mX m d) (mQ m d) (mT m d) := by
  unfold A3
  rw [Function.update_of_ne (StableHlo.devRef_ne_of_ne (by decide)), Function.update_self]
theorem A3_O (d : Dev nD) : A3 m d (Proc.devRef .tc main_v5_2) = outB (mX m d) (mB m d) (mQ m d) (mT m d) := by
  unfold A3
  rw [Function.update_self]
theorem A3_other (d : Dev nD) (b : Ref sig .tc) (h0 : b ≠ main_v5_0) (h1 : b ≠ main_v5_1) (h2 : b ≠ main_v5_2) :
    A3 m d (Proc.devRef .tc b) = A2 m d (Proc.devRef .tc b) := by
  unfold A3
  rw [Function.update_of_ne (StableHlo.devRef_ne_of_ne h2), Function.update_of_ne (StableHlo.devRef_ne_of_ne h1), Function.update_of_ne (StableHlo.devRef_ne_of_ne h0)]

/-- the host's operations before the ranking, -/
abbrev mids : List (HloOp τ sig (Elt F)) :=
  [StableHlo.unary main_arg2 main_v6 (sitofp .f32 : (⟨S16x2, .i32⟩ : BufTy).Contents (Elt F) → (⟨S16x2, .f32⟩ : BufTy).Contents (Elt F)),
    StableHlo.reshape main_v5_2 main_v7 (rfl : (.f32 : EltTy) = .f32) shapeCasts_S32768_S4x16x512,
    StableHlo.reshape main_v5_0 main_v8 (rfl : (.f32 : EltTy) = .f32) shapeCasts_S8192_S16x512,
    StableHlo.reshape main_v5_1 main_v9 (rfl : (.i32 : EltTy) = .i32) shapeCasts_S8192_S16x512,
    StableHlo.unary main_v7 main_v10 ((extractStridedSlice S1x16x512 ![0, 0, 0] · slices_S4x16x512_S1x16x512_0_0_0) : (⟨S4x16x512, .f32⟩ : BufTy).Contents (Elt F) → (⟨S1x16x512, .f32⟩ : BufTy).Contents (Elt F)),
    StableHlo.reshape main_v10 main_v11 (rfl : (.f32 : EltTy) = .f32) shapeCasts_S1x16x512_S16x512,
    StableHlo.unary main_v7 main_v12 ((extractStridedSlice S1x16x512 ![1, 0, 0] · slices_S4x16x512_S1x16x512_1_0_0) : (⟨S4x16x512, .f32⟩ : BufTy).Contents (Elt F) → (⟨S1x16x512, .f32⟩ : BufTy).Contents (Elt F)),
    StableHlo.reshape main_v12 main_v13 (rfl : (.f32 : EltTy) = .f32) shapeCasts_S1x16x512_S16x512,
    StableHlo.unary main_v7 main_v14 ((extractStridedSlice S1x16x512 ![2, 0, 0] · slices_S4x16x512_S1x16x512_2_0_0) : (⟨S4x16x512, .f32⟩ : BufTy).Contents (Elt F) → (⟨S1x16x512, .f32⟩ : BufTy).Contents (Elt F)),
    StableHlo.reshape main_v14 main_v15 (rfl : (.f32 : EltTy) = .f32) shapeCasts_S1x16x512_S16x512,
    StableHlo.unary main_v7 main_v16 ((extractStridedSlice S1x16x512 ![3, 0, 0] · slices_S4x16x512_S1x16x512_3_0_0) : (⟨S4x16x512, .f32⟩ : BufTy).Contents (Elt F) → (⟨S1x16x512, .f32⟩ : BufTy).Contents (Elt F)),
    StableHlo.reshape main_v16 main_v17 (rfl : (.f32 : EltTy) = .f32) shapeCasts_S1x16x512_S16x512]

def A4 (d : Dev nD) : Valuation τ sig (Elt F) := StableHlo.after mids (A3 m d)

/-- The arguments of the ranking. -/
def kV (d : Dev nD) : Vec F S16x512 .f32 := shapeCast S16x512 (outV (mX m d) (mQ m d) (mT m d)) shapeCasts_S8192_S16x512
def kF (d : Dev nD) : IVec S16x512 32 := shapeCast S16x512 (outF (mX m d) (mQ m d) (mT m d)) shapeCasts_S8192_S16x512
def kO (d : Dev nD) : Vec F S4x16x512 .f32 := shapeCast S4x16x512 (outB (mX m d) (mB m d) (mQ m d) (mT m d)) shapeCasts_S32768_S4x16x512
def kCx (d : Dev nD) : Vec F S16x512 .f32 := shapeCast S16x512 (extractStridedSlice S1x16x512 ![0, 0, 0] (kO m d) slices_S4x16x512_S1x16x512_0_0_0) shapeCasts_S1x16x512_S16x512
def kCy (d : Dev nD) : Vec F S16x512 .f32 := shapeCast S16x512 (extractStridedSlice S1x16x512 ![1, 0, 0] (kO m d) slices_S4x16x512_S1x16x512_1_0_0) shapeCasts_S1x16x512_S16x512
def kW (d : Dev nD) : Vec F S16x512 .f32 := shapeCast S16x512 (extractStridedSlice S1x16x512 ![2, 0, 0] (kO m d) slices_S4x16x512_S1x16x512_2_0_0) shapeCasts_S1x16x512_S16x512
def kH (d : Dev nD) : Vec F S16x512 .f32 := shapeCast S16x512 (extractStridedSlice S1x16x512 ![3, 0, 0] (kO m d) slices_S4x16x512_S1x16x512_3_0_0) shapeCasts_S1x16x512_S16x512
def kZ (d : Dev nD) : Vec F S16x2 .f32 := sitofp .f32 (m (gS d) : IVec S16x2 32)

theorem A4_V (d : Dev nD) : A4 m d (Proc.devRef .tc main_v8) = kV m d := by
  unfold A4
  after_results
  rw [A3_V m d]
  rfl
theorem A4_F (d : Dev nD) : A4 m d (Proc.devRef .tc main_v9) = kF m d := by
  unfold A4
  after_results
  rw [A3_F m d]
  rfl
theorem A4_Cx (d : Dev nD) : A4 m d (Proc.devRef .tc main_v11) = kCx m d := by
  unfold A4
  after_results
  rw [A3_O m d]
  rfl
theorem A4_Cy (d : Dev nD) : A4 m d (Proc.devRef .tc main_v13) = kCy m d := by
  unfold A4
  after_results
  rw [A3_O m d]
  rfl
theorem A4_W (d : Dev nD) : A4 m d (Proc.devRef .tc main_v15) = kW m d := by
  unfold A4
  after_results
  rw [A3_O m d]
  rfl
theorem A4_H (d : Dev nD) : A4 m d (Proc.devRef .tc main_v17) = kH m d := by
  unfold A4
  after_results
  rw [A3_O m d]
  rfl
theorem A4_Z (d : Dev nD) : A4 m d (Proc.devRef .tc main_v6) = kZ m d := by
  unfold A4
  after_results
  rw [A3_other m d main_arg2 (by decide) (by decide) (by decide), A2_S m d]
  rfl
theorem A4_L (d : Dev nD) : A4 m d (Proc.devRef .tc main_arg0) = m (gL d) := by
  unfold A4
  after_results
  exact (A3_other m d main_arg0 (by decide) (by decide) (by decide)).trans (A2_L m d)
theorem A4_R (d : Dev nD) : A4 m d (Proc.devRef .tc main_arg1) = m (gR d) := by
  unfold A4
  after_results
  exact (A3_other m d main_arg1 (by decide) (by decide) (by decide)).trans (A2_R m d)
theorem A4_S (d : Dev nD) : A4 m d (Proc.devRef .tc main_arg2) = m (gS d) := by
  unfold A4
  after_results
  exact (A3_other m d main_arg2 (by decide) (by decide) (by decide)).trans (A2_S m d)
theorem A4_K (d : Dev nD) : A4 m d (Proc.devRef .tc main_arg3) = m (gK d) := by
  unfold A4
  after_results
  exact (A3_other m d main_arg3 (by decide) (by decide) (by decide)).trans (A2_K m d)

/-- The ranking's results. -/
def rLab (d : Dev nD) : IVec S16x300 32 := Rank.labels (F := F) (kV m d) (kF m d)
def rSco (d : Dev nD) : Vec F S16x300 .f32 := Rank.scores (kV m d) (kF m d)
def rX0 (d : Dev nD) : Vec F S16x300 .f32 := Rank.plane (Rank.left (kCx m d) (kW m d) (kZ m d)) (kV m d) (kF m d)
def rY0 (d : Dev nD) : Vec F S16x300 .f32 := Rank.plane (Rank.top (kCy m d) (kH m d) (kZ m d)) (kV m d) (kF m d)
def rX1 (d : Dev nD) : Vec F S16x300 .f32 := Rank.plane (Rank.right (kCx m d) (kW m d) (kZ m d)) (kV m d) (kF m d)
def rY1 (d : Dev nD) : Vec F S16x300 .f32 := Rank.plane (Rank.bottom (kCy m d) (kH m d) (kZ m d)) (kV m d) (kF m d)

/-- after the ranking, -/
def A5 (d : Dev nD) : Valuation τ sig (Elt F) :=
  Function.update (Function.update (Function.update (Function.update (Function.update (Function.update (A4 m d) (Proc.devRef .tc main_v18_0) (rLab m d)) (Proc.devRef .tc main_v18_1) (rSco m d)) (Proc.devRef .tc main_v18_2) (rX0 m d)) (Proc.devRef .tc main_v18_3) (rY0 m d)) (Proc.devRef .tc main_v18_4) (rX1 m d)) (Proc.devRef .tc main_v18_5) (rY1 m d)

theorem A5_0 (d : Dev nD) : A5 m d (Proc.devRef .tc main_v18_0) = rLab m d := by
  unfold A5
  rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
theorem A5_1 (d : Dev nD) : A5 m d (Proc.devRef .tc main_v18_1) = rSco m d := by
  unfold A5
  rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
theorem A5_2 (d : Dev nD) : A5 m d (Proc.devRef .tc main_v18_2) = rX0 m d := by
  unfold A5
  rw [Function.update_of_ne (StableHlo.devRef_ne_of_ne (by decide)), Function.update_of_ne (StableHlo.devRef_ne_of_ne (by decide)), Function.update_of_ne (StableHlo.devRef_ne_of_ne (by decide)), Function.update_self]
theorem A5_3 (d : Dev nD) : A5 m d (Proc.devRef .tc main_v18_3) = rY0 m d := by
  unfold A5
  rw [Function.update_of_ne (StableHlo.devRef_ne_of_ne (by decide)), Function.update_of_ne (StableHlo.devRef_ne_of_ne (by decide)), Function.update_self]
theorem A5_4 (d : Dev nD) : A5 m d (Proc.devRef .tc main_v18_4) = rX1 m d := by
  unfold A5
  rw [Function.update_of_ne (StableHlo.devRef_ne_of_ne (by decide)), Function.update_self]
theorem A5_5 (d : Dev nD) : A5 m d (Proc.devRef .tc main_v18_5) = rY1 m d := by
  unfold A5
  rw [Function.update_self]
theorem A5_other (d : Dev nD) (b : Ref sig .tc) (h0 : b ≠ main_v18_0) (h1 : b ≠ main_v18_1) (h2 : b ≠ main_v18_2) (h3 : b ≠ main_v18_3) (h4 : b ≠ main_v18_4) (h5 : b ≠ main_v18_5) :
    A5 m d (Proc.devRef .tc b) = A4 m d (Proc.devRef .tc b) := by
  unfold A5
  rw [Function.update_of_ne (StableHlo.devRef_ne_of_ne h5), Function.update_of_ne (StableHlo.devRef_ne_of_ne h4), Function.update_of_ne (StableHlo.devRef_ne_of_ne h3), Function.update_of_ne (StableHlo.devRef_ne_of_ne h2), Function.update_of_ne (StableHlo.devRef_ne_of_ne h1), Function.update_of_ne (StableHlo.devRef_ne_of_ne h0)]

/-- and the host's operations after it. -/
abbrev tail : List (HloOp τ sig (Elt F)) :=
  [StableHlo.unary main_v18_2 main_v19 (broadcastInDim S16x300x1 ![0, 1] bcast_S16x300_S16x300x1_0_1 : (⟨S16x300, .f32⟩ : BufTy).Contents (Elt F) → (⟨S16x300x1, .f32⟩ : BufTy).Contents (Elt F)),
    StableHlo.unary main_v18_3 main_v20 (broadcastInDim S16x300x1 ![0, 1] bcast_S16x300_S16x300x1_0_1 : (⟨S16x300, .f32⟩ : BufTy).Contents (Elt F) → (⟨S16x300x1, .f32⟩ : BufTy).Contents (Elt F)),
    StableHlo.unary main_v18_4 main_v21 (broadcastInDim S16x300x1 ![0, 1] bcast_S16x300_S16x300x1_0_1 : (⟨S16x300, .f32⟩ : BufTy).Contents (Elt F) → (⟨S16x300x1, .f32⟩ : BufTy).Contents (Elt F)),
    StableHlo.unary main_v18_5 main_v22 (broadcastInDim S16x300x1 ![0, 1] bcast_S16x300_S16x300x1_0_1 : (⟨S16x300, .f32⟩ : BufTy).Contents (Elt F) → (⟨S16x300x1, .f32⟩ : BufTy).Contents (Elt F)),
    StableHlo.nary ![main_v19, main_v20, main_v21, main_v22] main_v23 (fun u => (concatenate S16x300x4 2 [⟨S16x300x1, (u 0 : (⟨S16x300x1, .f32⟩ : BufTy).Contents (Elt F))⟩, ⟨S16x300x1, (u 1 : (⟨S16x300x1, .f32⟩ : BufTy).Contents (Elt F))⟩, ⟨S16x300x1, (u 2 : (⟨S16x300x1, .f32⟩ : BufTy).Contents (Elt F))⟩, ⟨S16x300x1, (u 3 : (⟨S16x300x1, .f32⟩ : BufTy).Contents (Elt F))⟩] concatenates_S16x300x1_S16x300x1_S16x300x1_S16x300x1_S16x300x4_d2 : (⟨S16x300x4, .f32⟩ : BufTy).Contents (Elt F)))]

def A6 (d : Dev nD) : Valuation τ sig (Elt F) := StableHlo.after tail (A5 m d)

/-- One of a box's four numbers, as a column. -/
abbrev column (x : Vec F S16x300 .f32) : Vec F S16x300x1 .f32 := broadcastInDim S16x300x1 ![0, 1] bcast_S16x300_S16x300x1_0_1 x

/-- The boxes. -/
def rBox (d : Dev nD) : Vec F S16x300x4 .f32 :=
  concatenate S16x300x4 2 [⟨S16x300x1, column (rX0 m d)⟩, ⟨S16x300x1, column (rY0 m d)⟩, ⟨S16x300x1, column (rX1 m d)⟩, ⟨S16x300x1, column (rY1 m d)⟩]
    concatenates_S16x300x1_S16x300x1_S16x300x1_S16x300x1_S16x300x4_d2

theorem A6_lab (d : Dev nD) : A6 m d (Proc.devRef .tc main_v18_0) = rLab m d := by
  unfold A6
  after_results
  exact A5_0 m d
theorem A6_sco (d : Dev nD) : A6 m d (Proc.devRef .tc main_v18_1) = rSco m d := by
  unfold A6
  after_results
  exact A5_1 m d
/-- The columns. -/
def A55 (d : Dev nD) : Valuation τ sig (Elt F) :=
  StableHlo.after [StableHlo.unary main_v18_2 main_v19 (broadcastInDim S16x300x1 ![0, 1] bcast_S16x300_S16x300x1_0_1 : (⟨S16x300, .f32⟩ : BufTy).Contents (Elt F) → (⟨S16x300x1, .f32⟩ : BufTy).Contents (Elt F)),
    StableHlo.unary main_v18_3 main_v20 (broadcastInDim S16x300x1 ![0, 1] bcast_S16x300_S16x300x1_0_1 : (⟨S16x300, .f32⟩ : BufTy).Contents (Elt F) → (⟨S16x300x1, .f32⟩ : BufTy).Contents (Elt F)),
    StableHlo.unary main_v18_4 main_v21 (broadcastInDim S16x300x1 ![0, 1] bcast_S16x300_S16x300x1_0_1 : (⟨S16x300, .f32⟩ : BufTy).Contents (Elt F) → (⟨S16x300x1, .f32⟩ : BufTy).Contents (Elt F)),
    StableHlo.unary main_v18_5 main_v22 (broadcastInDim S16x300x1 ![0, 1] bcast_S16x300_S16x300x1_0_1 : (⟨S16x300, .f32⟩ : BufTy).Contents (Elt F) → (⟨S16x300x1, .f32⟩ : BufTy).Contents (Elt F))] (A5 m d)
theorem A55_0 (d : Dev nD) : A55 m d (Proc.devRef .tc main_v19) = column (rX0 m d) := by
  unfold A55
  after_results
  rw [A5_2 m d]
theorem A55_1 (d : Dev nD) : A55 m d (Proc.devRef .tc main_v20) = column (rY0 m d) := by
  unfold A55
  after_results
  rw [A5_3 m d]
theorem A55_2 (d : Dev nD) : A55 m d (Proc.devRef .tc main_v21) = column (rX1 m d) := by
  unfold A55
  after_results
  rw [A5_4 m d]
theorem A55_3 (d : Dev nD) : A55 m d (Proc.devRef .tc main_v22) = column (rY1 m d) := by
  unfold A55
  after_results
  rw [A5_5 m d]

theorem A6_box (d : Dev nD) : A6 m d (Proc.devRef .tc main_v23) = rBox m d := by
  unfold rBox
  rw [← A55_0 m d, ← A55_1 m d, ← A55_2 m d, ← A55_3 m d]
  exact StableHlo.nary_result (τ := τ) ![main_v19, main_v20, main_v21, main_v22] main_v23 (fun u => (concatenate S16x300x4 2 [⟨S16x300x1, (u 0 : (⟨S16x300x1, .f32⟩ : BufTy).Contents (Elt F))⟩, ⟨S16x300x1, (u 1 : (⟨S16x300x1, .f32⟩ : BufTy).Contents (Elt F))⟩, ⟨S16x300x1, (u 2 : (⟨S16x300x1, .f32⟩ : BufTy).Contents (Elt F))⟩, ⟨S16x300x1, (u 3 : (⟨S16x300x1, .f32⟩ : BufTy).Contents (Elt F))⟩] concatenates_S16x300x1_S16x300x1_S16x300x1_S16x300x1_S16x300x4_d2 : (⟨S16x300x4, .f32⟩ : BufTy).Contents (Elt F))) (by decide) (by exact ⟨by decide, rfl⟩) (A55 m d)
theorem A6_L (d : Dev nD) : A6 m d (Proc.devRef .tc main_arg0) = m (gL d) := by
  unfold A6
  after_results
  exact (A5_other m d main_arg0 (by decide) (by decide) (by decide) (by decide) (by decide) (by decide)).trans (A4_L m d)
theorem A6_R (d : Dev nD) : A6 m d (Proc.devRef .tc main_arg1) = m (gR d) := by
  unfold A6
  after_results
  exact (A5_other m d main_arg1 (by decide) (by decide) (by decide) (by decide) (by decide) (by decide)).trans (A4_R m d)
theorem A6_S (d : Dev nD) : A6 m d (Proc.devRef .tc main_arg2) = m (gS d) := by
  unfold A6
  after_results
  exact (A5_other m d main_arg2 (by decide) (by decide) (by decide) (by decide) (by decide) (by decide)).trans (A4_S m d)
theorem A6_K (d : Dev nD) : A6 m d (Proc.devRef .tc main_arg3) = m (gK d) := by
  unfold A6
  after_results
  exact (A5_other m d main_arg3 (by decide) (by decide) (by decide) (by decide) (by decide) (by decide)).trans (A4_K m d)

/-- The arrays beside those of the selection. -/
def others : Finset (Ref sig .tc) := (Finset.univ.filter fun b : Ref sig .tc => ¬ b.isScoped) \ {main_v1, main_v2, main_v3, main_v4, main_v5_0, main_v5_1, main_v5_2}
/-- The arrays beside the arguments and the results. -/
def inner : Finset (Ref sig .tc) := (Finset.univ.filter fun b : Ref sig .tc => ¬ b.isScoped) \ {main_arg0, main_arg1, main_arg2, main_arg3, main_v18_0, main_v23, main_v18_1}

omit [FloatOps F] in
theorem around (d : Dev nD) (W : (b : Ref sig .tc) → Buf (Elt F) ((d.tc : Thread nD τ).loc b)) :
    (unscopedBufs d W : sProp (MM F)) = iprop((gX d ↦{fullShare} W main_v1) ∗ (gB d ↦{fullShare} W main_v2) ∗ (gQ d ↦{fullShare} W main_v3)
      ∗ (gT d ↦{fullShare} W main_v4) ∗ (gV d ↦{fullShare} W main_v5_0) ∗ (gF d ↦{fullShare} W main_v5_1) ∗ (gO d ↦{fullShare} W main_v5_2)
      ∗ bigSep others fun b => (d.tc : Thread nD τ).loc b ↦{fullShare} W b) := by
  unfold unscopedBufs
  rw [show (Finset.univ.filter fun b : Ref sig .tc => ¬ b.isScoped)
      = insert main_v1 (insert main_v2 (insert main_v3 (insert main_v4 (insert main_v5_0 (insert main_v5_1 (insert main_v5_2 others)))))) by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide)]

omit [FloatOps F] in
theorem ends (d : Dev nD) (W : (b : Ref sig .tc) → Buf (Elt F) ((d.tc : Thread nD τ).loc b)) :
    (unscopedBufs d W : sProp (MM F)) = iprop((gL d ↦{fullShare} W main_arg0) ∗ (gR d ↦{fullShare} W main_arg1) ∗ (gS d ↦{fullShare} W main_arg2)
      ∗ (gK d ↦{fullShare} W main_arg3) ∗ (gLab d ↦{fullShare} W main_v18_0) ∗ (gBox d ↦{fullShare} W main_v23) ∗ (gSco d ↦{fullShare} W main_v18_1)
      ∗ bigSep inner fun b => (d.tc : Thread nD τ).loc b ↦{fullShare} W b) := by
  unfold unscopedBufs
  rw [show (Finset.univ.filter fun b : Ref sig .tc => ¬ b.isScoped)
      = insert main_arg0 (insert main_arg1 (insert main_arg2 (insert main_arg3 (insert main_v18_0 (insert main_v23 (insert main_v18_1 inner)))))) by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide)]

/-- What the selection leaves alone. -/
abbrev beside (d : Dev nD) : sProp (MM F) := bigSep others fun b => (d.tc : Thread nD τ).loc b ↦{fullShare} A2 m d (Proc.devRef .tc b)

theorem beside_eq (d : Dev nD) : (bigSep others fun b => (d.tc : Thread nD τ).loc b ↦{fullShare} A3 m d (Proc.devRef .tc b) : sProp (MM F)) = beside m d :=
  bigSep_congr fun b hb => by
    have h : ∀ b ∈ others, b ≠ main_v5_0 ∧ b ≠ main_v5_1 ∧ b ≠ main_v5_2 := by decide
    rw [A3_other m d b (h b hb).1 (h b hb).2.1 (h b hb).2.2]

theorem ready (d : Dev nD) : (unscopedBufs d (fun b => A2 m d (Proc.devRef .tc b)) : sProp (MM F))
    = iprop((gX d ↦{fullShare} mX m d) ∗ (gB d ↦{fullShare} mB m d) ∗ (gQ d ↦{fullShare} mQ m d) ∗ (gT d ↦{fullShare} mT m d)
      ∗ (gV d ↦{fullShare} A2 m d (Proc.devRef .tc main_v5_0)) ∗ (gF d ↦{fullShare} A2 m d (Proc.devRef .tc main_v5_1)) ∗ (gO d ↦{fullShare} A2 m d (Proc.devRef .tc main_v5_2))
      ∗ beside m d) := by
  rw [around, A2_X, A2_B, A2_Q, A2_T]

theorem selected (d : Dev nD) : (unscopedBufs d (fun b => A3 m d (Proc.devRef .tc b)) : sProp (MM F))
    = iprop((gX d ↦{fullShare} mX m d) ∗ (gB d ↦{fullShare} mB m d) ∗ (gQ d ↦{fullShare} mQ m d) ∗ (gT d ↦{fullShare} mT m d)
      ∗ (gV d ↦{fullShare} outV (mX m d) (mQ m d) (mT m d)) ∗ (gF d ↦{fullShare} outF (mX m d) (mQ m d) (mT m d)) ∗ (gO d ↦{fullShare} outB (mX m d) (mB m d) (mQ m d) (mT m d))
      ∗ beside m d) := by
  rw [around, beside_eq, A3_V, A3_F, A3_O, A3_other m d main_v1 (by decide) (by decide) (by decide), A3_other m d main_v2 (by decide) (by decide) (by decide),
    A3_other m d main_v3 (by decide) (by decide) (by decide), A3_other m d main_v4 (by decide) (by decide) (by decide), A2_X, A2_B, A2_Q, A2_T]

theorem done (d : Dev nD) : (unscopedBufs d (fun b => A6 m d (Proc.devRef .tc b)) : sProp (MM F))
    = iprop((gL d ↦{fullShare} m (gL d)) ∗ (gR d ↦{fullShare} m (gR d)) ∗ (gS d ↦{fullShare} m (gS d)) ∗ (gK d ↦{fullShare} m (gK d))
      ∗ (gLab d ↦{fullShare} rLab m d) ∗ (gBox d ↦{fullShare} rBox m d) ∗ (gSco d ↦{fullShare} rSco m d)
      ∗ bigSep inner fun b => (d.tc : Thread nD τ).loc b ↦{fullShare} A6 m d (Proc.devRef .tc b)) := by
  rw [ends, A6_L, A6_R, A6_S, A6_K, A6_lab, A6_box, A6_sco]

/-- The row-maximum call, entered from the arrays as the launch finds them. -/
abbrev region : Pipeline.RegionSeg (pcfgs (F := F)) Maxima.adm (Maxima.pdats fun c b => m ((c.tc : Thread nD τ).loc b)) none defs₀ 𝒱₀ (K (F := F)).L (K (F := F)).lev 0 :=
  Maxima.reg (fun c b => m ((c.tc : Thread nD τ).loc b)) (fun c b => A1 m c (Proc.devRef .tc b))
    (fun c => (A1_maxima m c).trans (Maxima.final_1 (fun c b => m ((c.tc : Thread nD τ).loc b)) c).symm) (fun c => (A1_widened m c).trans (Maxima.final_2 (fun c b => m ((c.tc : Thread nD τ).loc b)) c).symm)
    (fun c b h0 h1 => A1_other m c b h0 h1)

/-- The arrays the ranking is entered with. -/
abbrev B4 (c : Dev nD) (b : Ref sig .tc) : Buf (Elt F) ((c.tc : Thread nD τ).loc b) := A4 m c (Proc.devRef .tc b)

theorem A5_final_7 (c : Dev nD) : A5 m c (Proc.devRef .tc main_v18_0) = (Rank.dat (B4 m) c).arrAt 7 cfg2.N := by
  rw [A5_0, Rank.final_7]
  dsimp only [B4]
  rw [A4_V, A4_F]
  rfl
theorem A5_final_8 (c : Dev nD) : A5 m c (Proc.devRef .tc main_v18_1) = (Rank.dat (B4 m) c).arrAt 8 cfg2.N := by
  rw [A5_1, Rank.final_8]
  dsimp only [B4]
  rw [A4_V, A4_F]
  rfl
theorem A5_final_9 (c : Dev nD) : A5 m c (Proc.devRef .tc main_v18_2) = (Rank.dat (B4 m) c).arrAt 9 cfg2.N := by
  rw [A5_2, Rank.final_9]
  dsimp only [B4]
  rw [A4_Cx, A4_W, A4_Z, A4_V, A4_F]
  rfl
theorem A5_final_10 (c : Dev nD) : A5 m c (Proc.devRef .tc main_v18_3) = (Rank.dat (B4 m) c).arrAt 10 cfg2.N := by
  rw [A5_3, Rank.final_10]
  dsimp only [B4]
  rw [A4_Cy, A4_H, A4_Z, A4_V, A4_F]
  rfl
theorem A5_final_11 (c : Dev nD) : A5 m c (Proc.devRef .tc main_v18_4) = (Rank.dat (B4 m) c).arrAt 11 cfg2.N := by
  rw [A5_4, Rank.final_11]
  dsimp only [B4]
  rw [A4_Cx, A4_W, A4_Z, A4_V, A4_F]
  rfl
theorem A5_final_12 (c : Dev nD) : A5 m c (Proc.devRef .tc main_v18_5) = (Rank.dat (B4 m) c).arrAt 12 cfg2.N := by
  rw [A5_5, Rank.final_12]
  dsimp only [B4]
  rw [A4_Cy, A4_H, A4_Z, A4_V, A4_F]
  rfl

/-- The ranking, entered from the arrays as the host leaves them. -/
abbrev region1 : Pipeline.RegionSeg (pcfgs (F := F)) Maxima.adm (Rank.pdats (B4 m)) none defs₀ 𝒱₀ (K (F := F)).L (K (F := F)).lev 1 :=
  Rank.reg (B4 m) (fun c b => A5 m c (Proc.devRef .tc b)) (A5_final_7 m) (A5_final_8 m) (A5_final_9 m) (A5_final_10 m) (A5_final_11 m) (A5_final_12 m)
    (fun c b h0 h1 h2 h3 h4 h5 => A5_other m c b h0 h1 h2 h3 h4 h5)

theorem st_each (d : Dev nD) :
    (bigSep Finset.univ fun c : Fin ((K (F := F)).nCore 0) => (PM m).st 0 d c) = each (given d (mX m) (mB m) (mQ m) (mT m)) := rfl
theorem dn_each (d : Dev nD) :
    (bigSep Finset.univ fun c : Fin ((K (F := F)).nCore 0) => (PM m).dn 0 d c) = each (back d (mX m) (mB m) (mQ m) (mT m)) := rfl

/-- The arguments of the program, as they were. -/
abbrev kept (d : Dev nD) : sProp (MM F) :=
  iprop((gL d ↦{fullShare} m (gL d)) ∗ (gR d ↦{fullShare} m (gR d)) ∗ (gS d ↦{fullShare} m (gS d)) ∗ gK d ↦{fullShare} m (gK d))

/-- What the run ends with: the arguments as they were, the results at their values. -/
abbrev FIN (d : Dev nD) : sProp (MM F) :=
  iprop(kept m d ∗ (gLab d ↦{fullShare} rLab m d) ∗ (gBox d ↦{fullShare} rBox m d) ∗ gSco d ↦{fullShare} rSco m d)

theorem main_parts (d : Dev nD) : main (F := F) d
    = Prog.lift (.customCall (SparseCore.inner (Pipeline.entry 0)) ()) >>= fun _ => StableHlo.seq reshapes >>= fun _ => sc.run d 0
      >>= fun _ => StableHlo.seq mids >>= fun _ => Prog.lift (.customCall (SparseCore.inner (Pipeline.entry 1)) ())
      >>= fun _ => StableHlo.seq tail >>= fun _ => pure ⟨⟩ := by
  simp only [main, StableHlo.seq, bind_assoc, pure_bind]

/-- The row-maximum call, as a program of its own. -/
def call0 : Prog (TpuEff nD τ sig (Elt F) (ΛP (F := F)) .tc) PUnit := .op (.customCall (Pipeline.entry 0) ()) .ret

theorem call0_lift : (SparseCore.liftProg (call0 (F := F)) : Prog (TpuEff nD τ sig (Elt F) (SparseCore.Sig (ΛP (F := F)) 1) .tc) PUnit)
    = Prog.lift (.customCall (SparseCore.inner (Pipeline.entry 0)) ()) := rfl

theorem call0_wp [∀ e, Nonempty (Elt F e)] (d : Dev nD) (Q : PUnit → sProp (MM F)) :
    iprop((iprop(boundary (d.tc : Thread nD τ) ∗ (region m).post d) -∗ Q ⟨⟩)
        ∗ boundary (d.tc : Thread nD τ) ∗ (region m).pre d ∗ levAts (K (F := F)).L (K (F := F)).lev ∗ entry 0 d)
      ⊢ wp frame (wpE (D (F := F)) 𝒱 (d.tc : Thread nD τ) none) Set.univ (call0 (F := F)) Q := by
  have hreg := Pipeline.RegionSeg.wp (pcfgs (F := F)) Maxima.adm (Maxima.pdats fun c b => m ((c.tc : Thread nD τ).loc b)) none Maxima.cells_inj EP
    defs₀ 𝒱₀ (K (F := F)).L (K (F := F)).lev (region m) d none (fun u hu => nomatch hu) .ret Q
  unfold call0
  have hret : Q ⟨⟩ ⊢ wp frame (wpE (D (F := F)) 𝒱 (d.tc : Thread nD τ) none) Set.univ (.ret ⟨⟩) Q := by
    rw [wp_ret]
    iintro H
    imodintro
    iexact H
  have hk : iprop((iprop(boundary (d.tc : Thread nD τ) ∗ (region m).post d) -∗ Q ⟨⟩)
        ∗ boundary (d.tc : Thread nD τ) ∗ (region m).pre d ∗ levAts (K (F := F)).L (K (F := F)).lev ∗ entry 0 d)
      ⊢ (iprop((iprop(boundary (d.tc : Thread nD τ) ∗ (region m).post d) -∗ wp frame (wpE (D (F := F)) 𝒱 (d.tc : Thread nD τ) none) Set.univ (.ret ⟨⟩) Q)
        ∗ boundary (d.tc : Thread nD τ) ∗ (region m).pre d ∗ levAts (K (F := F)).L (K (F := F)).lev ∗ entry 0 d) : sProp (MM F)) := by
    iintro ⟨Hk, H⟩
    isplitl [Hk]
    · iintro H
      iapply hret
      iapply Hk
      iexact H
    iexact H
  exact hk.trans hreg

theorem region_wp [∀ e, Nonempty (Elt F e)] (d : Dev nD) (Q : PUnit → sProp (MM F)) :
    iprop((iprop(boundary (SparseCore.T d : Thread nD τ) ∗ unscopedBufs d (fun b => A1 m d (Proc.devRef .tc b)) ∗ Maxima.debts d) -∗ Q ⟨⟩)
        ∗ boundary (SparseCore.T d : Thread nD τ) ∗ (unscopedBufs d (fun b => m ((d.tc : Thread nD τ).loc b)) ∗ Maxima.debts d)
        ∗ levAts (K (F := F)).L (K (F := F)).lev ∗ entry 0 d)
      ⊢ wp frame (wpE ((K (F := F)).defs (D (F := F))) 𝒱 (SparseCore.T d) none) Set.univ
          (Prog.lift (.customCall (SparseCore.inner (Pipeline.entry 0)) ())) Q := by
  rw [← call0_lift]
  exact (call0_wp m d Q).trans ((K (F := F)).wp_liftProg (D (F := F)) 𝒱 (SparseCore.T d) Set.univ none (call0 (F := F)) Q)

/-- The ranking, as a program of its own. -/
def call1 : Prog (TpuEff nD τ sig (Elt F) (ΛP (F := F)) .tc) PUnit := .op (.customCall (Pipeline.entry 1) ()) .ret

theorem call1_lift : (SparseCore.liftProg (call1 (F := F)) : Prog (TpuEff nD τ sig (Elt F) (SparseCore.Sig (ΛP (F := F)) 1) .tc) PUnit)
    = Prog.lift (.customCall (SparseCore.inner (Pipeline.entry 1)) ()) := rfl

theorem call1_wp [∀ e, Nonempty (Elt F e)] (d : Dev nD) (Q : PUnit → sProp (MM F)) :
    iprop((iprop(boundary (d.tc : Thread nD τ) ∗ (region1 m).post d) -∗ Q ⟨⟩)
        ∗ boundary (d.tc : Thread nD τ) ∗ (region1 m).pre d ∗ levAts (K (F := F)).L (K (F := F)).lev ∗ entry 1 d)
      ⊢ wp frame (wpE (D (F := F)) 𝒱 (d.tc : Thread nD τ) none) Set.univ (call1 (F := F)) Q := by
  have hreg := Pipeline.RegionSeg.wp (pcfgs (F := F)) Maxima.adm (Rank.pdats (B4 m)) none Maxima.cells_inj EP
    defs₀ 𝒱₀ (K (F := F)).L (K (F := F)).lev (region1 m) d none (fun u hu => nomatch hu) .ret Q
  unfold call1
  have hret : Q ⟨⟩ ⊢ wp frame (wpE (D (F := F)) 𝒱 (d.tc : Thread nD τ) none) Set.univ (.ret ⟨⟩) Q := by
    rw [wp_ret]
    iintro H
    imodintro
    iexact H
  have hk : iprop((iprop(boundary (d.tc : Thread nD τ) ∗ (region1 m).post d) -∗ Q ⟨⟩)
        ∗ boundary (d.tc : Thread nD τ) ∗ (region1 m).pre d ∗ levAts (K (F := F)).L (K (F := F)).lev ∗ entry 1 d)
      ⊢ (iprop((iprop(boundary (d.tc : Thread nD τ) ∗ (region1 m).post d) -∗ wp frame (wpE (D (F := F)) 𝒱 (d.tc : Thread nD τ) none) Set.univ (.ret ⟨⟩) Q)
        ∗ boundary (d.tc : Thread nD τ) ∗ (region1 m).pre d ∗ levAts (K (F := F)).L (K (F := F)).lev ∗ entry 1 d) : sProp (MM F)) := by
    iintro ⟨Hk, H⟩
    isplitl [Hk]
    · iintro H
      iapply hret
      iapply Hk
      iexact H
    iexact H
  exact hk.trans hreg

theorem region1_wp [∀ e, Nonempty (Elt F e)] (d : Dev nD) (Q : PUnit → sProp (MM F)) :
    iprop((iprop(boundary (SparseCore.T d : Thread nD τ) ∗ unscopedBufs d (fun b => A5 m d (Proc.devRef .tc b)) ∗ Rank.debts d) -∗ Q ⟨⟩)
        ∗ boundary (SparseCore.T d : Thread nD τ) ∗ (unscopedBufs d (fun b => A4 m d (Proc.devRef .tc b)) ∗ Rank.debts d)
        ∗ levAts (K (F := F)).L (K (F := F)).lev ∗ entry 1 d)
      ⊢ wp frame (wpE ((K (F := F)).defs (D (F := F))) 𝒱 (SparseCore.T d) none) Set.univ
          (Prog.lift (.customCall (SparseCore.inner (Pipeline.entry 1)) ())) Q := by
  rw [← call1_lift]
  exact (call1_wp m d Q).trans ((K (F := F)).wp_liftProg (D (F := F)) 𝒱 (SparseCore.T d) Set.univ none (call1 (F := F)) Q)

theorem reshapes_ok : ∀ op ∈ reshapes (F := F), op.bufs ⊆ StableHlo.tcRefs τ sig ∧ op.fresh = ∅ := by
  intro op h
  simp only [reshapes, List.mem_cons, List.mem_nil_iff, or_false] at h
  rcases h with rfl | rfl | rfl | rfl <;> exact ⟨by simp, rfl⟩
theorem mids_ok : ∀ op ∈ mids (F := F), op.bufs ⊆ StableHlo.tcRefs τ sig ∧ op.fresh = ∅ := by
  intro op h
  simp only [mids, List.mem_cons, List.mem_nil_iff, or_false] at h
  rcases h with rfl | rfl | rfl | rfl | rfl | rfl | rfl | rfl | rfl | rfl | rfl | rfl <;> exact ⟨by simp, rfl⟩
theorem tail_ok : ∀ op ∈ tail (F := F), op.bufs ⊆ StableHlo.tcRefs τ sig ∧ op.fresh = ∅ := by
  intro op h
  simp only [tail, List.mem_cons, List.mem_nil_iff, or_false] at h
  rcases h with rfl | rfl | rfl | rfl | rfl <;> exact ⟨by simp, rfl⟩

set_option backward.isDefEq.respectTransparency.types false in
/-- A stretch of the host's operations. -/
theorem host_wp (ops : List (HloOp τ sig (Elt F))) (hops : ∀ op ∈ ops, op.bufs ⊆ StableHlo.tcRefs τ sig ∧ op.fresh = ∅) (W : Valuation τ sig (Elt F)) (d : Dev nD)
    (k : PUnit → Prog (TpuEff nD τ sig (Elt F) (SparseCore.Sig (ΛP (F := F)) 1) .tc) PUnit) (Q : PUnit → sProp (MM F)) :
    iprop(boundary (SparseCore.T d : Thread nD τ) ∗ unscopedBufs d (fun b => W (Proc.devRef .tc b))
        ∗ (iprop(boundary (SparseCore.T d : Thread nD τ) ∗ unscopedBufs d (fun b => StableHlo.after ops W (Proc.devRef .tc b)))
          -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (StableHlo.seq ops >>= k) Q := by
  have hseq := StableHlo.wp_seq (defs := (K (F := F)).defs (D (F := F))) 𝒱 none Set.univ d (Pipeline.ucRefs τ sig) k (K := Q) ops
    (fun op h => Pipeline.sub_ucRefs op (hops op h).1) (fun op h => (hops op h).2) W
  rw [show (unscopedBufs d (fun b => W (Proc.devRef .tc b)) : sProp (MM F)) = StableHlo.held (d.tc : Thread nD τ) (Pipeline.ucRefs τ sig) W from Pipeline.unscopedBufs_held d _,
    show (unscopedBufs d (fun b => StableHlo.after ops W (Proc.devRef .tc b)) : sProp (MM F)) = StableHlo.held (d.tc : Thread nD τ) (Pipeline.ucRefs τ sig) (StableHlo.after ops W) from Pipeline.unscopedBufs_held d _]
  iintro ⟨Hb, Hub, Hk⟩
  iapply hseq $$ [Hb Hub]
  · isplitl [Hb] <;> iassumption
  iexact Hk

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ entries d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ : ∃ R, (K (F := F)).tcSt EH d 0 = iprop(Maxima.debts d ∗ R) := ⟨_, rfl⟩
  obtain ⟨R1, hR1⟩ : ∃ R1, (K (F := F)).tcSt EH d 1 = iprop(Rank.debts d ∗ R1) := ⟨_, rfl⟩
  unfold SparseCore.Cfg.tcRes SparseCore.Cfg.tcEnd
  rw [main_parts, wp_bind]
  rw [hR]
  iintro ⟨#Hctx, ⟨HO, HR⟩, ⟨Hb, Hub, Hts, -⟩, HG, HG1⟩
  ihave #Hlev := ((K (F := F)).ctx_levAts (EH := EH) (P := PM m) κ) $$ Hctx
  iapply (region_wp m d)
  isplitr [Hb Hub HO HG]
  swap
  · isplitl [Hb]; · iexact Hb
    isplitl [Hub HO]
    · isplitl [Hub]; · iexact Hub
      iexact HO
    isplitr; · iexact Hlev
    iexact HG
  iintro ⟨Hb, Hub, HO⟩
  iapply (host_wp reshapes reshapes_ok (A1 m d) d)
  isplitl [Hb]; · iexact Hb
  isplitl [Hub]; · iexact Hub
  iintro ⟨Hb, Hub⟩
  ihave Hub := (Entails.of_eq (show (unscopedBufs d (fun b => StableHlo.after reshapes (A1 m d) (Proc.devRef .tc b)) : sProp (MM F)) = _ from ready m d)) $$ Hub
  icases Hub with ⟨HX, HB, HQ, HT, HV, HF, HOo, Hbs⟩
  rw [wp_bind]
  iapply ((K (F := F)).wp_run (D (F := F)) 𝒱 (EH := EH) (P := PM m) κ d 0) $$ [HO HR HX HB HQ HT HV HF HOo Hbs Hb Hts HG1]
  isplitr; · iexact Hctx
  isplitl [HO HR]
  · rw [show (K (F := F)).tcSt EH d (0 : Fin 1).val = iprop(Maxima.debts d ∗ R) from hR]
    isplitl [HO] <;> iassumption
  isplitl [HX HB HQ HT HV HF HOo]
  · rw [st_each]
    iapply (hand_out d (mX m) (mB m) (mQ m) (mT m) (A2 m d (Proc.devRef .tc main_v5_0)) (A2 m d (Proc.devRef .tc main_v5_1)) (A2 m d (Proc.devRef .tc main_v5_2)))
    isplitl [HX HB HQ HT]
    · isplitl [HX]; · iexact HX
      isplitl [HB]; · iexact HB
      isplitl [HQ]; · iexact HQ
      iexact HT
    isplitl [HV]; · iexact HV
    isplitl [HF]; · iexact HF
    iexact HOo
  iintro ⟨Hst, Hdn⟩
  ihave Hfin := (Entails.of_eq ((dn_each m d).trans (take_back d (mX m) (mB m) (mQ m) (mT m)))) $$ Hdn
  icases Hfin with ⟨⟨HX, HB, HQ, HT⟩, HV, HF, HOo⟩
  ihave Hst := (Entails.of_eq (show (K (F := F)).tcSt EH d ((0 : Fin 1).val + 1) = iprop(Rank.debts d ∗ R1) from hR1)) $$ Hst
  icases Hst with ⟨HO, HR⟩
  iapply (host_wp mids mids_ok (A3 m d) d)
  isplitl [Hb]; · iexact Hb
  isplitl [HX HB HQ HT HV HF HOo Hbs]
  · rw [selected]
    isplitl [HX]; · iexact HX
    isplitl [HB]; · iexact HB
    isplitl [HQ]; · iexact HQ
    isplitl [HT]; · iexact HT
    isplitl [HV]; · iexact HV
    isplitl [HF]; · iexact HF
    isplitl [HOo]; · iexact HOo
    iexact Hbs
  iintro ⟨Hb, Hub⟩
  rw [wp_bind]
  iapply (region1_wp m d)
  isplitr [Hb Hub HO HG1]
  swap
  · isplitl [Hb]; · iexact Hb
    isplitl [Hub HO]
    · isplitl [Hub]; · iexact Hub
      iexact HO
    isplitr; · iexact Hlev
    iexact HG1
  iintro ⟨Hb, Hub, HO⟩
  iapply (host_wp tail tail_ok (A5 m d) d)
  isplitl [Hb]; · iexact Hb
  isplitl [Hub]; · iexact Hub
  iintro ⟨Hb, Hub⟩
  ihave Hub := (Entails.of_eq (show (unscopedBufs d (fun b => StableHlo.after tail (A5 m d) (Proc.devRef .tc b)) : sProp (MM F)) = _ from done m d)) $$ Hub
  icases Hub with ⟨HL, HRr, HS, HK, Hla, Hbo, Hsc, -⟩
  rw [wp_pure]
  imodintro
  isplitl [HO HR]
  · rw [hR1]
    isplitl [HO] <;> iassumption
  isplitl [HL HRr HS HK Hla Hbo Hsc]
  · isplitl [HL HRr HS HK]
    · isplitl [HL]; · iexact HL
      isplitl [HRr]; · iexact HRr
      isplitl [HS]; · iexact HS
      iexact HK
    isplitl [Hla]; · iexact Hla
    isplitl [Hbo]; · iexact Hbo
    iexact Hsc
  isplitl [Hb]; · iexact Hb
  iexact Hts

/-- What a memory at the end holds: the arguments as they were, the results at their values. -/
def Ends (d : Dev nD) (M : (ℓ : Loc nD τ sig) → Buf (Elt F) ℓ) : Prop :=
  (M (gL d) = m (gL d) ∧ M (gR d) = m (gR d) ∧ M (gS d) = m (gS d) ∧ M (gK d) = m (gK d))
    ∧ M (gLab d) = rLab m d ∧ M (gBox d) = rBox m d ∧ M (gSco d) = rSco m d

/-- A whole buffer held is what the memory holds. -/
theorem agree {s' : Phys nD τ sig (Elt F)} {ℓ : Loc nD τ sig} {f : Buf (Elt F) ℓ} :
    iprop((ℓ ↦{fullShare} f) ∗ SI s') ⊢ (iprop(⌜s'.mem.mem ℓ = f⌝ ∗ SI s') : sProp (MM F)) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro
    exact funext fun i => h i (Finset.mem_univ i)
  · iexact HSI

theorem hfin (d : Dev nD) (s' : Phys nD τ sig (Elt F)) : iprop(FIN m d ∗ SI s') ⊢ (⌜Ends m d s'.mem.mem⌝ : sProp (MM F)) := by
  iintro ⟨⟨⟨H0, H1, H2, H3⟩, H4, H5, H6⟩, HSI⟩
  ihave H := agree $$ [H0 HSI]
  · isplitl [H0]; · iexact H0
    iexact HSI
  icases H with ⟨%h0, HSI⟩
  ihave H := agree $$ [H1 HSI]
  · isplitl [H1]; · iexact H1
    iexact HSI
  icases H with ⟨%h1, HSI⟩
  ihave H := agree $$ [H2 HSI]
  · isplitl [H2]; · iexact H2
    iexact HSI
  icases H with ⟨%h2, HSI⟩
  ihave H := agree $$ [H3 HSI]
  · isplitl [H3]; · iexact H3
    iexact HSI
  icases H with ⟨%h3, HSI⟩
  ihave H := agree $$ [H4 HSI]
  · isplitl [H4]; · iexact H4
    iexact HSI
  icases H with ⟨%h4, HSI⟩
  ihave H := agree $$ [H5 HSI]
  · isplitl [H5]; · iexact H5
    iexact HSI
  icases H with ⟨%h5, HSI⟩
  ihave H := agree $$ [H6 HSI]
  · isplitl [H6]; · iexact H6
    iexact HSI
  icases H with ⟨%h6, HSI⟩
  ipureintro
  exact ⟨⟨h0, h1, h2, h3⟩, h4, h5, h6⟩

/-- The run's end, for every device. -/
def QC : PUnit × MemSt nD τ sig (Elt F) → Prop := fun r => (∀ d : Dev nD, Ends m d r.2.mem) ∧ r.2.sem = fun _ => 0

/-- Every run of the program ends, with the arguments kept, the results at their values and the semaphores at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (mX m) (mB m) (mQ m) (mT m))
    (fun q _ => match q with | 0 => SparseCore.Cfg.VecSplit.of_plain (vecSplit (mX m) (mB m) (mQ m) (mT m)))
    m ρ main (fun d => entries d) (FIN m) (u₀ (F := F)) (sep_elim_left.trans (hu₀ (mX m) (mB m) (mQ m) (mT m))) (hmain m ρ) (fun d s' => Ends m d s'.mem.mem) (hfin m) (QC m)
    (fun _ h hz => ⟨h, hz⟩)

/-- The kernel as idealized, at the extended reals: its frame. -/
theorem frame_ideal [Cert.Pre_fits.Facts] : Cert.quiescent_KernelIdeal := fun m ρ _ =>
  (θ_run Cert.KernelIdeal.defs _ _).mono (fun _ h => ⟨fun c => (h.1 c).1, h.2⟩) (run_main (F := Ideal) m ρ)
theorem frame_ideal_free : Cert.quiescent_KernelIdeal_pre_none := fun m ρ _ =>
  (θ_run Cert.KernelIdeal.defs _ _).mono (fun _ h => ⟨fun c => (h.1 c).1, h.2⟩) (run_main (F := Ideal) m ρ)

end Cert.Proof.Select

end
-- ==== Proof.Same.lean ====
/-
  The program on floats is the same text as the one on the extended reals, so it has the same run.
-/
module

public import proofs.«01_k».proof.Proof.Main
public import proofs.«01_k».proof.Proof.Gen.Kernel

@[expose] public section

noncomputable section

namespace Cert.Proof.Select

open Cert.KernelIdeal Cert.KernelIdeal.Gen Cert.Proof.Compact Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

/-! ## The program on floats is the same text -/

theorem same_part1 : @Cert.Kernel.k2_part1 F _ _ = @Cert.KernelIdeal.k2_part1 F _ _ := rfl
theorem same_part2 : @Cert.Kernel.k2_part2 F _ _ = @Cert.KernelIdeal.k2_part2 F _ _ := rfl
theorem same_part3 : @Cert.Kernel.k2_part3 F _ _ = @Cert.KernelIdeal.k2_part3 F _ _ := rfl
theorem same_part4 : @Cert.Kernel.k2_part4 F _ _ = @Cert.KernelIdeal.k2_part4 F _ _ := rfl
theorem same_part5 : @Cert.Kernel.k2_part5 F _ _ = @Cert.KernelIdeal.k2_part5 F _ _ := rfl
theorem same_part6 : @Cert.Kernel.k2_part6 F _ _ = @Cert.KernelIdeal.k2_part6 F _ _ := rfl
theorem same_part7 : @Cert.Kernel.k2_part7 F _ _ = @Cert.KernelIdeal.k2_part7 F _ _ := rfl
set_option maxHeartbeats 4000000 in
theorem same_rank : @Cert.Kernel.cc2__rank_body F _ _ = @Cert.KernelIdeal.cc2__rank_body F _ _ := by
  rfl

set_option maxHeartbeats 4000000 in
theorem same_bodies : Cert.Kernel.defs₀ (F := F) = Cert.KernelIdeal.defs₀ (F := F) := by
  funext p l a
  match p, l, a with
  | .tc, (0 : Fin 3), (t, s) => rfl
  | .tc, (1 : Fin 3), _ => rfl
  | .tc, (2 : Fin 3), (t, s) =>
    change Cert.Kernel.cc2__rank_body (F := F) _ _ _ _ _ _ _ _ _ _ _ _ _ _ _ _ _ _ _ _ _ _ _ _ _ _ = _
    rw [same_rank]
    rfl
  | .scScalar _, (0 : Fin 3), _ => rfl
  | .scScalar _, (1 : Fin 3), _ => rfl
  | .scScalar _, (2 : Fin 3), _ => rfl
  | .scVector c s, (0 : Fin 3), _ => rfl
  | .scVector c s, (1 : Fin 3), _ => rfl
  | .scVector c s, (2 : Fin 3), _ => rfl

theorem same_defs : Cert.Kernel.defs (F := F) = Cert.KernelIdeal.defs (F := F) :=
  congrArg (fun D => (Cert.KernelIdeal.sc (F := F)).defs (Pipeline.defs Cert.KernelIdeal.pcfgs D)) same_bodies

/-- The kernel on floats: its frame. -/
theorem frame_kernel [Cert.Pre_fits.Facts] : Cert.quiescent_Kernel := fun m ρ _ => by
  have h := run_main (F := Bits) m ρ
  rw [← same_defs] at h
  exact (θ_run Cert.Kernel.defs _ _).mono (fun _ h => ⟨fun c => (h.1 c).1, h.2⟩) h
/-- The kernel on floats: its frame. -/
theorem frame_kernel_free : Cert.quiescent_Kernel_pre_none := fun m ρ _ => by
  have h := run_main (F := Bits) m ρ
  rw [← same_defs] at h
  exact (θ_run Cert.Kernel.defs _ _).mono (fun _ h => ⟨fun c => (h.1 c).1, h.2⟩) h

end Cert.Proof.Select

end
-- ==== Proof.Order.lean ====
/-
  Sorting by a key, greatest first, equal keys in the order they came: the position of an item is the number of items
  that stand before it. A short list that holds every item whose key reaches a bound, beside items below the bound,
  ranks those items as the whole does.
-/
module

public import Idealize.ShloMosaic.Lib.SortFacts
public import Mathlib.Order.Interval.Finset.Fin

@[expose] public section

noncomputable section

namespace Cert.Proof.Order

open Idealize.ShloMosaic

variable {K : Type} [LinearOrder K] {n : ℕ} (key : Fin n → K)

/-- `a` stands before `b`: its key is greater, or the keys are equal and it came first. -/
def Before (a b : Fin n) : Prop := key b < key a ∨ (key a = key b ∧ a < b)

/-- The key of `a` is greater. -/
def above (a b : Fin n) : Bool := decide (key b < key a)

theorem Before.trans {a b c : Fin n} (h : Before key a b) (h' : Before key b c) : Before key a c := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem Before.irrefl (a : Fin n) : ¬ Before key a a := by
  rintro (h | ⟨_, h⟩) <;> exact lt_irrefl _ h

theorem insert_sorted (a : Fin n) (l : List (Fin n)) (hl : l.Pairwise (Before key)) (ha : ∀ b ∈ l, a < b) :
    (insertBefore (above key) a l).Pairwise (Before key) := by
  induction l with
  | nil => exact List.pairwise_singleton _ _
  | cons b l ih =>
    rw [List.pairwise_cons] at hl
    unfold insertBefore
    by_cases h : key a < key b
    · rw [if_pos (by simpa [above] using h), List.pairwise_cons]
      refine ⟨fun x hx => ?_, ih hl.2 fun c hc => ha c (List.mem_cons_of_mem _ hc)⟩
      rcases List.mem_cons.mp ((perm_insertBefore (above key) a l).mem_iff.mp hx) with rfl | hx
      · exact .inl h
      · exact hl.1 x hx
    · rw [if_neg (by simpa [above] using h), List.pairwise_cons]
      have hab : Before key a b := by
        rcases (not_lt.mp h).lt_or_eq with h | h
        · exact .inl h
        · exact .inr ⟨h.symm, ha b List.mem_cons_self⟩
      refine ⟨fun x hx => ?_, List.pairwise_cons.mpr hl⟩
      rcases List.mem_cons.mp hx with rfl | hx
      · exact hab
      · exact hab.trans key (hl.1 x hx)

theorem stable_sorted (l : List (Fin n)) (hl : l.Pairwise (· < ·)) : (stableSort (above key) l).Pairwise (Before key) := by
  induction l with
  | nil => exact List.Pairwise.nil
  | cons a l ih =>
    rw [List.pairwise_cons] at hl
    unfold stableSort
    exact insert_sorted key a _ (ih hl.2) fun b hb => hl.1 b ((perm_stableSort _ l).mem_iff.mp hb)

/-- The item at each place of the sorted list. -/
def at' (k : Fin n) : Fin n := sortedFrom (above key) k

theorem at_before {i j : Fin n} (h : i < j) : Before key (at' key i) (at' key j) := by
  have hp : ∀ a b : Fin (sortPositions n (above key)).length, a < b →
      Before key ((sortPositions n (above key)).get a) ((sortPositions n (above key)).get b) :=
    List.pairwise_iff_get.mp (stable_sorted key (List.finRange n) (List.pairwise_lt_finRange n))
  exact hp _ _ h

open Classical in
/-- As many items stand before the item at a place as there are places before it. -/
theorem place (k : Fin n) : (Finset.univ.filter fun e => Before key e (at' key k)).card = k.val := by
  have e : (Finset.univ.filter fun e => Before key e (at' key k)) = (Finset.Iio k).image (at' key) := by
    ext x
    simp only [Finset.mem_filter, Finset.mem_univ, true_and, Finset.mem_image, Finset.mem_Iio]
    obtain ⟨i, rfl⟩ := sortedFrom_surjective (above key) x
    constructor
    · intro h
      refine ⟨i, ?_, rfl⟩
      rcases lt_trichotomy i k with h' | h' | h'
      · exact h'
      · subst h'; exact absurd h (Before.irrefl key _)
      · exact absurd (h.trans key (at_before key h')) (Before.irrefl key _)
    · rintro ⟨j, hj, hji⟩
      rw [← sortedFrom_injective _ hji]
      exact at_before key hj
  rw [e, Finset.card_image_of_injective _ (show Function.Injective (at' key) from sortedFrom_injective _), Fin.card_Iio]

section Slots

variable {m : ℕ} (val : Fin m → K) (fl : Fin m → ℕ)

/-- Slot `j` beats slot `s`. -/
def Beats (j s : Fin m) : Prop := val s < val j ∨ (val j = val s ∧ fl j < fl s)

open Classical in
/-- How many slots beat slot `s`. -/
def rank (s : Fin m) : ℕ := (Finset.univ.filter fun j => Beats val fl j s).card

variable (live : Fin m → Prop) (t : K)
  (hlive : ∀ s, live s → ∃ h : fl s < n, val s = key ⟨fl s, h⟩ ∧ t ≤ val s)
  (hinj : ∀ s s', live s → live s' → fl s = fl s' → s = s')
  (hsurj : ∀ e : Fin n, t ≤ key e → ∃ s, live s ∧ fl s = e.val)
  (hdead : ∀ s, ¬ live s → val s < t)
  {c : ℕ}

include hlive hinj hsurj hdead in
open Classical in
theorem rank_live (s : Fin m) (hs : live s) (e : Fin n) (he : fl s = e.val) :
    rank val fl s = (Finset.univ.filter fun e' => Before key e' e).card := by
  obtain ⟨h, hv, ht⟩ := hlive s hs
  have hse : val s = key e := hv.trans (congrArg key (Fin.ext he))
  have hl : ∀ j, Beats val fl j s → live j := by
    intro j hj
    by_contra hd
    have := hdead j hd
    rcases hj with hj | ⟨hj, _⟩
    · exact absurd (this.trans_le ht) (not_lt.mpr hj.le)
    · exact absurd (this.trans_le ht) (not_lt.mpr hj.ge)
  unfold rank
  refine Finset.card_bij (fun j hj => ⟨fl j, (hlive j (hl j (Finset.mem_filter.mp hj).2)).1⟩) ?_ ?_ ?_
  · intro j hj
    have hb := (Finset.mem_filter.mp hj).2
    obtain ⟨h1, h2, _⟩ := hlive j (hl j hb)
    refine Finset.mem_filter.mpr ⟨Finset.mem_univ _, ?_⟩
    rcases hb with hb | ⟨hb, hb'⟩
    · exact .inl (hse ▸ h2 ▸ hb)
    · exact .inr ⟨h2 ▸ hse ▸ hb, by show fl j < e.val; omega⟩
  · intro j hj j' hj' hjj
    exact hinj j j' (hl j (Finset.mem_filter.mp hj).2) (hl j' (Finset.mem_filter.mp hj').2) (congrArg Fin.val hjj)
  · intro e' he'
    have hb := (Finset.mem_filter.mp he').2
    have hte : t ≤ key e' := by
      rcases hb with hb | ⟨hb, _⟩
      · exact (hse ▸ ht).trans hb.le
      · exact (hse ▸ ht).trans hb.ge
    obtain ⟨j, hj, hje⟩ := hsurj e' hte
    obtain ⟨h1, h2, _⟩ := hlive j hj
    have hjv : val j = key e' := h2.trans (congrArg key (Fin.ext hje))
    refine ⟨j, Finset.mem_filter.mpr ⟨Finset.mem_univ _, ?_⟩, Fin.ext hje⟩
    rcases hb with hb | ⟨hb, hb'⟩
    · exact .inl (by rw [hse, hjv]; exact hb)
    · exact .inr ⟨by rw [hse, hjv]; exact hb, by rw [he, hje]; exact hb'⟩

include hsurj hdead in
open Classical in
theorem rank_dead (hc : c ≤ (Finset.univ.filter fun e : Fin n => t ≤ key e).card) (hlive : ∀ s, live s → t ≤ val s) (s : Fin m) (hs : ¬ live s) : c ≤ rank val fl s := by
  refine hc.trans ?_
  have hsub : (Finset.univ.filter fun e : Fin n => t ≤ key e).image Fin.val ⊆ (Finset.univ.filter fun j => Beats val fl j s).image fl := by
    intro x hx
    obtain ⟨e, he, rfl⟩ := Finset.mem_image.mp hx
    obtain ⟨j, hj, hje⟩ := hsurj e (Finset.mem_filter.mp he).2
    exact Finset.mem_image.mpr ⟨j, Finset.mem_filter.mpr ⟨Finset.mem_univ _, .inl ((hdead s hs).trans_le (hlive j hj))⟩, hje⟩
  calc _ = ((Finset.univ.filter fun e : Fin n => t ≤ key e).image Fin.val).card := (Finset.card_image_of_injective _ Fin.val_injective).symm
    _ ≤ _ := Finset.card_le_card hsub
    _ ≤ _ := Finset.card_image_le

include hlive hinj hsurj hdead in
open Classical in
/-- The one slot of each rank below `c` holds the item that the sort puts at that place. -/
theorem pick (hc : c ≤ (Finset.univ.filter fun e : Fin n => t ≤ key e).card) (k : Fin n) (hk : k.val < c) :
    ∃ s, live s ∧ fl s = (at' key k).val ∧ val s = key (at' key k) ∧ ∀ s', rank val fl s' = k.val ↔ s' = s := by
  have hhit : t ≤ key (at' key k) := by
    by_contra hlt
    have h := place key k
    have : (Finset.univ.filter fun e : Fin n => t ≤ key e).card ≤ k.val := by
      rw [← h]
      refine Finset.card_le_card fun e he => ?_
      exact Finset.mem_filter.mpr ⟨Finset.mem_univ _, .inl ((not_le.mp hlt).trans_le (Finset.mem_filter.mp he).2)⟩
    omega
  obtain ⟨s, hs, hse⟩ := hsurj _ hhit
  obtain ⟨h1, h2, _⟩ := hlive s hs
  refine ⟨s, hs, hse, h2.trans (congrArg key (Fin.ext hse)), fun s' => ⟨fun hr => ?_, ?_⟩⟩
  · by_cases hs' : live s'
    · obtain ⟨h1', h2', ht'⟩ := hlive s' hs'
      obtain ⟨i, hi⟩ := sortedFrom_surjective (above key) (⟨fl s', h1'⟩ : Fin n)
      have hp := place key i
      rw [show at' key i = ⟨fl s', h1'⟩ from hi, ← rank_live key val fl live t hlive hinj hsurj hdead s' hs' _ rfl, hr] at hp
      have : i = k := Fin.ext hp.symm
      subst this
      refine hinj s' s hs' hs ?_
      rw [hse]
      exact congrArg Fin.val hi.symm
    · have := rank_dead key val fl live t hsurj hdead hc (fun s h => (hlive s h).2.2) s' hs'
      omega
  · rintro rfl
    rw [rank_live key val fl live t hlive hinj hsurj hdead s' hs _ hse]
    exact place key k

end Slots

end Cert.Proof.Order

end
-- ==== Proof.RefOps.lean ====
/-
  The reference's array operations read at one element: words that hold naturals, the row of a table that an index
  names, and the count of a column's set bits.
-/
module

public import proofs.«01_k».proof.Proof.Compact
public import Idealize.ShloMosaic.Lib.Routing.Ops
public import Idealize.ShloMosaic.Lib.Routing.OpsOne
public import Idealize.ShloMosaic.Lib.Routing.Words
public import Idealize.ShloMosaic.Lib.ValueLayout

@[expose] public section

noncomputable section

namespace Cert.Proof.RefOps

open Idealize.ShloMosaic Idealize.ShloMosaic.ValueIdx Idealize.ShloMosaic.Routing Idealize.ShloMosaic.WordCmp Cert.Proof.Compact

/-! ## Words -/

theorem bit_of_iff {b : BitVec 1} {p : Prop} [Decidable p] (h : b = 1#1 ↔ p) : b = BitVec.ofBool (decide p) := by
  by_cases hp : p
  · rw [h.2 hp]; simp [hp]
  · have : b ≠ 1#1 := fun e => hp (h.1 e)
    rcases BitVec.eq_zero_or_eq_one b with rfl | rfl
    · simp [hp]
    · exact absurd rfl this

theorem widen_of_iff {b : BitVec 1} {p : Prop} [Decidable p] (h : b = 1#1 ↔ p) : b.setWidth 32 = BitVec.ofNat 32 (if p then 1 else 0) := by
  rw [bit_of_iff h, setWidth_ofBool]

theorem select_of_iff {α : Type} {b : BitVec 1} {p : Prop} [Decidable p] (h : b = 1#1 ↔ p) (x y : α) :
    Scalar.select b x y = if p then x else y := by
  rw [bit_of_iff h, select_decide]

/-- A one-bit conjunction. -/
theorem and_one_iff (a b : BitVec 1) : IntOp.andi a b = 1#1 ↔ a = 1#1 ∧ b = 1#1 := by
  revert a b; decide

theorem mul_word (a b : ℕ) : (BitVec.ofNat 32 a * BitVec.ofNat 32 b : BitVec 32) = BitVec.ofNat 32 (a * b) := by
  apply BitVec.eq_of_toNat_eq
  simp [BitVec.toNat_mul, BitVec.toNat_ofNat, Nat.mul_mod]

theorem add_word (a b : ℕ) : (BitVec.ofNat 32 a + BitVec.ofNat 32 b : BitVec 32) = BitVec.ofNat 32 (a + b) := (BitVec.ofNat_add ..).symm

theorem slt_word {a b : ℕ} (ha : a < 2 ^ 31) (hb : b < 2 ^ 31) : IntOp.cmpi .slt (BitVec.ofNat 32 a) (BitVec.ofNat 32 b) = 1#1 ↔ a < b := by
  have h : IntOp.cmpi .slt (BitVec.ofNat 32 a) (BitVec.ofNat 32 b) = BitVec.ofBool ((BitVec.ofNat 32 a).slt (BitVec.ofNat 32 b)) := rfl
  rw [h]; exact StableHlo.Predicate.slt_ofNat_iff a b ha hb

theorem sle_word {a b : ℕ} (ha : a < 2 ^ 31) (hb : b < 2 ^ 31) : IntOp.cmpi .sle (BitVec.ofNat 32 a) (BitVec.ofNat 32 b) = 1#1 ↔ a ≤ b := by
  have h : IntOp.cmpi .sle (BitVec.ofNat 32 a) (BitVec.ofNat 32 b) = BitVec.ofBool ((BitVec.ofNat 32 a).sle (BitVec.ofNat 32 b)) := rfl
  rw [h]; exact StableHlo.Predicate.sle_ofNat_iff a b ha hb

/-- The remainder by 91 of a small word that is not negative. -/
theorem srem_91 (u : ArithUnit) {n : ℕ} (hn : n < 2 ^ 31) : IntOp.remsi u (BitVec.ofNat 32 n) 91#32 = BitVec.ofNat 32 (n % 91) := by
  have hc : ¬ IntOp.SDivCorner (BitVec.ofNat 32 n) 91#32 := by
    unfold IntOp.SDivCorner
    rintro (h | ⟨_, h⟩)
    · exact absurd h (by decide)
    · exact absurd h (by decide)
  unfold IntOp.remsi
  rw [if_neg hc]
  have h1 : (BitVec.ofNat 32 n).msb = false := by
    rw [BitVec.msb_eq_false_iff_two_mul_lt, BitVec.toNat_ofNat]; omega
  have h2 : (91#32).msb = false := by decide
  rw [BitVec.srem_eq, h1, h2]
  apply BitVec.eq_of_toNat_eq
  show ((BitVec.ofNat 32 n).umod 91#32).toNat = _
  rw [BitVec.umod_eq, BitVec.toNat_umod, BitVec.toNat_ofNat, BitVec.toNat_ofNat, BitVec.toNat_ofNat,
    Nat.mod_eq_of_lt (by omega : n < 2 ^ 32), Nat.mod_eq_of_lt (by omega : n % 91 < 2 ^ 32)]

/-- The quotient by 91 of a small word that is not negative. -/
theorem div_91 (u : ArithUnit) {n : ℕ} (hn : n < 2 ^ 31) : IntOp.divsi u (BitVec.ofNat 32 n) 91#32 = BitVec.ofNat 32 (n / 91) := by
  have hc : ¬ IntOp.SDivCorner (BitVec.ofNat 32 n) 91#32 := by
    unfold IntOp.SDivCorner
    rintro (h | ⟨_, h⟩)
    · exact absurd h (by decide)
    · exact absurd h (by decide)
  unfold IntOp.divsi
  rw [if_neg hc]
  have h1 : (BitVec.ofNat 32 n).msb = false := by
    rw [BitVec.msb_eq_false_iff_two_mul_lt, BitVec.toNat_ofNat]; omega
  have h2 : (91#32).msb = false := by decide
  rw [BitVec.sdiv_eq, h1, h2]
  apply BitVec.eq_of_toNat_eq
  show ((BitVec.ofNat 32 n).udiv 91#32).toNat = _
  rw [BitVec.udiv_eq, BitVec.toNat_udiv, BitVec.toNat_ofNat, BitVec.toNat_ofNat, BitVec.toNat_ofNat,
    Nat.mod_eq_of_lt (by omega : n < 2 ^ 32), Nat.mod_eq_of_lt (by omega : n / 91 < 2 ^ 32)]

/-! ## Reads at an index -/

/-- The entry of a row that an index names. -/
theorem take_row_at {α : Type} {nb B n : ℕ} (d : GatherDims (shape2 nb B) (shape2 n 1) (shape2 n B)) (hoff : d.offsetDims = [1])
    (hcoll : d.collapsedSliceDims = [0]) (hob : d.operandBatchingDims = []) (hsim : d.startIndexMap = [0]) (hivd : d.indexVectorDim = 1)
    (h₁ : (shape1 n).BroadcastsInDim (shape2 n 1) (![0] : Fin 1 → Fin (shape2 n 1).rank))
    (x : (shape2 nb B).Idx → α) (idx : IVec (shape1 n) 32) (c : Fin n) (y : Fin B) (b : Fin nb) (hb : idx (ix1 c) = BitVec.ofNat 32 b.val) (hnb : nb < 2 ^ 31) :
    Host.gather d x (broadcastInDim (shape2 n 1) ![0] h₁ idx) (ix2 c y) = x (ix2 b y) :=
  gather_row d hoff hcoll hob hsim hivd x _ c y b (by rw [bcCol, hb]) hnb

/-! ## Counts -/

/-- The sum down a column of a widened mask counts its set bits. -/
theorem sum_down {n m : ℕ} (hn : n < 2 ^ 32) (msk : IVec (shape2 n m) 1) (hw : 1 < 32) (h : (shape2 n m).ReducesTo [0] (shape1 m))
    (hu : 0 < shape0.numel) (j : Fin m) (P : ℕ → Prop) [DecidablePred P] (hP : ∀ e : Fin n, msk (ix2 e j) = 1#1 ↔ P e.val) :
    Host.reduce IntOp.addi (extui 32 msk hw) (constantI shape0 32 0#32) h hu (ix1 j) = BitVec.ofNat 32 ((Finset.range n).filter P).card := by
  have hc : ((Finset.range n).filter P).card ≤ n := (Finset.card_filter_le _ _).trans (Finset.card_range n).le
  apply BitVec.eq_of_toNat_eq
  rw [StableHlo.Predicate.toNat_reduce_count_rows hn msk hw h hu (ix1 j), BitVec.toNat_ofNat, Nat.mod_eq_of_lt (by omega),
    ← Nat.count_eq_card_filter_range, ← card_filter_fin n P]
  refine congrArg Finset.card (Finset.filter_congr fun e _ => ?_)
  show msk (StableHlo.Predicate.ij e j) = 1#1 ↔ P e.val
  rw [ij_eq_ix2]
  exact hP e

end Cert.Proof.RefOps

end
-- ==== Proof.RankVal.lean ====
/-
  The ranking body's values at the extended reals: a candidate's rank counts the candidates that beat it, and a sum over
  the candidates of one rank is the value of that candidate.
-/
module

public import proofs.«01_k».proof.Proof.Rank
public import proofs.«01_k».proof.Proof.Order
public import proofs.«01_k».proof.Proof.RefOps
public import Idealize.ShloMosaic.Lib.WordSum
public import Idealize.ShloMosaic.Lib.ValueLayout
public import Idealize.ShloMosaic.Lib.Pipeline.Value
public import Idealize.ShloMosaic.PureOps.Ideal.Laws

@[expose] public section

set_option maxRecDepth 16384

noncomputable section

namespace Cert.Proof.RankVal

open Idealize.ShloMosaic Idealize.ShloMosaic.ValueIdx Cert.KernelIdeal Cert.KernelIdeal.Gen Cert.Proof.Rank Cert.Proof.RefOps
open Cert.Proof.Order (Beats)

/-! ## Reads through the layouts -/

section
variable {α : Type}

theorem along {n : ℕ} (x : S16x512.Idx → α) (h₁ : S16x512.ShapeCasts S16x1x512) (h₂ : S16x1x512.Broadcasts ⟨3, ![16, n, 512]⟩)
    (b : Fin 16) (a : Fin n) (j : Fin 512) :
    broadcastTo (⟨3, ![16, n, 512]⟩ : Shape) (shapeCast S16x1x512 x h₁) h₂ (ix3 b a j) = x (ix2 b j) := by
  refine (broadcastTo_apply _ h₂ _ (ix3 b (0 : Fin 1) j) fun c => ?_).trans (shapeCast_apply _ h₁ _ (ix2 b j) ?_)
  · match c with
    | ⟨0, _⟩ => rfl
    | ⟨1, _⟩ => rfl
    | ⟨2, _⟩ => rfl
  · rw [Shape.rowMajor_val_three, Shape.rowMajor_val_two]
    show b.val * 512 + j.val = (b.val * 1 + 0) * 512 + j.val
    omega

theorem across (o : ℕ) (ho : o + 128 ≤ 512) (x : S16x512.Idx → α) (h₀ : S16x512.Slices ![0, o] S16x128) (h₁ : S16x128.ShapeCasts S16x128x1)
    (h₂ : S16x128x1.Broadcasts S16x128x512) (b : Fin 16) (a : Fin 128) (j : Fin 512) :
    broadcastTo S16x128x512 (shapeCast S16x128x1 (extractStridedSlice S16x128 ![0, o] x h₀) h₁) h₂ (ix3 b a j) = x (ix2 b ⟨o + a.val, by omega⟩) := by
  refine (broadcastTo_apply _ h₂ _ (ix3 b a (0 : Fin 1)) fun c => ?_).trans ((shapeCast_apply _ h₁ _ (ix2 b a) ?_).trans
    (extractStridedSlice_apply _ _ h₀ _ _ fun c => ?_))
  · match c with
    | ⟨0, _⟩ => rfl
    | ⟨1, _⟩ => rfl
    | ⟨2, _⟩ => rfl
  · rw [Shape.rowMajor_val_three, Shape.rowMajor_val_two]
    show b.val * 128 + a.val = (b.val * 128 + a.val) * 1 + 0
    omega
  · match c with
    | ⟨0, _⟩ => exact (Nat.zero_add _).symm
    | ⟨1, _⟩ => rfl

end

/-! ## The ranks -/

theorem ofBool_one (p : Prop) [Decidable p] : BitVec.ofBool (decide p) = 1#1 ↔ p := by
  by_cases h : p <;> simp [h]

theorem ogt_iff (x y : EReal) : FloatOps.cmpf (F := Ideal) (φ := .f32) .ogt x y = 1#1 ↔ y < x := by
  exact ofBool_one (y < x)

theorem oeq_iff (x y : EReal) : FloatOps.cmpf (F := Ideal) (φ := .f32) .oeq x y = 1#1 ↔ x = y := by
  exact ofBool_one (x = y)

theorem or_one_iff (a b : BitVec 1) : IntOp.ori a b = 1#1 ↔ a = 1#1 ∨ b = 1#1 := by
  revert a b; decide

/-- Which candidates beat which of the 128 from column `o`. -/
def bits (o : ℕ) (v : FVec Ideal S16x512 .f32) (f : IVec S16x512 32) (h₀ : S16x512.Slices ![0, o] S16x128) : IVec S16x128x512 1 :=
  ori
    (cmpf .ogt (broadcastTo S16x128x512 (shapeCast S16x1x512 v shapeCasts_S16x512_S16x1x512) broadcasts_S16x1x512_S16x128x512)
      (broadcastTo S16x128x512 (shapeCast S16x128x1 (extractStridedSlice S16x128 ![0, o] v h₀) shapeCasts_S16x128_S16x128x1) broadcasts_S16x128x1_S16x128x512))
    (andi
      (cmpf .oeq (broadcastTo S16x128x512 (shapeCast S16x1x512 v shapeCasts_S16x512_S16x1x512) broadcasts_S16x1x512_S16x128x512)
        (broadcastTo S16x128x512 (shapeCast S16x128x1 (extractStridedSlice S16x128 ![0, o] v h₀) shapeCasts_S16x128_S16x128x1) broadcasts_S16x128x1_S16x128x512))
      (cmpi .slt (broadcastTo S16x128x512 (shapeCast S16x1x512 f shapeCasts_S16x512_S16x1x512) broadcasts_S16x1x512_S16x128x512)
        (broadcastTo S16x128x512 (shapeCast S16x128x1 (extractStridedSlice S16x128 ![0, o] f h₀) shapeCasts_S16x128_S16x128x1) broadcasts_S16x128x1_S16x128x512)))

/-- The ranks of 128 candidates, from column `o`. -/
def chunk (o : ℕ) (v : FVec Ideal S16x512 .f32) (f : IVec S16x512 32) (h₀ : S16x512.Slices ![0, o] S16x128) : IVec S16x128 32 :=
  multiReductionI .add [2] S16x128 (extui 32 (bits o v f h₀) natLt_1_32) 0#32 reduces_S16x128x512_S16x128 rfl

variable (v : FVec Ideal S16x512 .f32) (f : IVec S16x512 32) (fl : Fin 16 → Fin 512 → ℕ)
  (hf : ∀ b j, f (ix2 b j) = BitVec.ofNat 32 (fl b j)) (hlt : ∀ b j, fl b j < 2 ^ 31)

/-- The rank, as a number. -/
def place (b : Fin 16) (s : Fin 512) : ℕ := Order.rank (fun j => v (ix2 b j)) (fl b) s

theorem place_le (b : Fin 16) (s : Fin 512) : place v fl b s ≤ 512 := by
  unfold place Order.rank
  exact (Finset.card_le_univ _).trans (Fintype.card_fin 512).le

include hf hlt in
theorem bits_at (o : ℕ) (ho : o + 128 ≤ 512) (h₀ : S16x512.Slices ![0, o] S16x128) (b : Fin 16) (a : Fin 128) (j : Fin 512) :
    bits o v f h₀ (ix3 b a j) = 1#1 ↔ Beats (fun j => v (ix2 b j)) (fl b) j ⟨o + a.val, by omega⟩ := by
  show IntOp.ori (FloatOps.cmpf .ogt _ _) (IntOp.andi (FloatOps.cmpf .oeq _ _) (IntOp.cmpi .slt _ _)) = 1#1 ↔ _
  rw [or_one_iff, and_one_iff, ogt_iff, oeq_iff, along, across o ho, along, across o ho, hf, hf, slt_word (hlt _ _) (hlt _ _)]
  rfl

theorem lift_at (b : Fin 16) (a : Fin 128) (j : Fin 512) : reduces_S16x128x512_S16x128.lift (ix2 b a) j = ix3 b a j := by
  funext c
  match c with
  | ⟨0, _⟩ => rfl
  | ⟨1, _⟩ => rfl
  | ⟨2, _⟩ => rfl

include hf hlt in
open Classical in
theorem chunk_at (o : ℕ) (ho : o + 128 ≤ 512) (h₀ : S16x512.Slices ![0, o] S16x128) (b : Fin 16) (a : Fin 128) :
    chunk o v f h₀ (ix2 b a) = BitVec.ofNat 32 (place v fl b ⟨o + a.val, by omega⟩) := by
  have hp := place_le v fl b ⟨o + a.val, by omega⟩
  have hs : ∑ i ∈ Finset.univ.filter (fun i => reduces_S16x128x512_S16x128.drop i = ix2 b a), (extui 32 (bits o v f h₀) natLt_1_32 i).toNat
      = place v fl b ⟨o + a.val, by omega⟩ := by
    refine (Shape.Reduces.sum_filter_drop_single reduces_S16x128x512_S16x128 (fun i => (extui 32 (bits o v f h₀) natLt_1_32 i).toNat) (ix2 b a)).trans ?_
    unfold place Order.rank
    rw [Finset.card_filter]
    refine Finset.sum_congr rfl fun (j : Fin 512) _ => ?_
    refine (congrArg (fun i => (extui 32 (bits o v f h₀) natLt_1_32 i).toNat) (lift_at b a j)).trans ?_
    refine (congrArg BitVec.toNat (widen_of_iff (bits_at v f fl hf hlt o ho h₀ b a j))).trans ?_
    split <;> rfl
  apply BitVec.eq_of_toNat_eq
  unfold chunk
  refine ((WordSum.toNat_multiReductionI_add _ _ _ _ (by rw [hs]; omega)).trans hs).trans ?_
  rw [BitVec.toNat_ofNat, Nat.mod_eq_of_lt (by omega)]

include hf hlt in
theorem rank_at (x : Vec Ideal S16x512 .f32) (g : Vec Ideal S16x512 .i32) (hx : k2_pay3 x = v) (hg : k2_pay4 (F := Ideal) g = f) (b : Fin 16) (s : Fin 512) :
    rank (F := Ideal) x g (ix2 b s) = BitVec.ofNat 32 (place v fl b s) := by
  have e : rank (F := Ideal) x g = concatenate S16x512 1 [⟨S16x128, chunk 0 v f slices_S16x512_o0_0_S16x128⟩, ⟨S16x128, chunk 128 v f slices_S16x512_o0_128_S16x128⟩,
      ⟨S16x128, chunk 256 v f slices_S16x512_o0_256_S16x128⟩, ⟨S16x128, chunk 384 v f slices_S16x512_o0_384_S16x128⟩]
      concatenates_S16x128_S16x128_S16x128_S16x128_S16x512_d1 := by
    subst hx hg
    rfl
  rw [e]
  have hsl := s.isLt
  have key : ∀ (o k : ℕ) (ho : o + 128 ≤ 512) (h₀ : S16x512.Slices ![0, o] S16x128) (h1 : o ≤ s.val) (h2 : s.val < o + 128),
      chunk o v f h₀ (ix2 b ⟨s.val - o, by omega⟩) = BitVec.ofNat 32 (place v fl b s) := by
    intro o k ho h₀ h1 h2
    rw [chunk_at v f fl hf hlt o ho]
    congr 2
    exact Fin.ext (show o + (s.val - o) = s.val by omega)
  by_cases h1 : s.val < 128
  · refine (concatenate_apply_piece (1 : Fin S16x512.rank) _ _ _ 0 (by simp) S16x128 _ rfl rfl 0 rfl (ix2 b ⟨s.val - 0, by omega⟩) ?_ ?_).trans
      (key 0 0 (by norm_num) _ (by omega) (by omega))
    · intro c hc
      match c with
      | ⟨0, _⟩ => rfl
      | ⟨1, _⟩ => exact absurd rfl hc
    · show 0 + (s.val - 0) = s.val; omega
  by_cases h2 : s.val < 256
  · refine (concatenate_apply_piece (1 : Fin S16x512.rank) _ _ _ 1 (by simp) S16x128 _ rfl rfl 128 rfl (ix2 b ⟨s.val - 128, by omega⟩) ?_ ?_).trans
      (key 128 0 (by norm_num) _ (by omega) (by omega))
    · intro c hc
      match c with
      | ⟨0, _⟩ => rfl
      | ⟨1, _⟩ => exact absurd rfl hc
    · show 128 + (s.val - 128) = s.val; omega
  by_cases h3 : s.val < 384
  · refine (concatenate_apply_piece (1 : Fin S16x512.rank) _ _ _ 2 (by simp) S16x128 _ rfl rfl 256 rfl (ix2 b ⟨s.val - 256, by omega⟩) ?_ ?_).trans
      (key 256 0 (by norm_num) _ (by omega) (by omega))
    · intro c hc
      match c with
      | ⟨0, _⟩ => rfl
      | ⟨1, _⟩ => exact absurd rfl hc
    · show 256 + (s.val - 256) = s.val; omega
  · refine (concatenate_apply_piece (1 : Fin S16x512.rank) _ _ _ 3 (by simp) S16x128 _ rfl rfl 384 rfl (ix2 b ⟨s.val - 384, by omega⟩) ?_ ?_).trans
      (key 384 0 (by norm_num) _ (by omega) (by omega))
    · intro c hc
      match c with
      | ⟨0, _⟩ => rfl
      | ⟨1, _⟩ => exact absurd rfl hc
    · show 384 + (s.val - 384) = s.val; omega

/-! ## The candidates of a rank -/

theorem cast_self {α : Type} {s : Shape} (x : s.Idx → α) (h : s.ShapeCasts s) : shapeCast s x h = x :=
  funext fun j => shapeCast_apply x h j j rfl

/-- The candidates whose rank is the column's number, plus `w`. -/
def mask (w : BitVec 32) (r : IVec S16x512 32) : IVec S16x100x512 1 :=
  cmpi .eq (broadcastTo S16x100x512 (shapeCast S16x1x512 r shapeCasts_S16x512_S16x1x512) broadcasts_S16x1x512_S16x100x512)
    (addi (iota .tc S16x100x512 32 [1] iota_S16x100x512_d1_w32) (broadcast S16x100x512 w))

theorem eq_word {a b : ℕ} (ha : a < 2 ^ 32) (hb : b < 2 ^ 32) : IntOp.cmpi .eq (BitVec.ofNat 32 a) (BitVec.ofNat 32 b) = 1#1 ↔ a = b := by
  show BitVec.ofBool (BitVec.ofNat 32 a == BitVec.ofNat 32 b) = 1#1 ↔ _
  constructor
  · intro h
    have h' : (BitVec.ofNat 32 a == BitVec.ofNat 32 b) = true := by
      cases hh : (BitVec.ofNat 32 a == BitVec.ofNat 32 b) with
      | true => rfl
      | false => rw [hh] at h; exact absurd h (by decide)
    have := congrArg BitVec.toNat (beq_iff_eq.1 h')
    rw [BitVec.toNat_ofNat, BitVec.toNat_ofNat, Nat.mod_eq_of_lt ha, Nat.mod_eq_of_lt hb] at this
    exact this
  · rintro rfl
    rw [beq_self_eq_true]; rfl

theorem mask_at (o : ℕ) (ho : o ≤ 200) (r : IVec S16x512 32) (p : Fin 16 → Fin 512 → ℕ) (hr : ∀ b s, r (ix2 b s) = BitVec.ofNat 32 (p b s)) (hp : ∀ b s, p b s ≤ 512)
    (b : Fin 16) (k : Fin 100) (j : Fin 512) : mask (BitVec.ofNat 32 o) r (ix3 b k j) = 1#1 ↔ p b j = o + k.val := by
  have h := hp b j
  show IntOp.cmpi .eq (broadcastTo S16x100x512 (shapeCast S16x1x512 r _) _ (ix3 b k j)) (BitVec.ofNat 32 (0 * 100 + k.val) + BitVec.ofNat 32 o) = 1#1 ↔ _
  rw [along, hr, add_word, eq_word (by omega) (by omega)]
  omega

theorem zero_bits : Scalar.ofBits (F := Ideal) .f32 0x00000000#32 = (0 : EReal) := by
  show Ideal.ofBits .f32 0#32 = 0
  simp [Ideal.ofBits, Ideal.ieee]

/-- The remainder by 91 with the sign of 91, as the body spells it. -/
def modulo (w : BitVec 32) : BitVec 32 :=
  Scalar.select (IntOp.andi (IntOp.xori (IntOp.cmpi .slt (IntOp.remsi .vector w (Scalar.select (Scalar.cmpi .eq 91#32 0#32) 1#32 91#32)) 0#32)
      (Scalar.cmpi .slt (Scalar.select (Scalar.cmpi .eq 91#32 0#32) 1#32 91#32) 0#32))
      (IntOp.cmpi .ne (IntOp.remsi .vector w (Scalar.select (Scalar.cmpi .eq 91#32 0#32) 1#32 91#32)) 0#32))
    (IntOp.addi (IntOp.remsi .vector w (Scalar.select (Scalar.cmpi .eq 91#32 0#32) 1#32 91#32)) (Scalar.select (Scalar.cmpi .eq 91#32 0#32) 1#32 91#32))
    (IntOp.remsi .vector w (Scalar.select (Scalar.cmpi .eq 91#32 0#32) 1#32 91#32))

theorem modulo_word {n : ℕ} (hn : n < 2 ^ 31) : modulo (BitVec.ofNat 32 n) = BitVec.ofNat 32 (n % 91) := by
  have hc : Scalar.select (Scalar.cmpi .eq 91#32 0#32) 1#32 91#32 = (91#32 : BitVec 32) := by decide
  unfold modulo
  rw [hc, srem_91 _ hn, select_of_iff (p := False), if_neg not_false]
  have hl : IntOp.cmpi .slt (BitVec.ofNat 32 (n % 91)) 0#32 = 0#1 := by
    have h := slt_word (a := n % 91) (b := 0) (by omega) (by norm_num)
    rcases BitVec.eq_zero_or_eq_one (IntOp.cmpi .slt (BitVec.ofNat 32 (n % 91)) 0#32) with e | e
    · exact e
    · exact absurd (h.1 e) (Nat.not_lt_zero _)
  have hz : IntOp.andi (IntOp.xori 0#1 (Scalar.cmpi .slt (91#32 : BitVec 32) 0#32)) (IntOp.cmpi .ne (BitVec.ofNat 32 (n % 91)) 0#32) = 0#1 := by
    generalize IntOp.cmpi .ne (BitVec.ofNat 32 (n % 91)) 0#32 = w
    revert w; decide
  rw [hl, hz]
  decide

theorem lift_eq (b : Fin 16) (k : Fin 100) (j : Fin 512) : reduces_S16x100x512_S16x100.lift (ix2 b k) j = ix3 b k j := by
  funext c
  match c with
  | ⟨0, _⟩ => rfl
  | ⟨1, _⟩ => rfl
  | ⟨2, _⟩ => rfl

section
variable (m : IVec S16x100x512 1) (b : Fin 16) (k : Fin 100) (s : Fin 512) (hm : ∀ j, m (ix3 b k j) = 1#1 ↔ j = s)
include hm

theorem emit (p : Vec Ideal S16x512 .f32) : k2_pay2 (F := Ideal) p m (ix2 b k) = p (ix2 b s) := by
  unfold k2_pay2
  refine (Ideal.multiReduction_add_single (φ := .f32) _ _ _ _ _ _).trans ?_
  rw [cast_self]
  have e : ∀ j : Fin 512, select m (broadcastTo S16x100x512 (shapeCast S16x1x512 p shapeCasts_S16x512_S16x1x512) broadcasts_S16x1x512_S16x100x512)
      (broadcast S16x100x512 (Scalar.ofBits (F := Ideal) .f32 0x00000000#32)) (reduces_S16x100x512_S16x100.lift (ix2 b k) j) = if j = s then p (ix2 b j) else 0 := by
    intro j
    rw [lift_eq]
    show Scalar.select (m (ix3 b k j)) _ (Scalar.ofBits (F := Ideal) .f32 0x00000000#32) = _
    rw [select_of_iff (hm j), along, zero_bits]
  exact (Finset.sum_congr rfl fun (j : Fin 512) _ => e j).trans
    ((Finset.sum_ite_eq' (Finset.univ : Finset (Fin 512)) s fun j => p (ix2 b j)).trans (if_pos (Finset.mem_univ _)))

theorem emit_word (p : IVec S16x512 32) : multiReductionI .add [2] S16x100
    (select m (broadcastTo S16x100x512 (shapeCast S16x1x512 p shapeCasts_S16x512_S16x1x512) broadcasts_S16x1x512_S16x100x512) (broadcast S16x100x512 0#32))
    0#32 reduces_S16x100x512_S16x100 rfl (ix2 b k) = p (ix2 b s) := by
  refine (congrFun (multiReductionI_eq_reduceFold .add _ _ _ _) _).trans ?_
  refine (reduceFold_add_eq_sum _ (0#32 : BitVec 32) _ _).trans ?_
  refine (congrArg (0#32 + ·) (Shape.Reduces.sum_filter_drop_single reduces_S16x100x512_S16x100 _ (ix2 b k))).trans ?_
  have e : ∀ j : Fin 512, select m (broadcastTo S16x100x512 (shapeCast S16x1x512 p shapeCasts_S16x512_S16x1x512) broadcasts_S16x1x512_S16x100x512)
      (broadcast S16x100x512 0#32) (reduces_S16x100x512_S16x100.lift (ix2 b k) j) = if j = s then p (ix2 b j) else 0#32 := by
    intro j
    rw [lift_eq]
    show Scalar.select (m (ix3 b k j)) _ _ = _
    rw [select_of_iff (hm j), along]
    rfl
  refine (congrArg (0#32 + ·) ((Finset.sum_congr rfl fun (j : Fin 512) _ => e j).trans
    ((Finset.sum_ite_eq' (Finset.univ : Finset (Fin 512)) s fun j => p (ix2 b j)).trans (if_pos (Finset.mem_univ _))))).trans ?_
  exact BitVec.zero_add _

theorem emit_label (p : IVec S16x512 32) {n : ℕ} (hn : n < 2 ^ 31) (hp : p (ix2 b s) = BitVec.ofNat 32 n) :
    k2_pay46 p m (ix2 b k) = BitVec.ofNat 32 (n % 91) := by
  have e : k2_pay46 p m (ix2 b k) = modulo (multiReductionI .add [2] S16x100
      (select m (broadcastTo S16x100x512 (shapeCast S16x1x512 (shapeCast S16x1x512 p shapeCasts_S16x512_S16x1x512) shapeCasts_S16x1x512_S16x1x512)
        broadcasts_S16x1x512_S16x100x512) (broadcast S16x100x512 0#32)) 0#32 reduces_S16x100x512_S16x100 rfl (ix2 b k)) := rfl
  rw [e, cast_self, emit_word m b k s hm, hp, modulo_word hn]

end

/-! ## The three results -/

section
variable (x : Vec Ideal S16x512 .f32) (g : Vec Ideal S16x512 .i32) (hx : k2_pay3 x = v) (hg : k2_pay4 (F := Ideal) g = f)
  (b : Fin 16) (k : Fin 300) (s : Fin 512) (hs : ∀ j, place v fl b j = k.val ↔ j = s)

include hf hlt hx hg hs in
theorem mask_of (o : ℕ) (ho : o ≤ 200) (c : Fin 100) (hk : k.val = o + c.val) (j : Fin 512) :
    mask (BitVec.ofNat 32 o) (Rank.rank (F := Ideal) x g) (ix3 b c j) = 1#1 ↔ j = s := by
  rw [mask_at o ho _ (place v fl) (rank_at v f fl hf hlt x g hx hg) (place_le v fl), ← hk, hs]

/-- A column of three blocks of a hundred columns. -/
theorem side_at {e : EltTy} (A B C : Vec Ideal S16x100 e) (w : Elt Ideal e)
    (hA : ∀ c : Fin 100, k.val = 0 + c.val → A (ix2 b c) = w) (hB : ∀ c : Fin 100, k.val = 100 + c.val → B (ix2 b c) = w)
    (hC : ∀ c : Fin 100, k.val = 200 + c.val → C (ix2 b c) = w) : side (F := Ideal) A B C (ix2 b k) = w := by
  have hk := k.isLt
  unfold side
  by_cases h1 : k.val < 100
  · refine (dif_pos h1).trans (Eq.trans (congrArg A ?_) (hA ⟨k.val, h1⟩ (by show k.val = 0 + k.val; omega)))
    funext a
    match a with
    | ⟨0, _⟩ => rfl
    | ⟨1, _⟩ => rfl
  by_cases h2 : k.val < 200
  · refine (dif_neg h1).trans ((dif_pos h2).trans (Eq.trans (congrArg B ?_) (hB ⟨k.val - 100, by omega⟩ (by show k.val = 100 + (k.val - 100); omega))))
    funext a
    match a with
    | ⟨0, _⟩ => rfl
    | ⟨1, _⟩ => rfl
  · refine (dif_neg h1).trans ((dif_neg h2).trans (Eq.trans (congrArg C ?_) (hC ⟨k.val - 200, by omega⟩ (by show k.val = 200 + (k.val - 200); omega))))
    funext a
    match a with
    | ⟨0, _⟩ => rfl
    | ⟨1, _⟩ => rfl

include hf hlt hx hg hs in
theorem plane_at (p : Vec Ideal S16x512 .f32) : plane (F := Ideal) p x g (ix2 b k) = p (ix2 b s) :=
  side_at b k _ _ _ _ (fun c hc => emit _ b c s (mask_of v f fl hf hlt x g hx hg b k s hs 0 (by norm_num) c hc) p)
    (fun c hc => emit _ b c s (mask_of v f fl hf hlt x g hx hg b k s hs 100 (by norm_num) c hc) p)
    (fun c hc => emit _ b c s (mask_of v f fl hf hlt x g hx hg b k s hs 200 (by norm_num) c hc) p)

include hf hlt hx hg hs in
theorem scores_at : scores (F := Ideal) x g (ix2 b k) = v (ix2 b s) := by
  unfold scores
  rw [plane_at v f fl hf hlt x g hx hg b k s hs, hx]

include hf hlt hx hg hs in
theorem labels_at : labels (F := Ideal) x g (ix2 b k) = BitVec.ofNat 32 (fl b s % 91) := by
  have e : k2_pay4 (F := Ideal) g (ix2 b s) = BitVec.ofNat 32 (fl b s) := by rw [hg, hf]
  exact side_at b k _ _ _ _ (fun c hc => emit_label _ b c s (mask_of v f fl hf hlt x g hx hg b k s hs 0 (by norm_num) c hc) _ (hlt b s) e)
    (fun c hc => emit_label _ b c s (mask_of v f fl hf hlt x g hx hg b k s hs 100 (by norm_num) c hc) _ (hlt b s) e)
    (fun c hc => emit_label _ b c s (mask_of v f fl hf hlt x g hx hg b k s hs 200 (by norm_num) c hc) _ (hlt b s) e)

end

end Cert.Proof.RankVal

end
-- ==== Proof.RefVal.lean ====
/-
  The reference's values at the extended reals: the sigmoid is strictly increasing, and its three hundred greatest entries
  of each image, greatest first, name a label and a box.
-/
module

public import proofs.«01_k».proof.Proof.Order
public import proofs.«01_k».proof.Proof.RefOps
public import proofs.«01_k».proof.Proof.Gen.ReferenceIdeal.Run
public import Idealize.ShloMosaic.Lib.IdealHost
public import Idealize.ShloMosaic.Lib.ValueLayout
public import Idealize.ShloMosaic.Lib.Pipeline.Value
public import Idealize.ShloMosaic.PureOps.Ideal.Laws

@[expose] public section

set_option maxRecDepth 16384

noncomputable section

namespace Cert.Proof.RefVal

open Idealize.ShloMosaic Idealize.ShloMosaic.ValueIdx Idealize.ShloMosaic.Routing Cert.ReferenceIdeal Cert.ReferenceIdeal.Gen Cert.Proof.RefOps

/-! ## The sigmoid -/

theorem logistic_strict : StrictMono Ideal.logistic := by
  intro x y h
  induction x using EReal.rec with
  | bot =>
    induction y using EReal.rec with
    | bot => exact absurd h (lt_irrefl _)
    | coe y =>
      rw [Ideal.logistic_bot, Ideal.logistic_coe]
      exact_mod_cast (by positivity : (0 : ℝ) < (1 + Real.exp (-y))⁻¹)
    | top => rw [Ideal.logistic_bot, Ideal.logistic_top]; exact zero_lt_one
  | coe x =>
    induction y using EReal.rec with
    | bot => exact absurd h (not_lt_bot)
    | coe y =>
      rw [Ideal.logistic_coe, Ideal.logistic_coe]
      have h' : x < y := by exact_mod_cast h
      have : (1 + Real.exp (-x))⁻¹ < (1 + Real.exp (-y))⁻¹ := by
        apply inv_strictAnti₀ (by positivity)
        have := Real.exp_lt_exp.2 (neg_lt_neg h')
        linarith
      exact_mod_cast this
    | top =>
      rw [Ideal.logistic_coe, Ideal.logistic_top]
      have : (1 + Real.exp (-x))⁻¹ < 1 := by
        apply inv_lt_one_of_one_lt₀
        have := Real.exp_pos (-x)
        linarith
      exact_mod_cast this
  | top => exact absurd h (not_top_lt)

/-- The reference's spelling of the sigmoid. -/
def prob (L : FVec Ideal S16x20000x91 .f32) : FVec Ideal S16x20000x91 .f32 :=
  Host.divf (broadcastInDim S16x20000x91 ![] bcast_S_S16x20000x91 (constant S_ .f32 0x3F800000#32))
    (addf (broadcastInDim S16x20000x91 ![] bcast_S_S16x20000x91 (constant S_ .f32 0x3F800000#32)) (Host.exp (Host.negf L)))

theorem one_bits : Scalar.ofBits (F := Ideal) .f32 0x3F800000#32 = (1 : EReal) := Ideal.ofBits_one_f32

theorem prob_at (L : FVec Ideal S16x20000x91 .f32) (i : S16x20000x91.Idx) : prob L i = Ideal.logistic (L i) := by
  show Ideal.div (Scalar.ofBits (F := Ideal) .f32 0x3F800000#32) (Scalar.ofBits (F := Ideal) .f32 0x3F800000#32 + Ideal.exp (-(L i))) = _
  rw [one_bits]; rfl

/-! ## The greatest entries -/

theorem gt_above {n : ℕ} (key : Fin n → EReal) (a b : Fin n) : (FloatOps.cmpfTotal (F := Ideal) (φ := .f32) .gt (key a) (key b) == 1#1) = Order.above key a b := by
  show (BitVec.ofBool (decide (key b < key a)) == 1#1) = decide (key b < key a)
  cases decide (key b < key a) <;> rfl

theorem topK_at {n N c : ℕ} (hc : c ≤ N) (x : FVec Ideal (shape2 n N) .f32) (h : (shape2 n N).Slices (fun _ => 0) (shape2 n c)) (b : Fin n) (k : Fin c) :
    (Host.topK (shape2 n c) 1 (FloatOps.cmpfTotal .gt) x h).1 (ix2 b k) = x (ix2 b (Order.at' (fun e => x (ix2 b e)) ⟨k.val, by omega⟩))
    ∧ (Host.topK (shape2 n c) 1 (FloatOps.cmpfTotal .gt) x h).2 (ix2 b k) = BitVec.ofNat 32 (Order.at' (fun e => x (ix2 b e)) ⟨k.val, by omega⟩).val := by
  have hal : ∀ (y : (shape2 n N).Idx) (hy : (y 0).val = b.val) (e : Fin N), y.along (1 : Fin 2) e = ix2 b e := by
    intro y hy e
    funext a
    match a with
    | ⟨0, _⟩ => exact (Function.update_of_ne (Fin.ne_of_val_ne (show (0 : ℕ) ≠ 1 by decide)) _ _).trans (Fin.ext hy)
    | ⟨1, _⟩ => exact Function.update_self _ _ _
  have hπ : ∀ (y : (shape2 n N).Idx) (hy : (y 0).val = b.val),
      (sortedFrom (fun k k' : Fin N => FloatOps.cmpfTotal (F := Ideal) (φ := .f32) .gt (x (y.along (1 : Fin 2) k)) (x (y.along (1 : Fin 2) k')) == 1#1) : Fin N → Fin N)
        = Order.at' (fun e => x (ix2 b e)) := by
    intro y hy
    unfold Order.at'
    refine congrArg sortedFrom (funext fun k => funext fun k' => ?_)
    rw [hal y hy, hal y hy]
    exact gt_above (fun e => x (ix2 b e)) k k'
  unfold Host.topK Host.sort2
  simp only [show (1 : ℕ) < (shape2 n N).rank from Nat.lt_add_one 1, dite_true]
  constructor
  · refine (extractStridedSlice_apply _ _ h _ (ix2 b ⟨k.val, by omega⟩) fun a => ?_).trans ?_
    · match a with
      | ⟨0, _⟩ => exact (Nat.zero_add _).symm
      | ⟨1, _⟩ => exact (Nat.zero_add _).symm
    · exact (congrArg x (hal (ix2 b ⟨k.val, by omega⟩) rfl _)).trans (congrArg (fun e => x (ix2 b e)) (congrFun (hπ (ix2 b ⟨k.val, by omega⟩) rfl) _))
  · refine (extractStridedSlice_apply _ _ h _ (ix2 b ⟨k.val, by omega⟩) fun a => ?_).trans ?_
    · match a with
      | ⟨0, _⟩ => exact (Nat.zero_add _).symm
      | ⟨1, _⟩ => exact (Nat.zero_add _).symm
    · refine (congrArg (fun y : (shape2 n N).Idx => BitVec.ofNat 32 (y 1).val) (hal (ix2 b ⟨k.val, by omega⟩) rfl _)).trans
        (congrArg (fun e : Fin N => BitVec.ofNat 32 e.val) (congrFun (hπ (ix2 b ⟨k.val, by omega⟩) rfl) _))

/-- The sigmoid of entry `e` of image `b`. -/
def key (L : FVec Ideal S16x20000x91 .f32) (b : Fin 16) (e : Fin 1820000) : EReal :=
  Ideal.logistic (L (ix3 b (⟨e.val / 91, by omega⟩ : Fin 20000) (⟨e.val % 91, Nat.mod_lt _ (by norm_num)⟩ : Fin 91)))

/-- The entry of image `b` in place `k`. -/
def best (L : FVec Ideal S16x20000x91 .f32) (b : Fin 16) (k : Fin 300) : Fin 1820000 := Order.at' (key L b) ⟨k.val, by omega⟩

def found (L : FVec Ideal S16x20000x91 .f32) : FVec Ideal S16x300 .f32 × IVec S16x300 32 :=
  Host.topK S16x300 1 (FloatOps.cmpfTotal .gt) (shapeCast S16x1820000 (prob L) shapeCasts_S16x20000x91_S16x1820000) sliceFits_S16x1820000_S16x300

theorem flat_at (L : FVec Ideal S16x20000x91 .f32) (b : Fin 16) (e : Fin 1820000) :
    shapeCast S16x1820000 (prob L) shapeCasts_S16x20000x91_S16x1820000 (ix2 b e) = key L b e := by
  refine (shapeCast_apply _ _ _ (ix3 b (⟨e.val / 91, by omega⟩ : Fin 20000) (⟨e.val % 91, Nat.mod_lt _ (by norm_num)⟩ : Fin 91)) ?_).trans (prob_at L _)
  rw [Shape.rowMajor_val_three, Shape.rowMajor_val_two]
  show (b.val * 20000 + e.val / 91) * 91 + e.val % 91 = b.val * 1820000 + e.val
  omega

theorem found_at (L : FVec Ideal S16x20000x91 .f32) (b : Fin 16) (k : Fin 300) :
    (found L).1 (ix2 b k) = key L b (best L b k) ∧ (found L).2 (ix2 b k) = BitVec.ofNat 32 (best L b k).val := by
  have h := topK_at (n := 16) (N := 1820000) (c := 300) (by norm_num) (shapeCast S16x1820000 (prob L) shapeCasts_S16x20000x91_S16x1820000) sliceFits_S16x1820000_S16x300 b k
  have e : (fun e => shapeCast S16x1820000 (prob L) shapeCasts_S16x20000x91_S16x1820000 (ix2 b e)) = key L b := funext fun e => flat_at L b e
  refine ⟨h.1.trans ?_, h.2.trans ?_⟩
  · rw [e]; exact flat_at L b _
  · rw [e]; rfl

/-! ## The boxes -/

section
variable {α : Type}

/-- Four columns side by side. -/
theorem four_cols {n : ℕ} (x : Fin 4 → (shape2 n 1).Idx → α) (h : Shape.Concatenates [shape2 n 1, shape2 n 1, shape2 n 1, shape2 n 1] (shape2 n 4) 1)
    (i : Fin n) (c : Fin 4) :
    concatenate (shape2 n 4) 1 [⟨shape2 n 1, x 0⟩, ⟨shape2 n 1, x 1⟩, ⟨shape2 n 1, x 2⟩, ⟨shape2 n 1, x 3⟩] h (ix2 i c) = x c (ix2 i (0 : Fin 1)) := by
  match c with
  | ⟨0, _⟩ =>
    refine concatenate_apply_piece (t := shape2 n 4) (1 : Fin 2) _ _ _ 0 ?_ (shape2 n 1) (x 0) ?_ rfl 0 ?_ (ix2 i (0 : Fin 1)) (fun a ha => ?_) ?_
    · simp
    · rfl
    · rfl
    · match a with
      | ⟨0, _⟩ => rfl
      | ⟨1, _⟩ => exact absurd rfl ha
    · rfl
  | ⟨1, _⟩ =>
    refine concatenate_apply_piece (t := shape2 n 4) (1 : Fin 2) _ _ _ 1 ?_ (shape2 n 1) (x 1) ?_ rfl 1 ?_ (ix2 i (0 : Fin 1)) (fun a ha => ?_) ?_
    · simp
    · rfl
    · rfl
    · match a with
      | ⟨0, _⟩ => rfl
      | ⟨1, _⟩ => exact absurd rfl ha
    · rfl
  | ⟨2, _⟩ =>
    refine concatenate_apply_piece (t := shape2 n 4) (1 : Fin 2) _ _ _ 2 ?_ (shape2 n 1) (x 2) ?_ rfl 2 ?_ (ix2 i (0 : Fin 1)) (fun a ha => ?_) ?_
    · simp
    · rfl
    · rfl
    · match a with
      | ⟨0, _⟩ => rfl
      | ⟨1, _⟩ => exact absurd rfl ha
    · rfl
  | ⟨3, _⟩ =>
    refine concatenate_apply_piece (t := shape2 n 4) (1 : Fin 2) _ _ _ 3 ?_ (shape2 n 1) (x 3) ?_ rfl 3 ?_ (ix2 i (0 : Fin 1)) (fun a ha => ?_) ?_
    · simp
    · rfl
    · rfl
    · match a with
      | ⟨0, _⟩ => rfl
      | ⟨1, _⟩ => exact absurd rfl ha
    · rfl

theorem column_at (c : ℕ) (hc : c < 4) (B : S16x20000x4.Idx → α) (h₀ : S16x20000x4.Slices ![0, 0, c] S16x20000x1) (b : Fin 16) (q : Fin 20000) :
    shapeCast S320000 (shapeCast S16x20000 (extractStridedSlice S16x20000x1 ![0, 0, c] B h₀) shapeCasts_S16x20000x1_S16x20000) shapeCasts_S16x20000_S320000
      (ix1 ⟨20000 * b.val + q.val, by omega⟩) = B (ix3 b q ⟨c, hc⟩) := by
  refine (shapeCast_apply _ _ _ (ix2 b q) ?_).trans ((shapeCast_apply _ _ _ (ix3 b q (0 : Fin 1)) ?_).trans (extractStridedSlice_apply _ _ h₀ _ _ fun a => ?_))
  · rw [Shape.rowMajor_val_two, Shape.rowMajor_val_one]
    show b.val * 20000 + q.val = 20000 * b.val + q.val
    omega
  · rw [Shape.rowMajor_val_three, Shape.rowMajor_val_two]
    show (b.val * 20000 + q.val) * 1 + 0 = b.val * 20000 + q.val
    omega
  · match a with
    | ⟨0, _⟩ => exact (Nat.zero_add _).symm
    | ⟨1, _⟩ => exact (Nat.zero_add _).symm
    | ⟨2, _⟩ => rfl

theorem size_at (c : ℕ) (hc : c < 2) (Z : S16x2.Idx → α) (h₀ : S16x2.Slices ![0, c] S16x1) (b : Fin 16) :
    broadcastInDim S16x1 ![0] bcast_S16_S16x1_0 (shapeCast S16 (extractStridedSlice S16x1 ![0, c] Z h₀) shapeCasts_S16x1_S16) (ix2 b (0 : Fin 1)) = Z (ix2 b ⟨c, hc⟩) := by
  refine (broadcastInDim_apply _ bcast_S16_S16x1_0 _ _ (ix1 b) fun a => ?_).trans ((shapeCast_apply _ _ _ (ix2 b (0 : Fin 1)) ?_).trans
    (extractStridedSlice_apply _ _ h₀ _ _ fun a => ?_))
  · match a with
    | ⟨0, _⟩ => rfl
  · rw [Shape.rowMajor_val_two, Shape.rowMajor_val_one]
    show b.val * 1 + 0 = b.val
    omega
  · match a with
    | ⟨0, _⟩ => exact (Nat.zero_add _).symm
    | ⟨1, _⟩ => rfl

end

/-- The half that multiplies widths and heights. -/
def half : EReal := Scalar.ofBits (F := Ideal) .f32 0x3F000000#32

/-- One corner's coordinate of every query, before the scale: `f` of the centre's column and the extent's. -/
def corner (f : FVec Ideal S320000 .f32 → FVec Ideal S320000 .f32 → FVec Ideal S320000 .f32) (x w : FVec Ideal S16x20000x1 .f32) : FVec Ideal S320000x1 .f32 :=
  broadcastInDim S320000x1 ![0] bcast_S320000_S320000x1_0 (f
    (shapeCast S320000 (shapeCast S16x20000 x shapeCasts_S16x20000x1_S16x20000) shapeCasts_S16x20000_S320000)
    (mulf (broadcastInDim S320000 ![] bcast_S_S320000 (constant S_ .f32 0x3F000000#32))
      (shapeCast S320000 (shapeCast S16x20000 w shapeCasts_S16x20000x1_S16x20000) shapeCasts_S16x20000_S320000)))

variable (L : FVec Ideal S16x20000x91 .f32) (B : FVec Ideal S16x20000x4 .f32) (Z : FVec Ideal S16x2 .f32)

def corners : Fin 4 → FVec Ideal S320000x1 .f32
  | 0 => corner subf (extractStridedSlice S16x20000x1 ![0, 0, 0] B slices_S16x20000x4_S16x20000x1_0_0_0) (extractStridedSlice S16x20000x1 ![0, 0, 2] B slices_S16x20000x4_S16x20000x1_0_0_2)
  | 1 => corner subf (extractStridedSlice S16x20000x1 ![0, 0, 1] B slices_S16x20000x4_S16x20000x1_0_0_1) (extractStridedSlice S16x20000x1 ![0, 0, 3] B slices_S16x20000x4_S16x20000x1_0_0_3)
  | 2 => corner addf (extractStridedSlice S16x20000x1 ![0, 0, 0] B slices_S16x20000x4_S16x20000x1_0_0_0) (extractStridedSlice S16x20000x1 ![0, 0, 2] B slices_S16x20000x4_S16x20000x1_0_0_2)
  | 3 => corner addf (extractStridedSlice S16x20000x1 ![0, 0, 1] B slices_S16x20000x4_S16x20000x1_0_0_1) (extractStridedSlice S16x20000x1 ![0, 0, 3] B slices_S16x20000x4_S16x20000x1_0_0_3)

def sizes : Fin 4 → FVec Ideal S16x1 .f32
  | 0 => broadcastInDim S16x1 ![0] bcast_S16_S16x1_0 (shapeCast S16 (extractStridedSlice S16x1 ![0, 0] Z slices_S16x2_S16x1_0_0) shapeCasts_S16x1_S16)
  | 1 => broadcastInDim S16x1 ![0] bcast_S16_S16x1_0 (shapeCast S16 (extractStridedSlice S16x1 ![0, 1] Z slices_S16x2_S16x1_0_1) shapeCasts_S16x1_S16)
  | 2 => broadcastInDim S16x1 ![0] bcast_S16_S16x1_0 (shapeCast S16 (extractStridedSlice S16x1 ![0, 0] Z slices_S16x2_S16x1_0_0) shapeCasts_S16x1_S16)
  | 3 => broadcastInDim S16x1 ![0] bcast_S16_S16x1_0 (shapeCast S16 (extractStridedSlice S16x1 ![0, 1] Z slices_S16x2_S16x1_0_1) shapeCasts_S16x1_S16)

/-- The row of every result's query. -/
def query : IVec S4800 32 :=
  shapeCast S4800 (addi (Host.divsi (found L).2 (broadcastInDim S16x300 ![] bcast_S_S16x300 (constantI S_ 32 91#32)))
    (broadcastInDim S16x300 ![0, 1] bcast_S16x1_S16x300_0_1 (muli (broadcastInDim S16x1 ![0] bcast_S16_S16x1_0 (iotaInDim S16 32 0))
      (broadcastInDim S16x1 ![] bcast_S_S16x1 (constantI S_ 32 20000#32))))) shapeCasts_S16x300_S4800

def boxes : FVec Ideal S16x300x4 .f32 :=
  mulf (shapeCast S16x300x4 (Host.gather gather_S320000x4_S4800x1_S4800x4_1_0_n_n_0_1_14
      (concatenate S320000x4 1 [⟨S320000x1, corners B 0⟩, ⟨S320000x1, corners B 1⟩, ⟨S320000x1, corners B 2⟩, ⟨S320000x1, corners B 3⟩]
        concatenates_S320000x1_S320000x1_S320000x1_S320000x1_S320000x4_d1)
      (broadcastInDim S4800x1 ![0] bcast_S4800_S4800x1_0 (query L))) shapeCasts_S4800x4_S16x300x4)
    (broadcastInDim S16x300x4 ![0, 1, 2] bcast_S16x1x4_S16x300x4_0_1_2 (broadcastInDim S16x1x4 ![0, 2] bcast_S16x4_S16x1x4_0_2
      (concatenate S16x4 1 [⟨S16x1, sizes Z 0⟩, ⟨S16x1, sizes Z 1⟩, ⟨S16x1, sizes Z 2⟩, ⟨S16x1, sizes Z 3⟩] concatenates_S16x1_S16x1_S16x1_S16x1_S16x4_d1)))

theorem query_at (b : Fin 16) (k : Fin 300) : query L (ix1 ⟨b.val * 300 + k.val, by omega⟩) = BitVec.ofNat 32 (20000 * b.val + (best L b k).val / 91) := by
  have hb := (best L b k).isLt
  refine (shapeCast_apply _ _ _ (ix2 b k) ?_).trans ?_
  · rw [Shape.rowMajor_val_two, Shape.rowMajor_val_one]; rfl
  show IntOp.divsi .host ((found L).2 (ix2 b k)) 91#32 + (BitVec.ofNat 32 _ * 20000#32) = _
  rw [(found_at L b k).2, div_91 _ (by omega), show (20000#32 : BitVec 32) = BitVec.ofNat 32 20000 from rfl, mul_word, add_word]
  refine congrArg (BitVec.ofNat 32) ?_
  show (best L b k).val / 91 + b.val * 20000 = _
  omega

theorem corner_at (f : FVec Ideal S320000 .f32 → FVec Ideal S320000 .f32 → FVec Ideal S320000 .f32) (g : EReal → EReal → EReal) (hf : ∀ x y i, f x y i = g (x i) (y i))
    (c d : ℕ) (hc : c < 4) (hd : d < 4) (h₀ : S16x20000x4.Slices ![0, 0, c] S16x20000x1) (h₁ : S16x20000x4.Slices ![0, 0, d] S16x20000x1) (b : Fin 16) (q : Fin 20000) :
    corner f (extractStridedSlice S16x20000x1 ![0, 0, c] B h₀) (extractStridedSlice S16x20000x1 ![0, 0, d] B h₁) (ix2 (⟨20000 * b.val + q.val, by omega⟩ : Fin 320000) (0 : Fin 1))
      = g (B (ix3 b q ⟨c, hc⟩)) (half * B (ix3 b q ⟨d, hd⟩)) := by
  refine (broadcastInDim_apply _ bcast_S320000_S320000x1_0 _ _ (ix1 (⟨20000 * b.val + q.val, by omega⟩ : Fin 320000)) fun a => ?_).trans ?_
  · match a with
    | ⟨0, _⟩ => rfl
  rw [hf, column_at c hc]
  refine congrArg (g _) ?_
  refine (congrArg (half * ·) (column_at d hd B h₁ b q))

theorem boxes_at (b : Fin 16) (k : Fin 300) (c : Fin 4) (q : Fin 20000) (hq : q.val = (best L b k).val / 91) :
    boxes L B Z (ix3 b k c) = corners B c (ix2 (⟨20000 * b.val + q.val, by omega⟩ : Fin 320000) (0 : Fin 1)) * sizes Z c (ix2 b (0 : Fin 1)) := by
  refine congr_arg₂ (fun x y : EReal => x * y) ?_ ?_
  · refine (shapeCast_apply _ _ _ (ix2 (⟨b.val * 300 + k.val, by omega⟩ : Fin 4800) c) ?_).trans ?_
    · rw [Shape.rowMajor_val_three, Shape.rowMajor_val_two]; rfl
    refine (take_row_at (nb := 320000) (B := 4) (n := 4800) _ rfl rfl rfl rfl rfl bcast_S4800_S4800x1_0 _ (query L) _ c ⟨20000 * b.val + q.val, by omega⟩ ?_ (by norm_num)).trans ?_
    · rw [query_at, ← hq]
    · exact four_cols (n := 320000) (corners B) _ _ c
  · refine (broadcastInDim_apply _ bcast_S16x1x4_S16x300x4_0_1_2 _ _ (ix3 b (0 : Fin 1) c) fun a => ?_).trans
      ((broadcastInDim_apply _ bcast_S16x4_S16x1x4_0_2 _ _ (ix2 b c) fun a => ?_).trans (four_cols (n := 16) (sizes Z) _ _ c))
    · match a with
      | ⟨0, _⟩ => rfl
      | ⟨1, _⟩ => rfl
      | ⟨2, _⟩ => rfl
    · match a with
      | ⟨0, _⟩ => rfl
      | ⟨1, _⟩ => rfl

/-- The four coordinates of the box in place `k`. -/
theorem box_at (b : Fin 16) (k : Fin 300) (q : Fin 20000) (hq : q.val = (best L b k).val / 91) :
    boxes L B Z (ix3 b k (0 : Fin 4)) = (B (ix3 b q (0 : Fin 4)) - half * B (ix3 b q (2 : Fin 4))) * Z (ix2 b (0 : Fin 2))
    ∧ boxes L B Z (ix3 b k (1 : Fin 4)) = (B (ix3 b q (1 : Fin 4)) - half * B (ix3 b q (3 : Fin 4))) * Z (ix2 b (1 : Fin 2))
    ∧ boxes L B Z (ix3 b k (2 : Fin 4)) = (B (ix3 b q (0 : Fin 4)) + half * B (ix3 b q (2 : Fin 4))) * Z (ix2 b (0 : Fin 2))
    ∧ boxes L B Z (ix3 b k (3 : Fin 4)) = (B (ix3 b q (1 : Fin 4)) + half * B (ix3 b q (3 : Fin 4))) * Z (ix2 b (1 : Fin 2)) := by
  refine ⟨?_, ?_, ?_, ?_⟩
  · rw [boxes_at L B Z b k 0 q hq]
    exact congr_arg₂ (fun x y : EReal => x * y) (corner_at B subf (fun x y => x - y) (fun _ _ _ => rfl) 0 2 (by norm_num) (by norm_num) _ _ b q) (size_at 0 (by norm_num) Z _ b)
  · rw [boxes_at L B Z b k 1 q hq]
    exact congr_arg₂ (fun x y : EReal => x * y) (corner_at B subf (fun x y => x - y) (fun _ _ _ => rfl) 1 3 (by norm_num) (by norm_num) _ _ b q) (size_at 1 (by norm_num) Z _ b)
  · rw [boxes_at L B Z b k 2 q hq]
    exact congr_arg₂ (fun x y : EReal => x * y) (corner_at B addf (fun x y => x + y) (fun _ _ _ => rfl) 0 2 (by norm_num) (by norm_num) _ _ b q) (size_at 0 (by norm_num) Z _ b)
  · rw [boxes_at L B Z b k 3 q hq]
    exact congr_arg₂ (fun x y : EReal => x * y) (corner_at B addf (fun x y => x + y) (fun _ _ _ => rfl) 1 3 (by norm_num) (by norm_num) _ _ b q) (size_at 1 (by norm_num) Z _ b)

end Cert.Proof.RefVal

end
-- ==== Proof.Slots.lean ====
/-
  The candidates of one image, over the extended reals: with at most 256 entries of each half at or above the image's
  threshold, the two lists of 256 hold exactly those entries, each once, and the lowest value in every other slot.
-/
module

public import proofs.«01_k».proof.Proof.Spec
public import proofs.«01_k».proof.Proof.RankVal
public import proofs.«01_k».proof.Proof.RefVal
public import proofs.«01_k».proof.Proof.Order
public import Idealize.ShloMosaic.Lib.Routing.Count

@[expose] public section

noncomputable section

namespace Cert.Proof.Slots

open Idealize.ShloMosaic Cert.KernelIdeal Cert.KernelIdeal.Gen Cert.Proof.Compact Cert.Proof.Spec

theorem nth_count {P : ℕ → Prop} [DecidablePred P] {e n : ℕ} (hP : P e) (he : e < n) : Nat.count P e < Nat.count P n ∧ nth P (Nat.count P e) = e := by
  have h1 : Nat.count P e < Nat.count P n := Nat.count_strict_mono hP he
  have h2 := count_nth h1
  exact ⟨h1, Nat.count_injective h2.2 hP h2.1⟩

theorem oge_iff (x y : EReal) : FloatOps.cmpf (F := Ideal) (φ := .f32) .oge x y = 1#1 ↔ y ≤ x := RankVal.ofBool_one (y ≤ x)

theorem lowest_eq : lowest (F := Ideal) = (⊥ : EReal) := by
  show Ideal.ofBits .f32 0xFF800000#32 = ⊥
  simp [Ideal.ofBits, Ideal.ieee]

variable (X : Vec Ideal S320000x128 .f32) (Q : Vec Ideal S320000 .f32) (T : Vec Ideal S2048 .f32) (b : ℕ)
  (A : ℕ → ℕ → EReal) (t : EReal)

/-- Entry `e` of half `h` reaches the threshold. -/
def Hit (h e : ℕ) : Prop := t ≤ A (10000 * h + e / 91) (e % 91)

instance (h : ℕ) : DecidablePred (Hit A t h) := fun e => by unfold Hit; infer_instance

structure Fits : Prop where
  entry : ∀ q l, q < 20000 → l < 128 → X (ix2 320000 128 (20000 * b + q) l) = A q l
  beyond : ∀ q l, 91 ≤ l → A q l = ⊥
  top : ∀ q, q < 20000 → (t ≤ Q (ix1 320000 (20000 * b + q)) ↔ ∃ c, c < 91 ∧ t ≤ A q c)
  level : ∀ l, l < 16 → T (ix1 2048 (128 * b + l)) = t
  pos : ⊥ < t
  few : ∀ h, h < 2 → Nat.count (Hit A t h) 910000 ≤ 256

variable {X Q T b A t} (H : Fits X Q T b A t) {h : ℕ} (hh : h < 2)

include H

theorem pass_iff (e : ℕ) (x : EReal) : Pass (F := Ideal) T b (e % 16) x ↔ t ≤ x := by
  unfold Pass
  rw [H.level _ (Nat.mod_lt _ (by norm_num)), oge_iff]

include hh

theorem qPass_iff {e : ℕ} (he : e < 10000) : qPass (F := Ideal) Q T b h e ↔ ∃ c, c < 91 ∧ t ≤ A (10000 * h + e) c := by
  unfold qPass
  rw [pass_iff H, show 20000 * b + 10000 * h + e = 20000 * b + (10000 * h + e) by omega]
  exact H.top _ (by omega)

theorem qcount_le : Nat.count (qPass (F := Ideal) Q T b h) 10000 ≤ 256 := by
  refine le_trans ?_ (H.few h hh)
  rw [Nat.count_eq_card_filter_range, Nat.count_eq_card_filter_range]
  refine (Finset.card_le_card ?_).trans (Finset.card_image_le (f := fun e => e / 91))
  intro e he
  rw [Finset.mem_filter, Finset.mem_range] at he
  obtain ⟨c, hc, ht⟩ := (qPass_iff H hh he.1).1 he.2
  rw [Finset.mem_image]
  refine ⟨e * 91 + c, Finset.mem_filter.2 ⟨Finset.mem_range.2 (by omega), ?_⟩, by omega⟩
  unfold Hit
  rw [show (e * 91 + c) / 91 = e by omega, show (e * 91 + c) % 91 = c by omega]
  exact ht

theorem nsel_eq : nsel (F := Ideal) Q T b h = Nat.count (qPass (F := Ideal) Q T b h) 10000 := by
  unfold nsel
  exact Nat.min_eq_left (qcount_le H hh)

/-- A kept entry of the rows: the query of its row within the half, and its lane. -/
theorem kept {e : ℕ} (he : ePass (F := Ideal) X Q T b h e) :
    e / 128 < Nat.count (qPass (F := Ideal) Q T b h) 10000 ∧ nth (qPass (F := Ideal) Q T b h) (e / 128) < 10000
    ∧ qs (F := Ideal) Q T b h (e / 128) = 10000 * h + nth (qPass (F := Ideal) Q T b h) (e / 128) ∧ e % 128 < 91
    ∧ rowVal (F := Ideal) X Q T b h (e / 128) (e % 128) = A (10000 * h + nth (qPass (F := Ideal) Q T b h) (e / 128)) (e % 128)
    ∧ t ≤ A (10000 * h + nth (qPass (F := Ideal) Q T b h) (e / 128)) (e % 128) := by
  obtain ⟨h1, h2⟩ := he
  rw [nsel_eq H hh] at h1
  have h3 := nth_lt h1
  have h4 : qs (F := Ideal) Q T b h (e / 128) = 10000 * h + nth (qPass (F := Ideal) Q T b h) (e / 128) := by
    unfold qs packed
    rw [if_pos h1]
  have h5 : rowVal (F := Ideal) X Q T b h (e / 128) (e % 128) = A (10000 * h + nth (qPass (F := Ideal) Q T b h) (e / 128)) (e % 128) := by
    unfold rowVal
    rw [h4]
    exact H.entry _ _ (by omega) (Nat.mod_lt _ (by norm_num))
  rw [pass_iff H, h5] at h2
  refine ⟨h1, h3, h4, ?_, h5, h2⟩
  by_contra hl
  rw [H.beyond _ _ (by omega)] at h2
  exact absurd (H.pos.trans_le h2) (lt_irrefl _)

/-- The position of an entry of the rows among the image's entries. -/
theorem kept_flat {e : ℕ} (he : ePass (F := Ideal) X Q T b h e) :
    qs (F := Ideal) Q T b h (e / 128) * 91 + e % 128 = 910000 * h + (nth (qPass (F := Ideal) Q T b h) (e / 128) * 91 + e % 128) := by
  obtain ⟨_, _, h4, _⟩ := kept H hh he
  rw [h4]; ring

theorem kept_inj {e e' : ℕ} (he : ePass (F := Ideal) X Q T b h e) (he' : ePass (F := Ideal) X Q T b h e')
    (heq : nth (qPass (F := Ideal) Q T b h) (e / 128) * 91 + e % 128 = nth (qPass (F := Ideal) Q T b h) (e' / 128) * 91 + e' % 128) : e = e' := by
  obtain ⟨h1, _, _, h2, _⟩ := kept H hh he
  obtain ⟨h1', _, _, h2', _⟩ := kept H hh he'
  have hq : nth (qPass (F := Ideal) Q T b h) (e / 128) = nth (qPass (F := Ideal) Q T b h) (e' / 128) := by omega
  have hr : e / 128 = e' / 128 := by rw [← (count_nth h1).1, ← (count_nth h1').1, hq]
  omega

theorem ecount_le : Nat.count (ePass (F := Ideal) X Q T b h) 32768 ≤ 256 := by
  refine le_trans ?_ (H.few h hh)
  rw [Nat.count_eq_card_filter_range, Nat.count_eq_card_filter_range]
  refine Finset.card_le_card_of_injOn (fun e => nth (qPass (F := Ideal) Q T b h) (e / 128) * 91 + e % 128) ?_ ?_
  · intro e he
    rw [Finset.coe_filter, Set.mem_setOf_eq] at he
    obtain ⟨_, h1, _, h2, _, h3⟩ := kept H hh he.2
    rw [Finset.coe_filter, Set.mem_setOf_eq, Finset.mem_range]
    refine ⟨by show nth _ _ * 91 + e % 128 < 910000; omega, ?_⟩
    show t ≤ A (10000 * h + (nth _ _ * 91 + e % 128) / 91) ((nth _ _ * 91 + e % 128) % 91)
    generalize hn : nth (qPass (F := Ideal) Q T b h) (e / 128) = n at *
    rw [show (n * 91 + e % 128) / 91 = n by omega, show (n * 91 + e % 128) % 91 = e % 128 by omega]
    exact h3
  · intro e he e' he' heq
    rw [Finset.coe_filter, Set.mem_setOf_eq] at he he'
    exact kept_inj H hh he.2 he'.2 heq

/-- A slot in use holds an entry of its half that reaches the threshold. -/
theorem used {k : ℕ} (hk : k < Nat.count (ePass (F := Ideal) X Q T b h) 32768) :
    910000 * h ≤ flat (F := Ideal) X Q T b h k ∧ flat (F := Ideal) X Q T b h k < 910000 * h + 910000
    ∧ vals (F := Ideal) X Q T b h k = A (flat (F := Ideal) X Q T b h k / 91) (flat (F := Ideal) X Q T b h k % 91)
    ∧ t ≤ vals (F := Ideal) X Q T b h k := by
  have he := (count_nth hk).2
  obtain ⟨_, h1, _, h2, h5, h3⟩ := kept H hh he
  have hf : flat (F := Ideal) X Q T b h k = 910000 * h + (nth (qPass (F := Ideal) Q T b h) (nth (ePass (F := Ideal) X Q T b h) k / 128) * 91 + nth (ePass (F := Ideal) X Q T b h) k % 128) := by
    unfold flat packed
    rw [if_pos hk]
    exact kept_flat H hh he
  have hv : vals (F := Ideal) X Q T b h k = A (10000 * h + nth (qPass (F := Ideal) Q T b h) (nth (ePass (F := Ideal) X Q T b h) k / 128)) (nth (ePass (F := Ideal) X Q T b h) k % 128) := by
    unfold vals packed
    rw [if_pos hk]
    exact h5
  rw [hf, hv]
  generalize nth (qPass (F := Ideal) Q T b h) (nth (ePass (F := Ideal) X Q T b h) k / 128) = n at *
  generalize nth (ePass (F := Ideal) X Q T b h) k % 128 = l at *
  refine ⟨by omega, by omega, ?_, h3⟩
  rw [show (910000 * h + (n * 91 + l)) / 91 = 10000 * h + n by omega, show (910000 * h + (n * 91 + l)) % 91 = l by omega]

theorem used_inj {k k' : ℕ} (hk : k < Nat.count (ePass (F := Ideal) X Q T b h) 32768) (hk' : k' < Nat.count (ePass (F := Ideal) X Q T b h) 32768)
    (heq : flat (F := Ideal) X Q T b h k = flat (F := Ideal) X Q T b h k') : k = k' := by
  have he := count_nth hk
  have he' := count_nth hk'
  unfold flat packed at heq
  rw [if_pos hk, if_pos hk'] at heq
  have heq := (kept_flat H hh he.2).symm.trans (heq.trans (kept_flat H hh he'.2))
  rw [← he.1, ← he'.1, kept_inj H hh he.2 he'.2 (by omega)]

omit H hh in
theorem unused {k : ℕ} (hk : ¬ k < Nat.count (ePass (F := Ideal) X Q T b h) 32768) : vals (F := Ideal) X Q T b h k = (⊥ : EReal) := by
  unfold vals packed
  rw [if_neg hk, lowest_eq]

theorem reached {e : ℕ} (he : e < 910000) (ht : Hit A t h e) :
    ∃ k, k < 256 ∧ k < Nat.count (ePass (F := Ideal) X Q T b h) 32768 ∧ flat (F := Ideal) X Q T b h k = 910000 * h + e := by
  have hq : qPass (F := Ideal) Q T b h (e / 91) := (qPass_iff H hh (by omega)).2 ⟨e % 91, Nat.mod_lt _ (by norm_num), ht⟩
  obtain ⟨h1, h2⟩ := nth_count (n := 10000) hq (by omega)
  have h3 := qcount_le H hh
  generalize hr : Nat.count (qPass (F := Ideal) Q T b h) (e / 91) = r at h1 h2
  have e1 : (r * 128 + e % 91) / 128 = r := by omega
  have e2 : (r * 128 + e % 91) % 128 = e % 91 := by omega
  have hp : ePass (F := Ideal) X Q T b h (r * 128 + e % 91) := by
    unfold ePass
    rw [nsel_eq H hh, e1, e2, pass_iff H]
    refine ⟨h1, ?_⟩
    unfold rowVal qs packed
    rw [if_pos h1, h2]
    exact ht.trans_eq (H.entry _ _ (by omega) (by omega)).symm
  obtain ⟨h4, h5⟩ := nth_count (n := 32768) hp (by omega)
  have h6 := ecount_le H hh
  refine ⟨Nat.count (ePass (F := Ideal) X Q T b h) (r * 128 + e % 91), by omega, h4, ?_⟩
  unfold flat packed
  rw [if_pos h4, h5]
  refine (kept_flat H hh hp).trans ?_
  rw [e1, e2, h2]
  omega

omit hh in
/-- With 300 entries or more at or above the threshold, each of the image's 300 first entries stands in one slot, whose
rank among the slots is the entry's own. -/
theorem slot_of (hn : 300 ≤ Nat.count (Hit A t 0) 910000 + Nat.count (Hit A t 1) 910000) (key : Fin 1820000 → EReal)
    (hkey : ∀ e, key e = Ideal.logistic (A (e.val / 91) (e.val % 91))) (k : Fin 1820000) (hk : k.val < 300) :
    ∃ s : Fin 512, flat (F := Ideal) X Q T b (s.val / 256) (s.val % 256) = (Order.at' key k).val
      ∧ Ideal.logistic (vals (F := Ideal) X Q T b (s.val / 256) (s.val % 256)) = key (Order.at' key k)
      ∧ ∀ s' : Fin 512, Order.rank (fun s : Fin 512 => Ideal.logistic (vals (F := Ideal) X Q T b (s.val / 256) (s.val % 256)))
          (fun s : Fin 512 => flat (F := Ideal) X Q T b (s.val / 256) (s.val % 256)) s' = k.val ↔ s' = s := by
  have hle : ∀ e : Fin 1820000, Ideal.logistic t ≤ key e ↔ t ≤ A (e.val / 91) (e.val % 91) := fun e => by
    rw [hkey]; exact RefVal.logistic_strict.le_iff_le
  have hP := Order.pick key (fun s : Fin 512 => Ideal.logistic (vals (F := Ideal) X Q T b (s.val / 256) (s.val % 256)))
    (fun s : Fin 512 => flat (F := Ideal) X Q T b (s.val / 256) (s.val % 256))
    (fun s : Fin 512 => s.val % 256 < Nat.count (ePass (F := Ideal) X Q T b (s.val / 256)) 32768) (Ideal.logistic t) (c := 300)
    (fun s hs => by
      have hh : s.val / 256 < 2 := by have := s.isLt; omega
      obtain ⟨h1, h2, h3, h4⟩ := used H hh hs
      refine ⟨by omega, ?_, RefVal.logistic_strict.le_iff_le.2 h4⟩
      show Ideal.logistic _ = key _
      rw [hkey, h3])
    (fun s s' hs hs' he => by
      have hh : s.val / 256 < 2 := by have := s.isLt; omega
      have hh' : s'.val / 256 < 2 := by have := s'.isLt; omega
      obtain ⟨h1, h2, _, _⟩ := used H hh hs
      obtain ⟨h1', h2', _, _⟩ := used H hh' hs'
      have he : flat (F := Ideal) X Q T b (s.val / 256) (s.val % 256) = flat (F := Ideal) X Q T b (s'.val / 256) (s'.val % 256) := he
      have e1 : s.val / 256 = s'.val / 256 := by omega
      rw [← e1] at hs' he
      have e2 := used_inj H hh hs hs' he
      exact Fin.ext (by omega))
    (fun e he => by
      rw [hle] at he
      have hlt := e.isLt
      obtain ⟨k, h1, h2, h3⟩ := reached H (h := e.val / 910000) (e := e.val % 910000) (by omega) (by omega) (by
        unfold Hit
        rw [show 10000 * (e.val / 910000) + e.val % 910000 / 91 = e.val / 91 by omega, show e.val % 910000 % 91 = e.val % 91 by omega]
        exact he)
      refine ⟨⟨256 * (e.val / 910000) + k, by omega⟩, ?_, ?_⟩
      · show (256 * (e.val / 910000) + k) % 256 < Nat.count (ePass (F := Ideal) X Q T b ((256 * (e.val / 910000) + k) / 256)) 32768
        rw [show (256 * (e.val / 910000) + k) % 256 = k by omega, show (256 * (e.val / 910000) + k) / 256 = e.val / 910000 by omega]
        exact h2
      · show flat (F := Ideal) X Q T b ((256 * (e.val / 910000) + k) / 256) ((256 * (e.val / 910000) + k) % 256) = e.val
        rw [show (256 * (e.val / 910000) + k) % 256 = k by omega, show (256 * (e.val / 910000) + k) / 256 = e.val / 910000 by omega, h3]
        omega)
    (fun s hs => by
      show Ideal.logistic _ < _
      rw [unused hs]
      exact RefVal.logistic_strict H.pos)
    (by
      refine hn.trans (le_of_eq ?_)
      have e1 : (Finset.univ.filter fun e : Fin 1820000 => Ideal.logistic t ≤ key e).card = Nat.count (fun e => t ≤ A (e / 91) (e % 91)) (910000 + 910000) := by
        rw [Finset.filter_congr fun e _ => hle e, Finset.card_filter, Nat.count_eq_card_filter_range, Finset.card_filter]
        exact Fin.sum_univ_eq_sum_range (fun e => if t ≤ A (e / 91) (e % 91) then 1 else 0) 1820000
      rw [e1, Nat.count_add]
      refine congrArg₂ (· + ·) (Routing.count_congr_of_lt _ fun e he => ?_) (Routing.count_congr_of_lt _ fun e he => ?_)
      · unfold Hit
        rw [show 10000 * 0 + e / 91 = e / 91 by omega]
      · unfold Hit
        rw [show 10000 * 1 + e / 91 = (910000 + e) / 91 by omega, show e % 91 = (910000 + e) % 91 by omega]) k hk
  obtain ⟨s, _, h1, h2, h3⟩ := hP
  exact ⟨s, h1, h2, h3⟩

end Cert.Proof.Slots

end
-- ==== Proof.Fits.lean ====
/-
  What the precondition says of one image, over the extended reals: its first sixteen thresholds are equal, at most 256
  entries of each half reach them, and at least 300 of the image.
-/
module

public import proofs.«01_k».proof.Pre_fits
public import proofs.«01_k».proof.Proof.Slots

@[expose] public section

noncomputable section

namespace Cert.Proof.Fits

open Idealize.ShloMosaic Idealize.ShloMosaic.ValueIdx Cert.Pre_fits Cert.Proof.RefOps

instance facts : Cert.Pre_fits.Facts where
  slices_S16x128_S16x1_0_0 := by decide
  shapeCasts_S16x1_S16 := by decide
  bcast_S16_S16x1x1_0 := by decide
  bcast_S16x1x1_S16x20000x91_0_1_2 := by decide
  shapeCasts_S16x20000x91_S32x910000 := by decide
  transposes_S32x910000_S910000x32_1_0 := by decide
  natLt_1_32 := by decide
  reducesTo_S910000x32_S32_d0 := by decide
  h_S_ := by decide
  shapeCasts_S32_S16x2 := by decide
  slices_S16x2_S16x1_0_0 := by decide
  bcast_S_S16 := by decide
  slices_S16x2_S16x1_0_1 := by decide
  slices_S16x128_S16x16_0_0 := by decide
  bcast_S16x1_S16x16_0_1 := by decide
  bcast_S16_S16x1_0 := by decide

open Cert.Pre_fits.Facts

/-- Lane `l` of query `q` of image `b`, the lowest value beyond the array. -/
def entry (L : FVec Ideal S16x20000x91 .f32) (b : Fin 16) (q l : ℕ) : EReal :=
  if h : q < 20000 ∧ l < 91 then L (ix3 b (⟨q, h.1⟩ : Fin 20000) (⟨l, h.2⟩ : Fin 91)) else ⊥

theorem sge_word {a b : ℕ} (ha : a < 2 ^ 31) (hb : b < 2 ^ 31) : IntOp.cmpi .sge (BitVec.ofNat 32 a) (BitVec.ofNat 32 b) = 1#1 ↔ b ≤ a :=
  sle_word hb ha

/-- One column of a table. -/
theorem col_at {α : Type} {m : ℕ} (c : ℕ) (hc : c < m) (x : (Routing.shape2 16 m).Idx → α) (h₀ : (Routing.shape2 16 m).Slices ![0, c] S16x1) (b : Fin 16) :
    shapeCast S16 (extractStridedSlice S16x1 ![0, c] x h₀) shapeCasts_S16x1_S16 (ix1 b) = x (ix2 b ⟨c, hc⟩) := by
  refine (shapeCast_apply _ _ _ (ix2 b (0 : Fin 1)) ?_).trans (extractStridedSlice_apply _ _ h₀ _ _ fun a => ?_)
  · rw [Shape.rowMajor_val_two, Shape.rowMajor_val_one]
    show b.val * 1 + 0 = b.val
    omega
  · match a with
    | ⟨0, _⟩ => exact (Nat.zero_add _).symm
    | ⟨1, _⟩ => rfl

variable (L : FVec Ideal S16x20000x91 .f32) (K : FVec Ideal S16x128 .f32)

/-- The entries that reach their image's threshold. -/
def mask : IVec S16x20000x91 1 :=
  cmpf .oge L (broadcastInDim S16x20000x91 ![0, 1, 2] bcast_S16x1x1_S16x20000x91_0_1_2 (broadcastInDim S16x1x1 ![0] bcast_S16_S16x1x1_0
    (shapeCast S16 (extractStridedSlice S16x1 ![0, 0] K slices_S16x128_S16x1_0_0) shapeCasts_S16x1_S16)))

/-- How many of each half. -/
def counts : IVec S16x2 32 :=
  shapeCast S16x2 (Host.reduce IntOp.addi (extui 32 (transpose S910000x32 [1, 0] (shapeCast S32x910000 (mask L K) shapeCasts_S16x20000x91_S32x910000)
    transposes_S32x910000_S910000x32_1_0) natLt_1_32) (constantI S_ 32 0#32) reducesTo_S910000x32_S32_d0 h_S_) shapeCasts_S32_S16x2

theorem mask_at (b : Fin 16) (q : Fin 20000) (l : Fin 91) : mask L K (ix3 b q l) = 1#1 ↔ K (ix2 b (0 : Fin 128)) ≤ L (ix3 b q l) := by
  have e : broadcastInDim S16x20000x91 ![0, 1, 2] bcast_S16x1x1_S16x20000x91_0_1_2 (broadcastInDim S16x1x1 ![0] bcast_S16_S16x1x1_0
      (shapeCast S16 (extractStridedSlice S16x1 ![0, 0] K slices_S16x128_S16x1_0_0) shapeCasts_S16x1_S16)) (ix3 b q l) = K (ix2 b (0 : Fin 128)) := by
    refine (broadcastInDim_apply _ bcast_S16x1x1_S16x20000x91_0_1_2 _ _ (ix3 b (0 : Fin 1) (0 : Fin 1)) fun a => ?_).trans
      ((broadcastInDim_apply _ bcast_S16_S16x1x1_0 _ _ (ix1 b) fun a => ?_).trans (col_at 0 (by norm_num) K _ b))
    · match a with
      | ⟨0, _⟩ => rfl
      | ⟨1, _⟩ => rfl
      | ⟨2, _⟩ => rfl
    · match a with
      | ⟨0, _⟩ => rfl
  show FloatOps.cmpf (F := Ideal) (φ := .f32) .oge (L (ix3 b q l)) _ = 1#1 ↔ _
  rw [e]
  exact Slots.oge_iff _ _

theorem counts_at (b : Fin 16) (h : Fin 2) :
    counts L K (ix2 b h) = BitVec.ofNat 32 (Nat.count (Slots.Hit (entry L b) (K (ix2 b (0 : Fin 128))) h.val) 910000) := by
  rw [Nat.count_eq_card_filter_range]
  refine (shapeCast_apply _ _ _ (ix1 (⟨b.val * 2 + h.val, by omega⟩ : Fin 32)) ?_).trans
    (sum_down (n := 910000) (m := 32) (by norm_num) _ _ _ _ _ (Slots.Hit (entry L b) (K (ix2 b (0 : Fin 128))) h.val) fun e => ?_)
  · rw [Shape.rowMajor_val_two, Shape.rowMajor_val_one]; rfl
  have he := e.isLt
  have hh := h.isLt
  have hq : 10000 * h.val + e.val / 91 < 20000 := by omega
  have hl : e.val % 91 < 91 := Nat.mod_lt _ (by norm_num)
  have e1 : transpose S910000x32 [1, 0] (shapeCast S32x910000 (mask L K) shapeCasts_S16x20000x91_S32x910000) transposes_S32x910000_S910000x32_1_0
      (ix2 e (⟨b.val * 2 + h.val, by omega⟩ : Fin 32)) = mask L K (ix3 b (⟨10000 * h.val + e.val / 91, hq⟩ : Fin 20000) (⟨e.val % 91, hl⟩ : Fin 91)) := by
    refine (transpose_apply _ _ _ _ (ix2 (⟨b.val * 2 + h.val, by omega⟩ : Fin 32) e) fun a => ?_).trans (shapeCast_apply _ _ _ _ ?_)
    · match a with
      | ⟨0, _⟩ => rfl
      | ⟨1, _⟩ => rfl
    · rw [Shape.rowMajor_val_three, Shape.rowMajor_val_two]
      show (b.val * 20000 + (10000 * h.val + e.val / 91)) * 91 + e.val % 91 = (b.val * 2 + h.val) * 910000 + e.val
      omega
  rw [e1, mask_at]
  unfold Slots.Hit entry
  rw [dif_pos ⟨hq, hl⟩]

theorem count_lt (P : ℕ → Prop) [DecidablePred P] : Nat.count P 910000 < 2 ^ 30 := lt_of_le_of_lt (Nat.count_le _) (by norm_num)

/-- The precondition, read at one image. -/
theorem holds (B : FVec Ideal S16x20000x4 .f32) (Z : IVec S16x2 32) (hp : fn (F := Ideal) L B Z K = fun _ => 1#1) (b : Fin 16) :
    (∀ l : Fin 16, K (ix2 b (⟨l.val, by omega⟩ : Fin 128)) = K (ix2 b (0 : Fin 128)))
    ∧ (∀ h, h < 2 → Nat.count (Slots.Hit (entry L b) (K (ix2 b (0 : Fin 128))) h) 910000 ≤ 256)
    ∧ 300 ≤ Nat.count (Slots.Hit (entry L b) (K (ix2 b (0 : Fin 128))) 0) 910000 + Nat.count (Slots.Hit (entry L b) (K (ix2 b (0 : Fin 128))) 1) 910000 := by
  have hAll : ∀ l : Fin 16, cmpf .oeq (extractStridedSlice S16x16 ![0, 0] K slices_S16x128_S16x16_0_0)
        (broadcastInDim S16x16 ![0, 1] bcast_S16x1_S16x16_0_1 (extractStridedSlice S16x1 ![0, 0] K slices_S16x128_S16x1_0_0)) (ix2 b l) = 1#1
      ∧ broadcastInDim S16x16 ![0, 1] bcast_S16x1_S16x16_0_1 (broadcastInDim S16x1 ![0] bcast_S16_S16x1_0
          (andi (andi (cmpi .sle (shapeCast S16 (extractStridedSlice S16x1 ![0, 0] (counts L K) slices_S16x2_S16x1_0_0) shapeCasts_S16x1_S16)
              (broadcastInDim S16 ![] bcast_S_S16 (constantI S_ 32 256#32)))
            (cmpi .sle (shapeCast S16 (extractStridedSlice S16x1 ![0, 1] (counts L K) slices_S16x2_S16x1_0_1) shapeCasts_S16x1_S16)
              (broadcastInDim S16 ![] bcast_S_S16 (constantI S_ 32 256#32))))
            (cmpi .sge (addi (shapeCast S16 (extractStridedSlice S16x1 ![0, 0] (counts L K) slices_S16x2_S16x1_0_0) shapeCasts_S16x1_S16)
              (shapeCast S16 (extractStridedSlice S16x1 ![0, 1] (counts L K) slices_S16x2_S16x1_0_1) shapeCasts_S16x1_S16))
              (broadcastInDim S16 ![] bcast_S_S16 (constantI S_ 32 300#32))))) (ix2 b l) = 1#1 := fun l => by
    have h := congrFun hp (ix2 b l)
    unfold fn fn_part1 at h
    exact (and_one_iff _ _).1 h
  have c0 : shapeCast S16 (extractStridedSlice S16x1 ![0, 0] (counts L K) slices_S16x2_S16x1_0_0) shapeCasts_S16x1_S16 (ix1 b)
      = BitVec.ofNat 32 (Nat.count (Slots.Hit (entry L b) (K (ix2 b (0 : Fin 128))) 0) 910000) := (col_at 0 (by norm_num) (counts L K) slices_S16x2_S16x1_0_0 b).trans (counts_at L K b 0)
  have c1 : shapeCast S16 (extractStridedSlice S16x1 ![0, 1] (counts L K) slices_S16x2_S16x1_0_1) shapeCasts_S16x1_S16 (ix1 b)
      = BitVec.ofNat 32 (Nat.count (Slots.Hit (entry L b) (K (ix2 b (0 : Fin 128))) 1) 910000) := (col_at 1 (by norm_num) (counts L K) slices_S16x2_S16x1_0_1 b).trans (counts_at L K b 1)
  have l0 := count_lt (Slots.Hit (entry L b) (K (ix2 b (0 : Fin 128))) 0)
  have l1 := count_lt (Slots.Hit (entry L b) (K (ix2 b (0 : Fin 128))) 1)
  have h2 := (broadcastInDim_apply _ bcast_S16x1_S16x16_0_1 _ _ (ix2 b (0 : Fin 1)) (fun a => by
    match a with
    | ⟨0, _⟩ => rfl
    | ⟨1, _⟩ => rfl)).symm.trans (hAll 0).2
  have h3 := (broadcastInDim_apply _ bcast_S16_S16x1_0 _ _ (ix1 b) (fun a => by
    match a with
    | ⟨0, _⟩ => rfl)).symm.trans h2
  obtain ⟨h4, h5⟩ := (and_one_iff _ _).1 h3
  obtain ⟨h6, h7⟩ := (and_one_iff _ _).1 h4
  have h6 : IntOp.cmpi .sle (shapeCast S16 (extractStridedSlice S16x1 ![0, 0] (counts L K) slices_S16x2_S16x1_0_0) shapeCasts_S16x1_S16 (ix1 b)) (BitVec.ofNat 32 256) = 1#1 := h6
  have h7 : IntOp.cmpi .sle (shapeCast S16 (extractStridedSlice S16x1 ![0, 1] (counts L K) slices_S16x2_S16x1_0_1) shapeCasts_S16x1_S16 (ix1 b)) (BitVec.ofNat 32 256) = 1#1 := h7
  have h5 : IntOp.cmpi .sge (shapeCast S16 (extractStridedSlice S16x1 ![0, 0] (counts L K) slices_S16x2_S16x1_0_0) shapeCasts_S16x1_S16 (ix1 b)
    + shapeCast S16 (extractStridedSlice S16x1 ![0, 1] (counts L K) slices_S16x2_S16x1_0_1) shapeCasts_S16x1_S16 (ix1 b)) (BitVec.ofNat 32 300) = 1#1 := h5
  clear h2 h3 h4
  rw [c0] at h6
  rw [c1] at h7
  rw [c0, c1, add_word] at h5
  rw [show (256#32 : BitVec 32) = BitVec.ofNat 32 256 from rfl, sle_word (lt_trans l0 (by norm_num)) (by norm_num)] at h6
  rw [show (256#32 : BitVec 32) = BitVec.ofNat 32 256 from rfl, sle_word (lt_trans l1 (by norm_num)) (by norm_num)] at h7
  rw [show (300#32 : BitVec 32) = BitVec.ofNat 32 300 from rfl, sge_word (by
    show Nat.count (Slots.Hit (entry L b) (K (ix2 b (0 : Fin 128))) 0) 910000 + Nat.count (Slots.Hit (entry L b) (K (ix2 b (0 : Fin 128))) 1) 910000 < 2 ^ 31
    omega) (by norm_num)] at h5
  refine ⟨fun l => ?_, fun h hh => ?_, h5⟩
  · have h8 := (RankVal.oeq_iff _ _).1 (hAll l).1
    have e1 : extractStridedSlice S16x16 ![0, 0] K slices_S16x128_S16x16_0_0 (ix2 b l) = K (ix2 b (⟨l.val, by omega⟩ : Fin 128)) :=
      extractStridedSlice_apply _ _ _ _ _ fun a => by
        match a with
        | ⟨0, _⟩ => exact (Nat.zero_add _).symm
        | ⟨1, _⟩ => exact (Nat.zero_add _).symm
    have e2 : broadcastInDim S16x16 ![0, 1] bcast_S16x1_S16x16_0_1 (extractStridedSlice S16x1 ![0, 0] K slices_S16x128_S16x1_0_0) (ix2 b l) = K (ix2 b (0 : Fin 128)) :=
      (broadcastInDim_apply _ bcast_S16x1_S16x16_0_1 _ _ (ix2 b (0 : Fin 1)) (fun a => by
        match a with
        | ⟨0, _⟩ => rfl
        | ⟨1, _⟩ => rfl)).trans (extractStridedSlice_apply _ _ _ _ _ fun a => by
        match a with
        | ⟨0, _⟩ => exact (Nat.zero_add _).symm
        | ⟨1, _⟩ => rfl)
    exact e1.symm.trans (h8.trans e2)
  · interval_cases h
    · exact h6
    · exact h7

end Cert.Proof.Fits

end
-- ==== Proof.Rows.lean ====
/-
  What the row-maximum call hands on, flattened, read by image and query over the extended reals: the rows' lanes with
  the lowest value beyond them, and the maxima.
-/
module

public import proofs.«01_k».proof.Proof.Main
public import proofs.«01_k».proof.Proof.Fits
public import Idealize.ShloMosaic.Lib.KernelVsHost
public import Idealize.ShloMosaic.Lib.ValueLayout
public import Idealize.ShloMosaic.Lib.Pointwise.Reshape
public import Idealize.ShloMosaic.PureOps.Ideal.Laws

@[expose] public section

noncomputable section

namespace Cert.Proof.Rows

open Idealize.ShloMosaic hiding ix1 ix2 ix3 eq_ix1 eq_ix2
open Idealize.ShloMosaic.ValueIdx Cert.KernelIdeal Cert.KernelIdeal.Gen Cert.Proof.Fits

variable (L : FVec Ideal S16x20000x91 .f32) (b : Fin 16) (q : ℕ) (hq : q < 20000)

include hq

theorem row_at (l : ℕ) (hl : l < 128) :
    shapeCast S320000x128 (Maxima.widened (F := Ideal) L) shapeCasts_S160x2000x128_S320000x128 (Spec.ix2 320000 128 (20000 * b.val + q) l) = entry L b q l := by
  have hb := b.isLt
  have e : Spec.ix2 320000 128 (20000 * b.val + q) l = ix2 (⟨20000 * b.val + q, by omega⟩ : Fin 320000) (⟨l, hl⟩ : Fin 128) := by
    refine funext fun a => Fin.ext ?_
    match a with
    | ⟨0, _⟩ => exact Nat.mod_eq_of_lt (by omega)
    | ⟨1, _⟩ => exact Nat.mod_eq_of_lt hl
  rw [e]
  refine (shapeCast_apply _ _ _ (ix3 (⟨(20000 * b.val + q) / 2000, by omega⟩ : Fin 160) (⟨(20000 * b.val + q) % 2000, by omega⟩ : Fin 2000) (⟨l, hl⟩ : Fin 128)) ?_).trans ?_
  · rw [Shape.rowMajor_val_three, Shape.rowMajor_val_two]
    show ((20000 * b.val + q) / 2000 * 2000 + (20000 * b.val + q) % 2000) * 128 + l = (20000 * b.val + q) * 128 + l
    omega
  · show (if h : l < 91 then _ else Scalar.ofBits (F := Ideal) .f32 0xFF800000#32) = _
    unfold entry
    by_cases h : l < 91
    · rw [dif_pos h, dif_pos ⟨hq, h⟩]
      refine congrArg L (funext fun a => Fin.ext ?_)
      match a with
      | ⟨0, _⟩ => show (20000 * b.val + q) / 2000 / 10 = b.val; omega
      | ⟨1, _⟩ => show (20000 * b.val + q) / 2000 % 10 * 2000 + (20000 * b.val + q) % 2000 = q; omega
      | ⟨2, _⟩ => rfl
    · rw [dif_neg h, dif_neg fun h' => h h'.2]
      exact Slots.lowest_eq

/-- The maximum of a query's row is the greatest of its lanes. -/
theorem max_at : shapeCast S320000 (Maxima.maxima (F := Ideal) L) shapeCasts_S160x1x2000_S320000 (Spec.ix1 320000 (20000 * b.val + q))
    = Finset.fold max (⊥ : EReal) (fun l : Fin 91 => L (ix3 b (⟨q, hq⟩ : Fin 20000) l)) Finset.univ := by
  have hb := b.isLt
  have e : Spec.ix1 320000 (20000 * b.val + q) = ix1 (⟨20000 * b.val + q, by omega⟩ : Fin 320000) := by
    refine funext fun a => Fin.ext ?_
    match a with
    | ⟨0, _⟩ => exact Nat.mod_eq_of_lt (by omega)
  rw [e]
  refine (shapeCast_apply _ _ _ (ix3 (⟨(20000 * b.val + q) / 2000, by omega⟩ : Fin 160) (0 : Fin 1) (⟨(20000 * b.val + q) % 2000, by omega⟩ : Fin 2000)) ?_).trans ?_
  · rw [Shape.rowMajor_val_three, Shape.rowMajor_val_one]
    show ((20000 * b.val + q) / 2000 * 1 + 0) * 2000 + (20000 * b.val + q) % 2000 = 20000 * b.val + q
    omega
  · unfold Maxima.maxima k0_pay1
    refine (shapeCast_apply _ _ _ (ix2 (0 : Fin 1) (⟨(20000 * b.val + q) % 2000, by omega⟩ : Fin 2000)) ?_).trans ?_
    · rw [Shape.rowMajor_val_three, Shape.rowMajor_val_two]
      rfl
    · refine (Ideal.multiReduction_maximumf_single (φ := .f32) _ _ _ _ _ _).trans ?_
      have e1 : FloatOps.ofBits (F := Ideal) .f32 0xFF800000#32 = (⊥ : EReal) := Slots.lowest_eq
      refine congr_arg₂ (fun (x : EReal) (f : Fin 91 → EReal) => Finset.fold max x f (Finset.univ : Finset (Fin 91))) e1 (funext fun k => congrArg L (funext fun a => Fin.ext ?_))
      match a with
      | ⟨0, _⟩ => show (20000 * b.val + q) / 2000 / 10 = b.val; omega
      | ⟨1, _⟩ => show (20000 * b.val + q) / 2000 % 10 * 2000 + (20000 * b.val + q) % 2000 = q; omega
      | ⟨2, _⟩ => rfl

theorem reaches_iff {t : EReal} (ht : ⊥ < t) :
    t ≤ shapeCast S320000 (Maxima.maxima (F := Ideal) L) shapeCasts_S160x1x2000_S320000 (Spec.ix1 320000 (20000 * b.val + q))
      ↔ ∃ c, c < 91 ∧ t ≤ entry L b q c := by
  rw [max_at L b q hq, Finset.le_fold_max]
  constructor
  · rintro (h | ⟨l, _, h⟩)
    · exact absurd (ht.trans_le h) (lt_irrefl _)
    · exact ⟨l.val, l.isLt, by unfold entry; rw [dif_pos ⟨hq, l.isLt⟩]; exact h⟩
  · rintro ⟨c, hc, h⟩
    unfold entry at h
    rw [dif_pos ⟨hq, hc⟩] at h
    exact .inr ⟨⟨c, hc⟩, Finset.mem_univ _, h⟩

end Cert.Proof.Rows

end
-- ==== Proof.Algebraic.lean ====
/-
  The reference's frames, and that at the extended reals the kernel's results are the reference's, of every input that
  meets the precondition.
-/
module

public import proofs.«01_k».proof.Defs
public import proofs.«01_k».proof.Proof.Main
public import proofs.«01_k».proof.Proof.Rows

@[expose] public section

noncomputable section

namespace Cert.Proof.Algebraic

open Idealize.ShloMosaic hiding ix1 ix2 ix3 eq_ix1 eq_ix2
open Idealize.ShloMosaic.ValueIdx Idealize.SL.Sem Cert.KernelIdeal Cert.KernelIdeal.Gen Cert.Proof.Select

variable (m : (ℓ : Loc nD τ sig) → Buf (Elt Ideal) ℓ) (d : Dev nD)

abbrev aL : FVec Ideal S16x20000x91 .f32 := m (gL d)
abbrev aR : FVec Ideal S16x20000x4 .f32 := m (gR d)
abbrev aK : FVec Ideal S16x128 .f32 := m (gK d)

/-! ## The candidates, by image and slot -/

/-- The position a slot holds. -/
def spot (b : Fin 16) (s : Fin 512) : ℕ := Spec.flat (mX m d) (mQ m d) (mT m d) b.val (s.val / 256) (s.val % 256)

theorem spot_lt (b : Fin 16) (s : Fin 512) : spot m d b s < 2 ^ 31 :=
  lt_trans (Spec.flat_lt _ _ _ (by have := s.isLt; omega) _) (by norm_num)

theorem kV_at (b : Fin 16) (s : Fin 512) : kV m d (ix2 b s) = Spec.vals (mX m d) (mQ m d) (mT m d) b.val (s.val / 256) (s.val % 256) := by
  have hb := b.isLt
  have hs := s.isLt
  unfold kV
  refine (shapeCast_apply _ _ _ (ix1 (⟨512 * b.val + s.val, by omega⟩ : Fin 8192)) ?_).trans ?_
  · rw [Shape.rowMajor_val_two, Shape.rowMajor_val_one]
    show 512 * b.val + s.val = b.val * 512 + s.val
    omega
  · show Spec.vals _ _ _ ((512 * b.val + s.val) / 512) ((512 * b.val + s.val) / 256 % 2) ((512 * b.val + s.val) % 256) = _
    rw [show (512 * b.val + s.val) / 512 = b.val by omega, show (512 * b.val + s.val) / 256 % 2 = s.val / 256 by omega,
      show (512 * b.val + s.val) % 256 = s.val % 256 by omega]

theorem kF_at (b : Fin 16) (s : Fin 512) : kF m d (ix2 b s) = BitVec.ofNat 32 (spot m d b s) := by
  have hb := b.isLt
  have hs := s.isLt
  unfold kF spot
  refine (shapeCast_apply _ _ _ (ix1 (⟨512 * b.val + s.val, by omega⟩ : Fin 8192)) ?_).trans ?_
  · rw [Shape.rowMajor_val_two, Shape.rowMajor_val_one]
    show 512 * b.val + s.val = b.val * 512 + s.val
    omega
  · show BitVec.ofNat 32 (Spec.flat _ _ _ ((512 * b.val + s.val) / 512) ((512 * b.val + s.val) / 256 % 2) ((512 * b.val + s.val) % 256)) = _
    rw [show (512 * b.val + s.val) / 512 = b.val by omega, show (512 * b.val + s.val) / 256 % 2 = s.val / 256 by omega,
      show (512 * b.val + s.val) % 256 = s.val % 256 by omega]

/-- A plane of the boxes at a slot whose position lies in the array. -/
theorem kO_at (c : Fin 4) (b : Fin 16) (s : Fin 512) (q : Fin 20000) (hq : q.val = spot m d b s / 91) : kO m d (ix3 c b s) = aR m d (ix3 b q c) := by
  have hb := b.isLt
  have hs := s.isLt
  have hc := c.isLt
  have hql := q.isLt
  unfold kO
  refine (shapeCast_apply _ _ _ (ix1 (⟨8192 * c.val + 512 * b.val + s.val, by omega⟩ : Fin 32768)) ?_).trans ?_
  · rw [Shape.rowMajor_val_three, Shape.rowMajor_val_one]
    show 8192 * c.val + 512 * b.val + s.val = (c.val * 16 + b.val) * 512 + s.val
    omega
  · show Spec.box _ _ _ _ ((8192 * c.val + 512 * b.val + s.val) % 8192 / 512) ((8192 * c.val + 512 * b.val + s.val) / 256 % 2)
      ((8192 * c.val + 512 * b.val + s.val) / 8192) ((8192 * c.val + 512 * b.val + s.val) % 256) = _
    rw [show (8192 * c.val + 512 * b.val + s.val) % 8192 / 512 = b.val by omega, show (8192 * c.val + 512 * b.val + s.val) / 256 % 2 = s.val / 256 by omega,
      show (8192 * c.val + 512 * b.val + s.val) / 8192 = c.val by omega, show (8192 * c.val + 512 * b.val + s.val) % 256 = s.val % 256 by omega]
    unfold Spec.box Spec.boxOf
    rw [show Spec.flat (mX m d) (mQ m d) (mT m d) b.val (s.val / 256) (s.val % 256) / 91 = q.val from hq.symm, Nat.min_eq_left (by omega)]
    unfold mB
    refine shapeCast_apply _ _ _ _ ?_
    show (S16x20000x4.rowMajor (ix3 b q c)).val = _
    rw [Shape.rowMajor_val_three, Shape.rowMajor_val_one]
    show (b.val * 20000 + q.val) * 4 + c.val = (4 * (20000 * b.val + q.val) + c.val) % 1280000
    omega

theorem plane_of (c : Fin 4) (h₀ : S4x16x512.Slices ![c.val, 0, 0] S1x16x512) (b : Fin 16) (s : Fin 512) (q : Fin 20000) (hq : q.val = spot m d b s / 91) :
    shapeCast S16x512 (extractStridedSlice S1x16x512 ![c.val, 0, 0] (kO m d) h₀) shapeCasts_S1x16x512_S16x512 (ix2 b s) = aR m d (ix3 b q c) := by
  refine (shapeCast_apply _ _ _ (ix3 (0 : Fin 1) b s) ?_).trans ((extractStridedSlice_apply _ _ h₀ _ (ix3 c b s) fun a => ?_).trans (kO_at m d c b s q hq))
  · rw [Shape.rowMajor_val_three, Shape.rowMajor_val_two]
    show (0 * 16 + b.val) * 512 + s.val = b.val * 512 + s.val
    omega
  · match a with
    | ⟨0, _⟩ => rfl
    | ⟨1, _⟩ => exact (Nat.zero_add _).symm
    | ⟨2, _⟩ => exact (Nat.zero_add _).symm

/-! ## The slot of every place -/

theorem sigmoid_at (x : Vec Ideal S16x512 .f32) (y : S16x512.Idx) : k2_pay3 x y = Ideal.logistic (x y) := by
  unfold k2_pay3
  rw [RankVal.cast_self]
  rfl

section
variable (hp : Cert.Pre_fits.fn (F := Ideal) (m (gL d)) (m (gR d)) (m (gS d)) (m (gK d)) = fun _ => 1#1)

include hp

theorem fits (b : Fin 16) : Slots.Fits (mX m d) (mQ m d) (mT m d) b.val (Fits.entry (aL m d) b) (aK m d (ix2 b (0 : Fin 128))) := by
  obtain ⟨h1, h2, _⟩ := Fits.holds (aL m d) (aK m d) (aR m d) (m (gS d)) hp b
  have hpos : (⊥ : EReal) < aK m d (ix2 b (0 : Fin 128)) := by
    rw [bot_lt_iff_ne_bot]
    intro h
    have h3 := h2 0 (by norm_num)
    rw [Nat.count_of_forall (fun e _ => by unfold Slots.Hit; rw [h]; exact bot_le)] at h3
    exact absurd h3 (by norm_num)
  refine ⟨fun q l hq hl => Rows.row_at (aL m d) b q hq l hl, fun q l hl => ?_, fun q hq => Rows.reaches_iff (aL m d) b q hq hpos, fun l hl => ?_, hpos, h2⟩
  · unfold Fits.entry
    rw [dif_neg fun h => by omega]
  · have hb := b.isLt
    refine Eq.trans ?_ (h1 ⟨l, hl⟩)
    unfold mT
    refine shapeCast_apply _ _ _ _ ?_
    show (S16x128.rowMajor (ix2 b (⟨l, by omega⟩ : Fin 128))).val = _
    rw [Shape.rowMajor_val_two, Shape.rowMajor_val_one]
    show b.val * 128 + l = (128 * b.val + l) % 2048
    omega

theorem slot_at (b : Fin 16) (k : Fin 300) : ∃ s : Fin 512, spot m d b s = (RefVal.best (aL m d) b k).val
    ∧ k2_pay3 (kV m d) (ix2 b s) = RefVal.key (aL m d) b (RefVal.best (aL m d) b k)
    ∧ ∀ j, RankVal.place (k2_pay3 (kV m d)) (spot m d) b j = k.val ↔ j = s := by
  have hV : ∀ j : Fin 512, k2_pay3 (kV m d) (ix2 b j) = Ideal.logistic (Spec.vals (mX m d) (mQ m d) (mT m d) b.val (j.val / 256) (j.val % 256)) := fun j => by
    rw [sigmoid_at, kV_at]
  obtain ⟨s, h1, h2, h3⟩ := Slots.slot_of (fits m d hp b) (Fits.holds (aL m d) (aK m d) (aR m d) (m (gS d)) hp b).2.2 (RefVal.key (aL m d) b) (fun e => by
    have he := e.isLt
    unfold RefVal.key Fits.entry
    rw [dif_pos ⟨by omega, Nat.mod_lt _ (by norm_num)⟩]) ⟨k.val, by omega⟩ k.isLt
  refine ⟨s, h1, (hV s).trans h2, fun j => ?_⟩
  rw [← h3 j]
  unfold RankVal.place
  rw [show (fun j => k2_pay3 (kV m d) (ix2 b j)) = _ from funext hV]
  rfl

/-! ## The results -/

theorem labels_eq : rLab m d = Host.remsi (RefVal.found (aL m d)).2 (broadcastInDim ReferenceIdeal.S16x300 ![] ReferenceIdeal.Gen.bcast_S_S16x300 (constantI ReferenceIdeal.S_ 32 91#32)) := by
  funext y
  obtain ⟨b, k, rfl⟩ : ∃ (b : Fin 16) (k : Fin 300), y = ix2 b k := ⟨y 0, y 1, eq_ix2 y⟩
  obtain ⟨s, h1, h2, h3⟩ := slot_at m d hp b k
  have hb := (RefVal.best (aL m d) b k).isLt
  refine (RankVal.labels_at (k2_pay3 (kV m d)) (kF m d) (spot m d) (kF_at m d) (spot_lt m d) (kV m d) (kF m d) rfl (RankVal.cast_self _ _) b k s h3).trans ?_
  show _ = IntOp.remsi .host ((RefVal.found (aL m d)).2 (ix2 b k)) 91#32
  rw [h1, (RefVal.found_at (aL m d) b k).2, RefOps.srem_91 _ (by omega)]

theorem scores_eq : rSco m d = (RefVal.found (aL m d)).1 := by
  funext y
  obtain ⟨b, k, rfl⟩ : ∃ (b : Fin 16) (k : Fin 300), y = ix2 b k := ⟨y 0, y 1, eq_ix2 y⟩
  obtain ⟨s, h1, h2, h3⟩ := slot_at m d hp b k
  refine (RankVal.scores_at (k2_pay3 (kV m d)) (kF m d) (spot m d) (kF_at m d) (spot_lt m d) (kV m d) (kF m d) rfl (RankVal.cast_self _ _) b k s h3).trans ?_
  rw [h2, (RefVal.found_at (aL m d) b k).1]

end

/-- One column of the sizes, along the slots. -/
theorem size_along (c : ℕ) (hc : c < 2) (x : FVec Ideal S16x2 .f32) (h : S16x2.ShapeCasts S16x2) (h₀ : S16x2.Slices ![0, c] S16x1) (b : Fin 16) (s : Fin 512) :
    broadcastTo S16x512 (extractStridedSlice S16x1 ![0, c] (shapeCast S16x2 x h) h₀) broadcasts_S16x1_S16x512 (ix2 b s) = x (ix2 b ⟨c, hc⟩) := by
  rw [RankVal.cast_self]
  refine (broadcastTo_apply _ _ _ (ix2 b (0 : Fin 1)) fun a => ?_).trans (extractStridedSlice_apply _ _ h₀ _ _ fun a => ?_)
  · match a with
    | ⟨0, _⟩ => rfl
    | ⟨1, _⟩ => rfl
  · match a with
    | ⟨0, _⟩ => exact (Nat.zero_add _).symm
    | ⟨1, _⟩ => rfl

section
variable (x w : Vec Ideal S16x512 .f32) (z : Vec Ideal S16x2 .f32) (b : Fin 16) (s : Fin 512)

theorem left_at : Rank.left (F := Ideal) x w z (ix2 b s) = (x (ix2 b s) - RefVal.half * w (ix2 b s)) * z (ix2 b (0 : Fin 2)) := by
  unfold Rank.left k2_pay22 k2_pay21 k2_pay19 k2_pay17 k2_pay15
  rw [RankVal.cast_self x, RankVal.cast_self w]
  exact congrArg (fun t : EReal => (x (ix2 b s) - RefVal.half * w (ix2 b s)) * t) (size_along 0 (by norm_num) z _ _ b s)

theorem top_at : Rank.top (F := Ideal) x w z (ix2 b s) = (x (ix2 b s) - RefVal.half * w (ix2 b s)) * z (ix2 b (1 : Fin 2)) := by
  unfold Rank.top k2_pay23 k2_pay20 k2_pay18 k2_pay16
  rw [RankVal.cast_self x, RankVal.cast_self w]
  exact congrArg (fun t : EReal => (x (ix2 b s) - RefVal.half * w (ix2 b s)) * t) (size_along 1 (by norm_num) z _ _ b s)

theorem right_at : Rank.right (F := Ideal) x w z (ix2 b s) = (x (ix2 b s) + RefVal.half * w (ix2 b s)) * z (ix2 b (0 : Fin 2)) := by
  unfold Rank.right k2_pay24 k2_pay19 k2_pay17 k2_pay15
  rw [RankVal.cast_self x, RankVal.cast_self w]
  exact congrArg (fun t : EReal => (x (ix2 b s) + RefVal.half * w (ix2 b s)) * t) (size_along 0 (by norm_num) z _ _ b s)

theorem bottom_at : Rank.bottom (F := Ideal) x w z (ix2 b s) = (x (ix2 b s) + RefVal.half * w (ix2 b s)) * z (ix2 b (1 : Fin 2)) := by
  unfold Rank.bottom k2_pay25 k2_pay20 k2_pay18 k2_pay16
  rw [RankVal.cast_self x, RankVal.cast_self w]
  exact congrArg (fun t : EReal => (x (ix2 b s) + RefVal.half * w (ix2 b s)) * t) (size_along 1 (by norm_num) z _ _ b s)

end

theorem column_at (x : Vec Ideal S16x300 .f32) (b : Fin 16) (k : Fin 300) : column (F := Ideal) x (ix3 b k (0 : Fin 1)) = x (ix2 b k) := by
  unfold column
  refine broadcastInDim_apply _ _ _ _ (ix2 b k) fun a => ?_
  match a with
  | ⟨0, _⟩ => rfl
  | ⟨1, _⟩ => rfl

/-- Four columns side by side along the last axis. -/
theorem stack_at (x : Fin 4 → Vec Ideal S16x300x1 .f32) (h : Shape.Concatenates [S16x300x1, S16x300x1, S16x300x1, S16x300x1] S16x300x4 2)
    (b : Fin 16) (k : Fin 300) (c : Fin 4) :
    concatenate S16x300x4 2 [⟨S16x300x1, x 0⟩, ⟨S16x300x1, x 1⟩, ⟨S16x300x1, x 2⟩, ⟨S16x300x1, x 3⟩] h (ix3 b k c) = x c (ix3 b k (0 : Fin 1)) := by
  match c with
  | ⟨0, _⟩ =>
    refine concatenate_apply_piece (t := S16x300x4) (2 : Fin 3) _ _ _ 0 ?_ S16x300x1 (x 0) ?_ rfl 0 ?_ (ix3 b k (0 : Fin 1)) (fun a ha => ?_) ?_
    · simp
    · rfl
    · rfl
    · match a with
      | ⟨0, _⟩ => rfl
      | ⟨1, _⟩ => rfl
      | ⟨2, _⟩ => exact absurd rfl ha
    · rfl
  | ⟨1, _⟩ =>
    refine concatenate_apply_piece (t := S16x300x4) (2 : Fin 3) _ _ _ 1 ?_ S16x300x1 (x 1) ?_ rfl 1 ?_ (ix3 b k (0 : Fin 1)) (fun a ha => ?_) ?_
    · simp
    · rfl
    · rfl
    · match a with
      | ⟨0, _⟩ => rfl
      | ⟨1, _⟩ => rfl
      | ⟨2, _⟩ => exact absurd rfl ha
    · rfl
  | ⟨2, _⟩ =>
    refine concatenate_apply_piece (t := S16x300x4) (2 : Fin 3) _ _ _ 2 ?_ S16x300x1 (x 2) ?_ rfl 2 ?_ (ix3 b k (0 : Fin 1)) (fun a ha => ?_) ?_
    · simp
    · rfl
    · rfl
    · match a with
      | ⟨0, _⟩ => rfl
      | ⟨1, _⟩ => rfl
      | ⟨2, _⟩ => exact absurd rfl ha
    · rfl
  | ⟨3, _⟩ =>
    refine concatenate_apply_piece (t := S16x300x4) (2 : Fin 3) _ _ _ 3 ?_ S16x300x1 (x 3) ?_ rfl 3 ?_ (ix3 b k (0 : Fin 1)) (fun a ha => ?_) ?_
    · simp
    · rfl
    · rfl
    · match a with
      | ⟨0, _⟩ => rfl
      | ⟨1, _⟩ => rfl
      | ⟨2, _⟩ => exact absurd rfl ha
    · rfl

/-- The four coordinates' columns. -/
def sides : Fin 4 → Vec Ideal S16x300x1 .f32
  | 0 => column (rX0 m d)
  | 1 => column (rY0 m d)
  | 2 => column (rX1 m d)
  | 3 => column (rY1 m d)

theorem rBox_at (b : Fin 16) (k : Fin 300) (c : Fin 4) : rBox m d (ix3 b k c) = sides m d c (ix3 b k (0 : Fin 1)) := stack_at (sides m d) _ b k c

theorem boxes_eq (hp : Cert.Pre_fits.fn (F := Ideal) (m (gL d)) (m (gR d)) (m (gS d)) (m (gK d)) = fun _ => 1#1) :
    rBox m d = RefVal.boxes (aL m d) (aR m d) (kZ m d) := by
  funext y
  obtain ⟨b, k, c, rfl⟩ : ∃ (b : Fin 16) (k : Fin 300) (c : Fin 4), y = ix3 b k c := ⟨y 0, y 1, y 2, ValueIdx.eq_ix3 y⟩
  obtain ⟨s, h1, h2, h3⟩ := slot_at m d hp b k
  have hb := (RefVal.best (aL m d) b k).isLt
  obtain ⟨q, hq⟩ : ∃ q : Fin 20000, q.val = (RefVal.best (aL m d) b k).val / 91 := ⟨⟨_, by omega⟩, rfl⟩
  have hs : q.val = spot m d b s / 91 := by rw [h1]; exact hq
  obtain ⟨e0, e1, e2, e3⟩ := RefVal.box_at (aL m d) (aR m d) (kZ m d) b k q hq
  have hP := fun p => RankVal.plane_at (k2_pay3 (kV m d)) (kF m d) (spot m d) (kF_at m d) (spot_lt m d) (kV m d) (kF m d) rfl (RankVal.cast_self _ _) b k s h3 p
  have hX : kCx m d (ix2 b s) = aR m d (ix3 b q (0 : Fin 4)) := plane_of m d 0 _ b s q hs
  have hY : kCy m d (ix2 b s) = aR m d (ix3 b q (1 : Fin 4)) := plane_of m d 1 _ b s q hs
  have hW : kW m d (ix2 b s) = aR m d (ix3 b q (2 : Fin 4)) := plane_of m d 2 _ b s q hs
  have hH : kH m d (ix2 b s) = aR m d (ix3 b q (3 : Fin 4)) := plane_of m d 3 _ b s q hs
  rw [rBox_at]
  match c with
  | ⟨0, _⟩ =>
    refine ((column_at _ b k).trans ((hP _).trans ((left_at _ _ _ b s).trans ?_))).trans e0.symm
    rw [hX, hW]
  | ⟨1, _⟩ =>
    refine ((column_at _ b k).trans ((hP _).trans ((top_at _ _ _ b s).trans ?_))).trans e1.symm
    rw [hY, hH]
  | ⟨2, _⟩ =>
    refine ((column_at _ b k).trans ((hP _).trans ((right_at _ _ _ b s).trans ?_))).trans e2.symm
    rw [hX, hW]
  | ⟨3, _⟩ =>
    refine ((column_at _ b k).trans ((hP _).trans ((bottom_at _ _ _ b s).trans ?_))).trans e3.symm
    rw [hY, hH]

/-! ## The claims -/

/-- The reference's frames: it declares no semaphore. -/
theorem frame_reference : Cert.quiescent_ReferenceIdeal := fun m ρ _ =>
  (θ_run ReferenceIdeal.defs _ _).mono (fun r h => ⟨fun c => (h c).2.2.2, sem_eq_zero_of_no_sems (by decide) r.2⟩)
    (ReferenceIdeal.Value.run (F := Ideal) m ρ)

theorem frame_reference_fits : Cert.quiescent_ReferenceIdeal_pre_fits := fun m ρ _ =>
  (θ_run ReferenceIdeal.defs _ _).mono (fun r h => ⟨fun c => (h c).2.2.2, sem_eq_zero_of_no_sems (by decide) r.2⟩)
    (ReferenceIdeal.Value.run (F := Ideal) m ρ)

theorem boxes_res (m' : (ℓ : Loc ReferenceIdeal.nD ReferenceIdeal.τ ReferenceIdeal.sig) → Buf (Elt Ideal) ℓ) (c : Dev ReferenceIdeal.nD) :
    ReferenceIdeal.Value.res_main_v65 m' c = RefVal.boxes (m' ((c.tc : Thread ReferenceIdeal.nD ReferenceIdeal.τ).loc ReferenceIdeal.main_arg0))
      (m' ((c.tc : Thread ReferenceIdeal.nD ReferenceIdeal.τ).loc ReferenceIdeal.main_arg1))
      (sitofp .f32 (m' ((c.tc : Thread ReferenceIdeal.nD ReferenceIdeal.τ).loc ReferenceIdeal.main_arg2) : IVec S16x2 32)) := by
  unfold ReferenceIdeal.Value.res_main_v65
  rfl

/-- At the extended reals the kernel ends at the reference's results. -/
theorem algebraic : Cert.algebraic_KernelIdeal_ReferenceIdeal := fun m ρ m' ρ' pre ag =>
  ⟨fun d => rLab m d, fun d => rBox m d, fun d => rSco m d,
    (θ_run KernelIdeal.defs _ _).mono (fun r h d => ⟨(h.1 d).2.1, (h.1 d).2.2.1, (h.1 d).2.2.2, (h.1 d).1⟩) (Select.run_main (F := Ideal) m ρ),
    (θ_run ReferenceIdeal.defs _ _).mono (fun r h d => by
      obtain ⟨e0, e1, e2, ek⟩ := h d
      obtain ⟨hL, hR, hS, _⟩ := ag d
      refine ⟨e0.trans (Eq.trans ?_ (labels_eq m d (pre d)).symm), e1.trans ((boxes_res m' d).trans (Eq.trans ?_ (boxes_eq m d (pre d)).symm)),
        e2.trans (Eq.trans ?_ (scores_eq m d (pre d)).symm), ek⟩
      · exact congrArg (fun L => Host.remsi (RefVal.found L).2 (broadcastInDim ReferenceIdeal.S16x300 ![] ReferenceIdeal.Gen.bcast_S_S16x300 (constantI ReferenceIdeal.S_ 32 91#32))) hL
      · rw [hL, hR, hS]
        rfl
      · exact congrArg (fun L => (RefVal.found L).1) hL) (ReferenceIdeal.Value.run (F := Ideal) m' ρ')⟩

end Cert.Proof.Algebraic

end
-- ==== Proof.lean ====
/-
  The claims, put together from the parts under Proof/.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Main
public import proofs.«01_k».proof.Proof.Same
public import proofs.«01_k».proof.Proof.Fits
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Fits.facts,
  Select.frame_kernel, Select.frame_kernel_free, Select.frame_ideal, Select.frame_ideal_free, Algebraic.frame_reference,
  Algebraic.frame_reference_fits, trivial, Algebraic.algebraic⟩

end Cert.Proof

end
